-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v22)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v22) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v48) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
-- ==== Kernel.lean ====
abbrev S1x64 : Shape := ⟨2, ![1, 64]⟩
abbrev S1x128 : Shape := ⟨2, ![1, 128]⟩
abbrev S2x8192x4x2x64 : Shape := ⟨5, ![2, 8192, 4, 2, 64]⟩
abbrev S2x8192x4x128 : Shape := ⟨4, ![2, 8192, 4, 128]⟩
abbrev S2x8192x512 : Shape := ⟨3, ![2, 8192, 512]⟩
abbrev S2x512x8192 : Shape := ⟨3, ![2, 512, 8192]⟩
abbrev S_ : Shape := ⟨0, ![]⟩
abbrev S2x16x512x512 : Shape := ⟨4, ![2, 16, 512, 512]⟩
abbrev S1x128x1024 : Shape := ⟨3, ![1, 128, 1024]⟩
abbrev S1x8192x128 : Shape := ⟨3, ![1, 8192, 128]⟩
abbrev S1x16x128x512 : Shape := ⟨4, ![1, 16, 128, 512]⟩
abbrev S1x1024x128 : Shape := ⟨3, ![1, 1024, 128]⟩
abbrev S8x520x128 : Shape := ⟨3, ![8, 520, 128]⟩
abbrev S144x1024 : Shape := ⟨2, ![144, 1024]⟩
abbrev S4x1024 : Shape := ⟨2, ![4, 1024]⟩
abbrev S128x1024 : Shape := ⟨2, ![128, 1024]⟩
abbrev S16x512 : Shape := ⟨2, ![16, 512]⟩
abbrev S1x512x128 : Shape := ⟨3, ![1, 512, 128]⟩
abbrev S512x128 : Shape := ⟨2, ![512, 128]⟩
abbrev S512x1024 : Shape := ⟨2, ![512, 1024]⟩
abbrev S1024 : Shape := ⟨1, ![1024]⟩
abbrev S1x1024 : Shape := ⟨2, ![1, 1024]⟩
abbrev S2x1024 : Shape := ⟨2, ![2, 1024]⟩
abbrev S1x1x128x512 : Shape := ⟨4, ![1, 1, 128, 512]⟩
abbrev S128x512 : Shape := ⟨2, ![128, 512]⟩
abbrev S144x512 : Shape := ⟨2, ![144, 512]⟩
abbrev S512x512 : Shape := ⟨2, ![512, 512]⟩
abbrev S1x512 : Shape := ⟨2, ![1, 512]⟩
abbrev S512 : Shape := ⟨1, ![512]⟩
abbrev S1 : Shape := ⟨1, ![1]⟩
abbrev S1x1 : Shape := ⟨2, ![1, 1]⟩
abbrev S1024x128 : Shape := ⟨2, ![1024, 128]⟩

abbrev nBuf : Space → Nat
  | .hbm => 24
  | .vmem => 22
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x128, .f32⟩
  | .hbm, ⟨5, _⟩ => ⟨S2x8192x4x2x64, .f32⟩
  | .hbm, ⟨6, _⟩ => ⟨S2x8192x4x2x64, .f32⟩
  | .hbm, ⟨7, _⟩ => ⟨S2x8192x4x128, .f32⟩
  | .hbm, ⟨8, _⟩ => ⟨S2x8192x512, .f32⟩
  | .hbm, ⟨9, _⟩ => ⟨S2x512x8192, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S2x512x8192, .f32⟩
  | .hbm, ⟨16, _⟩ => ⟨S2x512x8192, .f32⟩
  | .hbm, ⟨17, _⟩ => ⟨S2x512x8192, .bf16⟩
  | .hbm, ⟨18, _⟩ => ⟨S2x8192x512, .f32⟩
  | .hbm, ⟨19, _⟩ => ⟨S2x8192x512, .bf16⟩
  | .hbm, ⟨20, _⟩ => ⟨S2x16x512x512, .f32⟩
  | .hbm, ⟨21, _⟩ => ⟨S2x16x512x512, .f32⟩
  | .hbm, ⟨22, _⟩ => ⟨S2x16x512x512, .bf16⟩
  | .hbm, ⟨23, _⟩ => ⟨S2x8192x512, .bf16⟩
  | .local _ .vmem, ⟨0, _⟩ => ⟨S1x64, .f32⟩
  | .local _ .vmem, ⟨1, _⟩ => ⟨S1x64, .f32⟩
  | .local _ .vmem, ⟨2, _⟩ => ⟨S1x64, .f32⟩
  | .local _ .vmem, ⟨3, _⟩ => ⟨S1x64, .f32⟩
  | .local _ .vmem, ⟨4, _⟩ => ⟨S1x128, .f32⟩
  | .local _ .vmem, ⟨5, _⟩ => ⟨S1x128x1024, .bf16⟩
  | .local _ .vmem, ⟨6, _⟩ => ⟨S1x128x1024, .bf16⟩
  | .local _ .vmem, ⟨7, _⟩ => ⟨S1x128x1024, .bf16⟩
  | .local _ .vmem, ⟨8, _⟩ => ⟨S1x128x1024, .bf16⟩
  | .local _ .vmem, ⟨9, _⟩ => ⟨S1x8192x128, .bf16⟩
  | .local _ .vmem, ⟨10, _⟩ => ⟨S1x8192x128, .bf16⟩
  | .local _ .vmem, ⟨11, _⟩ => ⟨S1x16x128x512, .bf16⟩
  | .local _ .vmem, ⟨12, _⟩ => ⟨S1x16x128x512, .bf16⟩
  | .local _ .vmem, ⟨13, _⟩ => ⟨S1x1024x128, .bf16⟩
  | .local _ .vmem, ⟨14, _⟩ => ⟨S1x1024x128, .bf16⟩
  | .local _ .vmem, ⟨15, _⟩ => ⟨S8x520x128, .f32⟩
  | .local _ .vmem, ⟨16, _⟩ => ⟨S8x520x128, .f32⟩
  | .local _ .vmem, ⟨17, _⟩ => ⟨S8x520x128, .f32⟩
  | .local _ .vmem, ⟨18, _⟩ => ⟨S8x520x128, .f32⟩
  | .local _ .vmem, ⟨19, _⟩ => ⟨S144x1024, .f32⟩
  | .local _ .vmem, ⟨20, _⟩ => ⟨S144x1024, .f32⟩
  | .local _ .vmem, ⟨21, _⟩ => ⟨S4x1024, .f32⟩
  | _, _ => ⟨S1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨3, ![2, 4, 8], ![false, false, false]⟩

def k0_cond1 (i : grid0.Coords) : BitVec 1 :=
  let arg2 : BitVec 32 := BitVec.ofNat 32 (i 2).val
  let c0_i32 : BitVec 32 := 0#32
  let v42 : BitVec 1 := Scalar.cmpi .eq arg2 c0_i32
  let v43 : BitVec 32 := Scalar.extui v42
  let c0_i32_24 : BitVec 32 := 0#32
  let v44 : BitVec 1 := Scalar.cmpi .ne v43 c0_i32_24
  v44

def k0_mult1 : BitVec 32 :=
  let c0_i32_88 : BitVec 32 := 0#32
  c0_i32_88
def k0_mult2 : BitVec 32 :=
  let c512_i32 : BitVec 32 := 512#32
  c512_i32
def k0_mult3 : BitVec 32 :=
  let c0_i32_147 : BitVec 32 := 0#32
  c0_i32_147
def k0_mult4 : BitVec 32 :=
  let c512_i32_180 : BitVec 32 := 512#32
  c512_i32_180
@[reducible] def k0_t1_loop (i : grid0.Coords) : Scf.Loop 32 :=
  let c0_i32_48 : BitVec 32 := 0#32
  let arg2 : BitVec 32 := BitVec.ofNat 32 (i 2).val
  let c1_i32 : BitVec 32 := 1#32
  let v45 : BitVec 32 := Scalar.subi arg2 c1_i32
  let c0_i32_25 : BitVec 32 := 0#32
  let v46 : BitVec 32 := Scalar.maxsi v45 c0_i32_25
  let v65 : BitVec 32 := Scalar.subi v46 c0_i32_48
  let c1_i32_49 : BitVec 32 := 1#32
  let v67 : BitVec 32 := Scalar.divsi v65 c1_i32_49
  let v68 : BitVec 32 := Scalar.muli v67 c1_i32_49
  let v69 : BitVec 32 := Scalar.addi c0_i32_48 v68
  let c1_i32_50 : BitVec 32 := 1#32
  ⟨c0_i32_48, v69, c1_i32_50⟩
def k0_mult5 (i : grid0.Coords) (k0_t1 : Fin (k0_t1_loop i).trips) : BitVec 32 :=
  let c2_i32_88 : BitVec 32 := 2#32
  let c0_i32_48 : BitVec 32 := 0#32
  let c1_i32_50 : BitVec 32 := 1#32
  let arg20 : BitVec 32 := Scf.iv c0_i32_48 c1_i32_50 k0_t1
  let v132 : BitVec 32 := Scalar.muli c2_i32_88 arg20
  let c2_i32_107 : BitVec 32 := 2#32
  let v157 : BitVec 32 := Scalar.addi v132 c2_i32_107
  let c0_i32_108 : BitVec 32 := 0#32
  let v158 : BitVec 32 := Scalar.addi v157 c0_i32_108
  let c512_i32 : BitVec 32 := 512#32
  let v159 : BitVec 32 := Scalar.muli v158 c512_i32
  v159
def k0_off1 (i : grid0.Coords) (k0_t1 : Fin (k0_t1_loop i).trips) (c0_i32_108 : BitVec 32) : Fin 3 → Nat :=
  let c0_109 : Index := 0#32
  let c2_i32_88 : BitVec 32 := 2#32
  let c0_i32_48 : BitVec 32 := 0#32
  let c1_i32_50 : BitVec 32 := 1#32
  let arg20 : BitVec 32 := Scf.iv c0_i32_48 c1_i32_50 k0_t1
  let v132 : BitVec 32 := Scalar.muli c2_i32_88 arg20
  let c2_i32_107 : BitVec 32 := 2#32
  let v157 : BitVec 32 := Scalar.addi v132 c2_i32_107
  let v158 : BitVec 32 := Scalar.addi v157 c0_i32_108
  let c512_i32 : BitVec 32 := 512#32
  let v159 : BitVec 32 := Scalar.muli v158 c512_i32
  let v160 : BitVec 32 := v159
  let v161 : Index := Scalar.indexCast v160
  let c0_110 : Index := 0#32
  ![0, v161.toNat, 0]
def k0_off2 (i : grid0.Coords) (k0_t1 : Fin (k0_t1_loop i).trips) (c0_i32_139 : BitVec 32) : Fin 4 → Nat :=
  let c0_140 : Index := 0#32
  let c2_i32_88 : BitVec 32 := 2#32
  let c0_i32_48 : BitVec 32 := 0#32
  let c1_i32_50 : BitVec 32 := 1#32
  let arg20 : BitVec 32 := Scf.iv c0_i32_48 c1_i32_50 k0_t1
  let v132 : BitVec 32 := Scalar.muli c2_i32_88 arg20
  let v202 : BitVec 32 := Scalar.addi v132 c0_i32_139
  let v203 : Index := Scalar.indexCast v202
  let c0_141 : Index := 0#32
  let c0_142 : Index := 0#32
  ![0, v203.toNat, 0, 0]
def k0_mult6 (i : grid0.Coords) (k0_t1 : Fin (k0_t1_loop i).trips) : BitVec 32 :=
  let c2_i32_88 : BitVec 32 := 2#32
  let c0_i32_48 : BitVec 32 := 0#32
  let c1_i32_50 : BitVec 32 := 1#32
  let arg20 : BitVec 32 := Scf.iv c0_i32_48 c1_i32_50 k0_t1
  let v132 : BitVec 32 := Scalar.muli c2_i32_88 arg20
  let c2_i32_170 : BitVec 32 := 2#32
  let v236 : BitVec 32 := Scalar.addi v132 c2_i32_170
  let c1_i32_171 : BitVec 32 := 1#32
  let v237 : BitVec 32 := Scalar.addi v236 c1_i32_171
  let c512_i32_172 : BitVec 32 := 512#32
  let v238 : BitVec 32 := Scalar.muli v237 c512_i32_172
  v238
def k0_mult7 (i : grid0.Coords) (k0_t1 : Fin (k0_t1_loop i).trips) : BitVec 32 :=
  let c2_i32_210 : BitVec 32 := 2#32
  let c0_i32_48 : BitVec 32 := 0#32
  let c1_i32_50 : BitVec 32 := 1#32
  let arg20 : BitVec 32 := Scf.iv c0_i32_48 c1_i32_50 k0_t1
  let v291 : BitVec 32 := Scalar.muli c2_i32_210 arg20
  let c2_i32_235 : BitVec 32 := 2#32
  let v316 : BitVec 32 := Scalar.addi v291 c2_i32_235
  let c0_i32_236 : BitVec 32 := 0#32
  let v317 : BitVec 32 := Scalar.addi v316 c0_i32_236
  let c512_i32_237 : BitVec 32 := 512#32
  let v318 : BitVec 32 := Scalar.muli v317 c512_i32_237
  v318
def k0_mult8 (i : grid0.Coords) (k0_t1 : Fin (k0_t1_loop i).trips) : BitVec 32 :=
  let c2_i32_210 : BitVec 32 := 2#32
  let c0_i32_48 : BitVec 32 := 0#32
  let c1_i32_50 : BitVec 32 := 1#32
  let arg20 : BitVec 32 := Scf.iv c0_i32_48 c1_i32_50 k0_t1
  let v291 : BitVec 32 := Scalar.muli c2_i32_210 arg20
  let c2_i32_299 : BitVec 32 := 2#32
  let v395 : BitVec 32 := Scalar.addi v291 c2_i32_299
  let c1_i32_300 : BitVec 32 := 1#32
  let v396 : BitVec 32 := Scalar.addi v395 c1_i32_300
  let c512_i32_301 : BitVec 32 := 512#32
  let v397 : BitVec 32 := Scalar.muli v396 c512_i32_301
  v397
@[reducible] def k0_t2_loop (i : grid0.Coords) : Scf.Loop 32 :=
  let c0_i32_48 : BitVec 32 := 0#32
  let arg2 : BitVec 32 := BitVec.ofNat 32 (i 2).val
  let c1_i32 : BitVec 32 := 1#32
  let v45 : BitVec 32 := Scalar.subi arg2 c1_i32
  let c0_i32_25 : BitVec 32 := 0#32
  let v46 : BitVec 32 := Scalar.maxsi v45 c0_i32_25
  let v65 : BitVec 32 := Scalar.subi v46 c0_i32_48
  let c1_i32_49 : BitVec 32 := 1#32
  let v67 : BitVec 32 := Scalar.divsi v65 c1_i32_49
  let v68 : BitVec 32 := Scalar.muli v67 c1_i32_49
  let v69 : BitVec 32 := Scalar.addi c0_i32_48 v68
  let v66 : BitVec 32 := Scalar.addi c0_i32_48 v65
  let c1_i32_51 : BitVec 32 := 1#32
  ⟨v69, v66, c1_i32_51⟩
def k0_mult9 (i : grid0.Coords) (k0_t2 : Fin (k0_t2_loop i).trips) : BitVec 32 :=
  let c2_i32_88 : BitVec 32 := 2#32
  let c0_i32_48 : BitVec 32 := 0#32
  let arg2 : BitVec 32 := BitVec.ofNat 32 (i 2).val
  let c1_i32 : BitVec 32 := 1#32
  let v45 : BitVec 32 := Scalar.subi arg2 c1_i32
  let c0_i32_25 : BitVec 32 := 0#32
  let v46 : BitVec 32 := Scalar.maxsi v45 c0_i32_25
  let v65 : BitVec 32 := Scalar.subi v46 c0_i32_48
  let c1_i32_49 : BitVec 32 := 1#32
  let v67 : BitVec 32 := Scalar.divsi v65 c1_i32_49
  let v68 : BitVec 32 := Scalar.muli v67 c1_i32_49
  let v69 : BitVec 32 := Scalar.addi c0_i32_48 v68
  let c1_i32_51 : BitVec 32 := 1#32
  let arg20 : BitVec 32 := Scf.iv v69 c1_i32_51 k0_t2
  let v132 : BitVec 32 := Scalar.muli c2_i32_88 arg20
  let c2_i32_107 : BitVec 32 := 2#32
  let v157 : BitVec 32 := Scalar.addi v132 c2_i32_107
  let c0_i32_108 : BitVec 32 := 0#32
  let v158 : BitVec 32 := Scalar.addi v157 c0_i32_108
  let c512_i32 : BitVec 32 := 512#32
  let v159 : BitVec 32 := Scalar.muli v158 c512_i32
  v159
def k0_off3 (i : grid0.Coords) (k0_t2 : Fin (k0_t2_loop i).trips) (c0_i32_108 : BitVec 32) : Fin 3 → Nat :=
  let c0_109 : Index := 0#32
  let c2_i32_88 : BitVec 32 := 2#32
  let c0_i32_48 : BitVec 32 := 0#32
  let arg2 : BitVec 32 := BitVec.ofNat 32 (i 2).val
  let c1_i32 : BitVec 32 := 1#32
  let v45 : BitVec 32 := Scalar.subi arg2 c1_i32
  let c0_i32_25 : BitVec 32 := 0#32
  let v46 : BitVec 32 := Scalar.maxsi v45 c0_i32_25
  let v65 : BitVec 32 := Scalar.subi v46 c0_i32_48
  let c1_i32_49 : BitVec 32 := 1#32
  let v67 : BitVec 32 := Scalar.divsi v65 c1_i32_49
  let v68 : BitVec 32 := Scalar.muli v67 c1_i32_49
  let v69 : BitVec 32 := Scalar.addi c0_i32_48 v68
  let c1_i32_51 : BitVec 32 := 1#32
  let arg20 : BitVec 32 := Scf.iv v69 c1_i32_51 k0_t2
  let v132 : BitVec 32 := Scalar.muli c2_i32_88 arg20
  let c2_i32_107 : BitVec 32 := 2#32
  let v157 : BitVec 32 := Scalar.addi v132 c2_i32_107
  let v158 : BitVec 32 := Scalar.addi v157 c0_i32_108
  let c512_i32 : BitVec 32 := 512#32
  let v159 : BitVec 32 := Scalar.muli v158 c512_i32
  let v160 : BitVec 32 := v159
  let v161 : Index := Scalar.indexCast v160
  let c0_110 : Index := 0#32
  ![0, v161.toNat, 0]
def k0_off4 (i : grid0.Coords) (k0_t2 : Fin (k0_t2_loop i).trips) (c0_i32_139 : BitVec 32) : Fin 4 → Nat :=
  let c0_140 : Index := 0#32
  let c2_i32_88 : BitVec 32 := 2#32
  let c0_i32_48 : BitVec 32 := 0#32
  let arg2 : BitVec 32 := BitVec.ofNat 32 (i 2).val
  let c1_i32 : BitVec 32 := 1#32
  let v45 : BitVec 32 := Scalar.subi arg2 c1_i32
  let c0_i32_25 : BitVec 32 := 0#32
  let v46 : BitVec 32 := Scalar.maxsi v45 c0_i32_25
  let v65 : BitVec 32 := Scalar.subi v46 c0_i32_48
  let c1_i32_49 : BitVec 32 := 1#32
  let v67 : BitVec 32 := Scalar.divsi v65 c1_i32_49
  let v68 : BitVec 32 := Scalar.muli v67 c1_i32_49
  let v69 : BitVec 32 := Scalar.addi c0_i32_48 v68
  let c1_i32_51 : BitVec 32 := 1#32
  let arg20 : BitVec 32 := Scf.iv v69 c1_i32_51 k0_t2
  let v132 : BitVec 32 := Scalar.muli c2_i32_88 arg20
  let v202 : BitVec 32 := Scalar.addi v132 c0_i32_139
  let v203 : Index := Scalar.indexCast v202
  let c0_141 : Index := 0#32
  let c0_142 : Index := 0#32
  ![0, v203.toNat, 0, 0]
def k0_mult10 (i : grid0.Coords) (k0_t2 : Fin (k0_t2_loop i).trips) : BitVec 32 :=
  let c2_i32_88 : BitVec 32 := 2#32
  let c0_i32_48 : BitVec 32 := 0#32
  let arg2 : BitVec 32 := BitVec.ofNat 32 (i 2).val
  let c1_i32 : BitVec 32 := 1#32
  let v45 : BitVec 32 := Scalar.subi arg2 c1_i32
  let c0_i32_25 : BitVec 32 := 0#32
  let v46 : BitVec 32 := Scalar.maxsi v45 c0_i32_25
  let v65 : BitVec 32 := Scalar.subi v46 c0_i32_48
  let c1_i32_49 : BitVec 32 := 1#32
  let v67 : BitVec 32 := Scalar.divsi v65 c1_i32_49
  let v68 : BitVec 32 := Scalar.muli v67 c1_i32_49
  let v69 : BitVec 32 := Scalar.addi c0_i32_48 v68
  let c1_i32_51 : BitVec 32 := 1#32
  let arg20 : BitVec 32 := Scf.iv v69 c1_i32_51 k0_t2
  let v132 : BitVec 32 := Scalar.muli c2_i32_88 arg20
  let c2_i32_170 : BitVec 32 := 2#32
  let v236 : BitVec 32 := Scalar.addi v132 c2_i32_170
  let c1_i32_171 : BitVec 32 := 1#32
  let v237 : BitVec 32 := Scalar.addi v236 c1_i32_171
  let c512_i32_172 : BitVec 32 := 512#32
  let v238 : BitVec 32 := Scalar.muli v237 c512_i32_172
  v238
def k0_mult11 (i : grid0.Coords) (k0_t2 : Fin (k0_t2_loop i).trips) : BitVec 32 :=
  let c2_i32_210 : BitVec 32 := 2#32
  let c0_i32_48 : BitVec 32 := 0#32
  let arg2 : BitVec 32 := BitVec.ofNat 32 (i 2).val
  let c1_i32 : BitVec 32 := 1#32
  let v45 : BitVec 32 := Scalar.subi arg2 c1_i32
  let c0_i32_25 : BitVec 32 := 0#32
  let v46 : BitVec 32 := Scalar.maxsi v45 c0_i32_25
  let v65 : BitVec 32 := Scalar.subi v46 c0_i32_48
  let c1_i32_49 : BitVec 32 := 1#32
  let v67 : BitVec 32 := Scalar.divsi v65 c1_i32_49
  let v68 : BitVec 32 := Scalar.muli v67 c1_i32_49
  let v69 : BitVec 32 := Scalar.addi c0_i32_48 v68
  let c1_i32_51 : BitVec 32 := 1#32
  let arg20 : BitVec 32 := Scf.iv v69 c1_i32_51 k0_t2
  let v291 : BitVec 32 := Scalar.muli c2_i32_210 arg20
  let c2_i32_235 : BitVec 32 := 2#32
  let v316 : BitVec 32 := Scalar.addi v291 c2_i32_235
  let c0_i32_236 : BitVec 32 := 0#32
  let v317 : BitVec 32 := Scalar.addi v316 c0_i32_236
  let c512_i32_237 : BitVec 32 := 512#32
  let v318 : BitVec 32 := Scalar.muli v317 c512_i32_237
  v318
def k0_mult12 (i : grid0.Coords) (k0_t2 : Fin (k0_t2_loop i).trips) : BitVec 32 :=
  let c2_i32_210 : BitVec 32 := 2#32
  let c0_i32_48 : BitVec 32 := 0#32
  let arg2 : BitVec 32 := BitVec.ofNat 32 (i 2).val
  let c1_i32 : BitVec 32 := 1#32
  let v45 : BitVec 32 := Scalar.subi arg2 c1_i32
  let c0_i32_25 : BitVec 32 := 0#32
  let v46 : BitVec 32 := Scalar.maxsi v45 c0_i32_25
  let v65 : BitVec 32 := Scalar.subi v46 c0_i32_48
  let c1_i32_49 : BitVec 32 := 1#32
  let v67 : BitVec 32 := Scalar.divsi v65 c1_i32_49
  let v68 : BitVec 32 := Scalar.muli v67 c1_i32_49
  let v69 : BitVec 32 := Scalar.addi c0_i32_48 v68
  let c1_i32_51 : BitVec 32 := 1#32
  let arg20 : BitVec 32 := Scf.iv v69 c1_i32_51 k0_t2
  let v291 : BitVec 32 := Scalar.muli c2_i32_210 arg20
  let c2_i32_299 : BitVec 32 := 2#32
  let v395 : BitVec 32 := Scalar.addi v291 c2_i32_299
  let c1_i32_300 : BitVec 32 := 1#32
  let v396 : BitVec 32 := Scalar.addi v395 c1_i32_300
  let c512_i32_301 : BitVec 32 := 512#32
  let v397 : BitVec 32 := Scalar.muli v396 c512_i32_301
  v397
def k0_cond2 (i : grid0.Coords) : BitVec 1 :=
  let arg2 : BitVec 32 := BitVec.ofNat 32 (i 2).val
  let c0_i32_52 : BitVec 32 := 0#32
  let v72 : BitVec 1 := Scalar.cmpi .sgt arg2 c0_i32_52
  let v73 : BitVec 32 := Scalar.extui v72
  let c0_i32_53 : BitVec 32 := 0#32
  let v74 : BitVec 1 := Scalar.cmpi .ne v73 c0_i32_53
  v74

def k0_mult13 (i : grid0.Coords) : BitVec 32 :=
  let c2_i32_89 : BitVec 32 := 2#32
  let arg2 : BitVec 32 := BitVec.ofNat 32 (i 2).val
  let c1_i32_88 : BitVec 32 := 1#32
  let v132 : BitVec 32 := Scalar.subi arg2 c1_i32_88
  let v133 : BitVec 32 := Scalar.muli c2_i32_89 v132
  let c2_i32_108 : BitVec 32 := 2#32
  let v158 : BitVec 32 := Scalar.addi v133 c2_i32_108
  let c0_i32_109 : BitVec 32 := 0#32
  let v159 : BitVec 32 := Scalar.addi v158 c0_i32_109
  let c512_i32 : BitVec 32 := 512#32
  let v160 : BitVec 32 := Scalar.muli v159 c512_i32
  v160
def k0_off5 (i : grid0.Coords) (c0_i32_109 : BitVec 32) : Fin 3 → Nat :=
  let c0_110 : Index := 0#32
  let c2_i32_89 : BitVec 32 := 2#32
  let arg2 : BitVec 32 := BitVec.ofNat 32 (i 2).val
  let c1_i32_88 : BitVec 32 := 1#32
  let v132 : BitVec 32 := Scalar.subi arg2 c1_i32_88
  let v133 : BitVec 32 := Scalar.muli c2_i32_89 v132
  let c2_i32_108 : BitVec 32 := 2#32
  let v158 : BitVec 32 := Scalar.addi v133 c2_i32_108
  let v159 : BitVec 32 := Scalar.addi v158 c0_i32_109
  let c512_i32 : BitVec 32 := 512#32
  let v160 : BitVec 32 := Scalar.muli v159 c512_i32
  let v161 : BitVec 32 := v160
  let v162 : Index := Scalar.indexCast v161
  let c0_111 : Index := 0#32
  ![0, v162.toNat, 0]
def k0_off6 (i : grid0.Coords) (c0_i32_139 : BitVec 32) : Fin 4 → Nat :=
  let c0_140 : Index := 0#32
  let c2_i32_89 : BitVec 32 := 2#32
  let arg2 : BitVec 32 := BitVec.ofNat 32 (i 2).val
  let c1_i32_88 : BitVec 32 := 1#32
  let v132 : BitVec 32 := Scalar.subi arg2 c1_i32_88
  let v133 : BitVec 32 := Scalar.muli c2_i32_89 v132
  let v201 : BitVec 32 := Scalar.addi v133 c0_i32_139
  let v202 : Index := Scalar.indexCast v201
  let c0_141 : Index := 0#32
  let c0_142 : Index := 0#32
  ![0, v202.toNat, 0, 0]
def k0_mult14 (i : grid0.Coords) : BitVec 32 :=
  let c2_i32_89 : BitVec 32 := 2#32
  let arg2 : BitVec 32 := BitVec.ofNat 32 (i 2).val
  let c1_i32_88 : BitVec 32 := 1#32
  let v132 : BitVec 32 := Scalar.subi arg2 c1_i32_88
  let v133 : BitVec 32 := Scalar.muli c2_i32_89 v132
  let c2_i32_170 : BitVec 32 := 2#32
  let v235 : BitVec 32 := Scalar.addi v133 c2_i32_170
  let c1_i32_171 : BitVec 32 := 1#32
  let v236 : BitVec 32 := Scalar.addi v235 c1_i32_171
  let c512_i32_172 : BitVec 32 := 512#32
  let v237 : BitVec 32 := Scalar.muli v236 c512_i32_172
  v237
def k0_mult15 (i : grid0.Coords) : BitVec 32 :=
  let c2_i32_198 : BitVec 32 := 2#32
  let arg2 : BitVec 32 := BitVec.ofNat 32 (i 2).val
  let c1_i32_197 : BitVec 32 := 1#32
  let v273 : BitVec 32 := Scalar.subi arg2 c1_i32_197
  let v274 : BitVec 32 := Scalar.muli c2_i32_198 v273
  let c2_i32_223 : BitVec 32 := 2#32
  let v299 : BitVec 32 := Scalar.addi v274 c2_i32_223
  let c0_i32_224 : BitVec 32 := 0#32
  let v300 : BitVec 32 := Scalar.addi v299 c0_i32_224
  let c512_i32_225 : BitVec 32 := 512#32
  let v301 : BitVec 32 := Scalar.muli v300 c512_i32_225
  v301
def k0_mult16 (i : grid0.Coords) : BitVec 32 :=
  let c2_i32_198 : BitVec 32 := 2#32
  let arg2 : BitVec 32 := BitVec.ofNat 32 (i 2).val
  let c1_i32_197 : BitVec 32 := 1#32
  let v273 : BitVec 32 := Scalar.subi arg2 c1_i32_197
  let v274 : BitVec 32 := Scalar.muli c2_i32_198 v273
  let c2_i32_286 : BitVec 32 := 2#32
  let v376 : BitVec 32 := Scalar.addi v274 c2_i32_286
  let c1_i32_287 : BitVec 32 := 1#32
  let v377 : BitVec 32 := Scalar.addi v376 c1_i32_287
  let c512_i32_288 : BitVec 32 := 512#32
  let v378 : BitVec 32 := Scalar.muli v377 c512_i32_288
  v378
def k0_cond3 (i : grid0.Coords) : BitVec 1 :=
  let arg2 : BitVec 32 := BitVec.ofNat 32 (i 2).val
  let c7_i32 : BitVec 32 := 7#32
  let v76 : BitVec 1 := Scalar.cmpi .slt arg2 c7_i32
  let true_54 : BitVec 1 := 1#1
  let v77 : BitVec 1 := Scalar.xori v76 true_54
  let true_55 : BitVec 1 := 1#1
  let v78 : BitVec 1 := Scalar.xori v77 true_55
  let v79 : BitVec 32 := Scalar.extui v78
  let c0_i32_56 : BitVec 32 := 0#32
  let v80 : BitVec 1 := Scalar.cmpi .ne v79 c0_i32_56
  v80

def k0_mult17 : BitVec 32 :=
  let c0_i32_108 : BitVec 32 := 0#32
  c0_i32_108
def k0_off7 (i : grid0.Coords) (c0_i32_144 : BitVec 32) : Fin 4 → Nat :=
  let c0_145 : Index := 0#32
  let c2_i32_88 : BitVec 32 := 2#32
  let arg2 : BitVec 32 := BitVec.ofNat 32 (i 2).val
  let v132 : BitVec 32 := Scalar.muli c2_i32_88 arg2
  let v210 : BitVec 32 := Scalar.addi v132 c0_i32_144
  let v211 : Index := Scalar.indexCast v210
  let c0_146 : Index := 0#32
  let c0_147 : Index := 0#32
  ![0, v211.toNat, 0, 0]
def k0_mult18 : BitVec 32 :=
  let c512_i32 : BitVec 32 := 512#32
  c512_i32
def k0_mult19 : BitVec 32 :=
  let c0_i32_231 : BitVec 32 := 0#32
  c0_i32_231
def k0_mult20 : BitVec 32 :=
  let c512_i32_287 : BitVec 32 := 512#32
  c512_i32_287
def k0_cond4 (i : grid0.Coords) : BitVec 1 :=
  let arg2 : BitVec 32 := BitVec.ofNat 32 (i 2).val
  let c7_i32_57 : BitVec 32 := 7#32
  let v81 : BitVec 1 := Scalar.cmpi .slt arg2 c7_i32_57
  let false_58 : BitVec 1 := 0#1
  let v82 : BitVec 1 := Scalar.xori v81 false_58
  let true_59 : BitVec 1 := 1#1
  let v83 : BitVec 1 := Scalar.xori v82 true_59
  let v84 : BitVec 32 := Scalar.extui v83
  let c0_i32_60 : BitVec 32 := 0#32
  let v85 : BitVec 1 := Scalar.cmpi .ne v84 c0_i32_60
  v85

def k0_off8 (i : grid0.Coords) (c0_i32_111 : BitVec 32) : Fin 4 → Nat :=
  let c0_112 : Index := 0#32
  let c2_i32_88 : BitVec 32 := 2#32
  let arg2 : BitVec 32 := BitVec.ofNat 32 (i 2).val
  let v132 : BitVec 32 := Scalar.muli c2_i32_88 arg2
  let v167 : BitVec 32 := Scalar.addi v132 c0_i32_111
  let v168 : Index := Scalar.indexCast v167
  let c0_113 : Index := 0#32
  let c0_114 : Index := 0#32
  ![0, v168.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c7_i32 : BitVec 32 := 7#32
  let v1 : BitVec 32 := Scalar.minsi v0 c7_i32
  let c0_i32 : BitVec 32 := 0#32
  ![arg0.toNat, arg1.toNat, v1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x8192x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x16x128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== ReferenceIdeal.lean ====
abbrev S1x64 : Shape := ⟨2, ![1, 64]⟩
abbrev S1x128 : Shape := ⟨2, ![1, 128]⟩
abbrev S2x8192x4x2x64 : Shape := ⟨5, ![2, 8192, 4, 2, 64]⟩
abbrev S2x8192x4x128 : Shape := ⟨4, ![2, 8192, 4, 128]⟩
abbrev S2x8192x4x1x64 : Shape := ⟨5, ![2, 8192, 4, 1, 64]⟩
abbrev S2x8192x4x64 : Shape := ⟨4, ![2, 8192, 4, 64]⟩
abbrev S2x4x8192x8192 : Shape := ⟨4, ![2, 4, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S2x4x8192 : Shape := ⟨3, ![2, 4, 8192]⟩
abbrev S2x4x8192x1 : Shape := ⟨4, ![2, 4, 8192, 1]⟩
abbrev S2x4x128x8192 : Shape := ⟨4, ![2, 4, 128, 8192]⟩
abbrev S64 : Shape := ⟨1, ![64]⟩
abbrev S128 : Shape := ⟨1, ![128]⟩
abbrev S2x8192x4 : Shape := ⟨3, ![2, 8192, 4]⟩
abbrev S2x8192x4x1 : Shape := ⟨4, ![2, 8192, 4, 1]⟩
abbrev S1x1x1x128 : Shape := ⟨4, ![1, 1, 1, 128]⟩
abbrev S2x8192x512 : Shape := ⟨3, ![2, 8192, 512]⟩

abbrev nBuf : Space → Nat
  | .hbm => 118
  | .vmem => 0
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x128, .f32⟩
  | .hbm, ⟨5, _⟩ => ⟨S2x8192x4x2x64, .f32⟩
  | .hbm, ⟨6, _⟩ => ⟨S2x8192x4x2x64, .f32⟩
  | .hbm, ⟨7, _⟩ => ⟨S2x8192x4x128, .f32⟩
  | .hbm, ⟨8, _⟩ => ⟨S2x8192x4x1x64, .f32⟩
  | .hbm, ⟨9, _⟩ => ⟨S2x8192x4x64, .f32⟩
  | .hbm, ⟨10, _⟩ => ⟨S2x8192x4x1x64, .f32⟩
  | .hbm, ⟨11, _⟩ => ⟨S2x8192x4x64, .f32⟩
  | .hbm, ⟨12, _⟩ => ⟨S2x4x8192x8192, .f32⟩
  | .hbm, ⟨13, _⟩ => ⟨S_, .f32⟩
  | .hbm, ⟨14, _⟩ => ⟨S2x4x8192x8192, .f32⟩
  | .hbm, ⟨15, _⟩ => ⟨S2x4x8192x8192, .f32⟩
  | .hbm, ⟨16, _⟩ => ⟨S8192, .i32⟩
  | .hbm, ⟨17, _⟩ => ⟨S1x8192, .i32⟩
  | .hbm, ⟨18, _⟩ => ⟨S8192x1, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S_, .f32⟩
  | .hbm, ⟨23, _⟩ => ⟨S_, .f32⟩
  | .hbm, ⟨24, _⟩ => ⟨S2x4x8192x8192, .i1⟩
  | .hbm, ⟨25, _⟩ => ⟨S2x4x8192x8192, .f32⟩
  | .hbm, ⟨26, _⟩ => ⟨S2x4x8192x8192, .f32⟩
  | .hbm, ⟨27, _⟩ => ⟨S_, .f32⟩
  | .hbm, ⟨28, _⟩ => ⟨S2x4x8192, .f32⟩
  | .hbm, ⟨29, _⟩ => ⟨S_, .f32⟩
  | .hbm, ⟨30, _⟩ => ⟨S2x4x8192, .f32⟩
  | .hbm, ⟨31, _⟩ => ⟨S2x4x8192, .f32⟩
  | .hbm, ⟨32, _⟩ => ⟨S2x4x8192x1, .f32⟩
  | .hbm, ⟨33, _⟩ => ⟨S2x4x8192x8192, .f32⟩
  | .hbm, ⟨34, _⟩ => ⟨S2x4x8192x8192, .f32⟩
  | .hbm, ⟨35, _⟩ => ⟨S2x4x8192x8192, .f32⟩
  | .hbm, ⟨36, _⟩ => ⟨S_, .f32⟩
  | .hbm, ⟨37, _⟩ => ⟨S2x4x8192, .f32⟩
  | .hbm, ⟨38, _⟩ => ⟨S2x4x8192x1, .f32⟩
  | .hbm, ⟨39, _⟩ => ⟨S2x4x8192x8192, .f32⟩
  | .hbm, ⟨40, _⟩ => ⟨S2x4x8192x8192, .f32⟩
  | .hbm, ⟨41, _⟩ => ⟨S2x4x128x8192, .f32⟩
  | .hbm, ⟨42, _⟩ => ⟨S2x8192x4x128, .f32⟩
  | .hbm, ⟨43, _⟩ => ⟨S2x8192x4x1x64, .f32⟩
  | .hbm, ⟨44, _⟩ => ⟨S2x8192x4x64, .f32⟩
  | .hbm, ⟨45, _⟩ => ⟨S2x8192x4x1x64, .f32⟩
  | .hbm, ⟨46, _⟩ => ⟨S2x8192x4x64, .f32⟩
  | .hbm, ⟨47, _⟩ => ⟨S2x4x8192x8192, .f32⟩
  | .hbm, ⟨48, _⟩ => ⟨S_, .f32⟩
  | .hbm, ⟨49, _⟩ => ⟨S2x4x8192x8192, .f32⟩
  | .hbm, ⟨50, _⟩ => ⟨S2x4x8192x8192, .f32⟩
  | .hbm, ⟨51, _⟩ => ⟨S8192, .i32⟩
  | .hbm, ⟨52, _⟩ => ⟨S1x8192, .i32⟩
  | .hbm, ⟨53, _⟩ => ⟨S8192x1, .i32⟩
  | .hbm, ⟨54, _⟩ => ⟨S8192x8192, .i32⟩
  | .hbm, ⟨55, _⟩ => ⟨S8192x8192, .i32⟩
  | .hbm, ⟨56, _⟩ => ⟨S8192x8192, .i1⟩
  | .hbm, ⟨57, _⟩ => ⟨S_, .f32⟩
  | .hbm, ⟨58, _⟩ => ⟨S_, .f32⟩
  | .hbm, ⟨59, _⟩ => ⟨S2x4x8192x8192, .i1⟩
  | .hbm, ⟨60, _⟩ => ⟨S2x4x8192x8192, .f32⟩
  | .hbm, ⟨61, _⟩ => ⟨S2x4x8192x8192, .f32⟩
  | .hbm, ⟨62, _⟩ => ⟨S_, .f32⟩
  | .hbm, ⟨63, _⟩ => ⟨S2x4x8192, .f32⟩
  | .hbm, ⟨64, _⟩ => ⟨S_, .f32⟩
  | .hbm, ⟨65, _⟩ => ⟨S2x4x8192, .f32⟩
  | .hbm, ⟨66, _⟩ => ⟨S2x4x8192, .f32⟩
  | .hbm, ⟨67, _⟩ => ⟨S2x4x8192x1, .f32⟩
  | .hbm, ⟨68, _⟩ => ⟨S2x4x8192x8192, .f32⟩
  | .hbm, ⟨69, _⟩ => ⟨S2x4x8192x8192, .f32⟩
  | .hbm, ⟨70, _⟩ => ⟨S2x4x8192x8192, .f32⟩
  | .hbm, ⟨71, _⟩ => ⟨S_, .f32⟩
  | .hbm, ⟨72, _⟩ => ⟨S2x4x8192, .f32⟩
  | .hbm, ⟨73, _⟩ => ⟨S2x4x8192x1, .f32⟩
  | .hbm, ⟨74, _⟩ => ⟨S2x4x8192x8192, .f32⟩
  | .hbm, ⟨75, _⟩ => ⟨S2x4x8192x8192, .f32⟩
  | .hbm, ⟨76, _⟩ => ⟨S2x4x128x8192, .f32⟩
  | .hbm, ⟨77, _⟩ => ⟨S2x8192x4x128, .f32⟩
  | .hbm, ⟨78, _⟩ => ⟨S64, .f32⟩
  | .hbm, ⟨79, _⟩ => ⟨S64, .f32⟩
  | .hbm, ⟨80, _⟩ => ⟨S64, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S64, .f32⟩
  | .hbm, ⟨85, _⟩ => ⟨S64, .f32⟩
  | .hbm, ⟨86, _⟩ => ⟨S64, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S2x8192x4x128, .f32⟩
  | .hbm, ⟨94, _⟩ => ⟨S2x8192x4x128, .f32⟩
  | .hbm, ⟨95, _⟩ => ⟨S2x8192x4x128, .f32⟩
  | .hbm, ⟨96, _⟩ => ⟨S128, .f32⟩
  | .hbm, ⟨97, _⟩ => ⟨S2x8192x4x128, .f32⟩
  | .hbm, ⟨98, _⟩ => ⟨S_, .f32⟩
  | .hbm, ⟨99, _⟩ => ⟨S2x8192x4, .f32⟩
  | .hbm, ⟨100, _⟩ => ⟨S2x8192x4x1, .f32⟩
  | .hbm, ⟨101, _⟩ => ⟨S_, .f32⟩
  | .hbm, ⟨102, _⟩ => ⟨S2x8192x4x1, .f32⟩
  | .hbm, ⟨103, _⟩ => ⟨S2x8192x4x1, .f32⟩
  | .hbm, ⟨104, _⟩ => ⟨S_, .f32⟩
  | .hbm, ⟨105, _⟩ => ⟨S2x8192x4x1, .f32⟩
  | .hbm, ⟨106, _⟩ => ⟨S2x8192x4x1, .f32⟩
  | .hbm, ⟨107, _⟩ => ⟨S2x8192x4x1, .f32⟩
  | .hbm, ⟨108, _⟩ => ⟨S2x8192x4x128, .f32⟩
  | .hbm, ⟨109, _⟩ => ⟨S2x8192x4x128, .f32⟩
  | .hbm, ⟨110, _⟩ => ⟨S1x1x1x128, .f32⟩
  | .hbm, ⟨111, _⟩ => ⟨S2x8192x4x128, .f32⟩
  | .hbm, ⟨112, _⟩ => ⟨S2x8192x4x128, .f32⟩
  | .hbm, ⟨113, _⟩ => ⟨S_, .f32⟩
  | .hbm, ⟨114, _⟩ => ⟨S2x8192x4x128, .f32⟩
  | .hbm, ⟨115, _⟩ => ⟨S2x8192x4x128, .f32⟩
  | .hbm, ⟨116, _⟩ => ⟨S2x8192x512, .f32⟩
  | .hbm, ⟨117, _⟩ => ⟨S2x8192x512, .bf16⟩
  | _, _ => ⟨S1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_4 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_5 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v40 : Ref sig .tc := ⟨.hbm, 61, rfl⟩
abbrev main_cst_6 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_8 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_9 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_10 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_11 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_12 : Ref sig .tc := ⟨.hbm, 98, rfl⟩
abbrev main_v71 : Ref sig .tc := ⟨.hbm, 99, rfl⟩
abbrev main_v72 : Ref sig .tc := ⟨.hbm, 100, rfl⟩
abbrev main_cst_13 : Ref sig .tc := ⟨.hbm, 101, rfl⟩
abbrev main_v73 : Ref sig .tc := ⟨.hbm, 102, rfl⟩
abbrev main_v74 : Ref sig .tc := ⟨.hbm, 103, rfl⟩
abbrev main_cst_14 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_15 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩

abbrev nD : Nat := 1
abbrev τ : Topo := Topo.v7x

variable {F : FTy → Type} [FloatOps F]
-- ==== Kernel2.lean ====
abbrev S2x8192x1024 : Shape := ⟨3, ![2, 8192, 1024]⟩
abbrev S2x8192x512 : Shape := ⟨3, ![2, 8192, 512]⟩
abbrev S2x8192x2048 : Shape := ⟨3, ![2, 8192, 2048]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S16384x1024 : Shape := ⟨2, ![16384, 1024]⟩
abbrev S16384x512 : Shape := ⟨2, ![16384, 512]⟩
abbrev S16384x2048 : Shape := ⟨2, ![16384, 2048]⟩
abbrev S512x1024 : Shape := ⟨2, ![512, 1024]⟩
abbrev S1024x1024 : Shape := ⟨2, ![1024, 1024]⟩
abbrev S1024x2816 : Shape := ⟨2, ![1024, 2816]⟩
abbrev S2816x1024 : Shape := ⟨2, ![2816, 1024]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩
abbrev S1024x768 : Shape := ⟨2, ![1024, 768]⟩
abbrev S512x768 : Shape := ⟨2, ![512, 768]⟩
abbrev S768x1024 : Shape := ⟨2, ![768, 1024]⟩

abbrev nBuf : Space → Nat
  | .hbm => 35
  | .vmem => 18
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S2x8192x2048, .f32⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S1x1024, .f32⟩
  | .hbm, ⟨8, _⟩ => ⟨S1x1024x2816, .f32⟩
  | .hbm, ⟨9, _⟩ => ⟨S1x1024x2816, .f32⟩
  | .hbm, ⟨10, _⟩ => ⟨S1x2816x1024, .f32⟩
  | .hbm, ⟨11, _⟩ => ⟨S1024, .f32⟩
  | .hbm, ⟨12, _⟩ => ⟨S16384x1024, .f32⟩
  | .hbm, ⟨13, _⟩ => ⟨S16384x512, .f32⟩
  | .hbm, ⟨14, _⟩ => ⟨S16384x512, .bf16⟩
  | .hbm, ⟨15, _⟩ => ⟨S16384x512, .f32⟩
  | .hbm, ⟨16, _⟩ => ⟨S16384x512, .bf16⟩
  | .hbm, ⟨17, _⟩ => ⟨S16384x2048, .f32⟩
  | .hbm, ⟨18, _⟩ => ⟨S16384x2048, .bf16⟩
  | .hbm, ⟨19, _⟩ => ⟨S512x1024, .f32⟩
  | .hbm, ⟨20, _⟩ => ⟨S512x1024, .bf16⟩
  | .hbm, ⟨21, _⟩ => ⟨S512x1024, .f32⟩
  | .hbm, ⟨22, _⟩ => ⟨S512x1024, .bf16⟩
  | .hbm, ⟨23, _⟩ => ⟨S1024x1024, .f32⟩
  | .hbm, ⟨24, _⟩ => ⟨S1024x1024, .bf16⟩
  | .hbm, ⟨25, _⟩ => ⟨S1024, .f32⟩
  | .hbm, ⟨26, _⟩ => ⟨S1x1024, .f32⟩
  | .hbm, ⟨27, _⟩ => ⟨S1024x2816, .f32⟩
  | .hbm, ⟨28, _⟩ => ⟨S1024x2816, .bf16⟩
  | .hbm, ⟨29, _⟩ => ⟨S1024x2816, .f32⟩
  | .hbm, ⟨30, _⟩ => ⟨S1024x2816, .bf16⟩
  | .hbm, ⟨31, _⟩ => ⟨S2816x1024, .f32⟩
  | .hbm, ⟨32, _⟩ => ⟨S2816x1024, .bf16⟩
  | .hbm, ⟨33, _⟩ => ⟨S1x1024, .f32⟩
  | .hbm, ⟨34, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x2048, .bf16⟩
  | .local _ .vmem, ⟨7, _⟩ => ⟨S512x2048, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x2816, .bf16⟩
  | .local _ .vmem, ⟨13, _⟩ => ⟨S1024x2816, .bf16⟩
  | .local _ .vmem, ⟨14, _⟩ => ⟨S2816x1024, .bf16⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference2Ideal.lean ====
abbrev S2x8192x1024 : Shape := ⟨3, ![2, 8192, 1024]⟩
abbrev S2x8192x512 : Shape := ⟨3, ![2, 8192, 512]⟩
abbrev S2x8192x2048 : Shape := ⟨3, ![2, 8192, 2048]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S512x1024 : Shape := ⟨2, ![512, 1024]⟩
abbrev S1024x1024 : Shape := ⟨2, ![1024, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x2816 : Shape := ⟨2, ![1024, 2816]⟩
abbrev S2x8192x2816 : Shape := ⟨3, ![2, 8192, 2816]⟩
abbrev S2816x1024 : Shape := ⟨2, ![2816, 1024]⟩
abbrev S16384x1024 : Shape := ⟨2, ![16384, 1024]⟩

abbrev nBuf : Space → Nat
  | .hbm => 75
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S2x8192x2048, .f32⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S1x1024, .f32⟩
  | .hbm, ⟨8, _⟩ => ⟨S1x1024x2816, .f32⟩
  | .hbm, ⟨9, _⟩ => ⟨S1x1024x2816, .f32⟩
  | .hbm, ⟨10, _⟩ => ⟨S1x2816x1024, .f32⟩
  | .hbm, ⟨11, _⟩ => ⟨S1024, .f32⟩
  | .hbm, ⟨12, _⟩ => ⟨S2x8192x1024, .f32⟩
  | .hbm, ⟨13, _⟩ => ⟨S2x8192x1024, .f32⟩
  | .hbm, ⟨14, _⟩ => ⟨S512x1024, .f32⟩
  | .hbm, ⟨15, _⟩ => ⟨S2x8192x1024, .f32⟩
  | .hbm, ⟨16, _⟩ => ⟨S2x8192x1024, .f32⟩
  | .hbm, ⟨17, _⟩ => ⟨S512x1024, .f32⟩
  | .hbm, ⟨18, _⟩ => ⟨S2x8192x1024, .f32⟩
  | .hbm, ⟨19, _⟩ => ⟨S2x8192x1024, .f32⟩
  | .hbm, ⟨20, _⟩ => ⟨S2x8192x1024, .f32⟩
  | .hbm, ⟨21, _⟩ => ⟨S1024x1024, .f32⟩
  | .hbm, ⟨22, _⟩ => ⟨S2x8192x1024, .f32⟩
  | .hbm, ⟨23, _⟩ => ⟨S2x8192x1024, .f32⟩
  | .hbm, ⟨24, _⟩ => ⟨S1024, .f32⟩
  | .hbm, ⟨25, _⟩ => ⟨S2x8192x1024, .f32⟩
  | .hbm, ⟨26, _⟩ => ⟨S_, .f32⟩
  | .hbm, ⟨27, _⟩ => ⟨S2x8192, .f32⟩
  | .hbm, ⟨28, _⟩ => ⟨S2x8192x1, .f32⟩
  | .hbm, ⟨29, _⟩ => ⟨S_, .f32⟩
  | .hbm, ⟨30, _⟩ => ⟨S2x8192x1, .f32⟩
  | .hbm, ⟨31, _⟩ => ⟨S2x8192x1, .f32⟩
  | .hbm, ⟨32, _⟩ => ⟨S_, .f32⟩
  | .hbm, ⟨33, _⟩ => ⟨S2x8192x1, .f32⟩
  | .hbm, ⟨34, _⟩ => ⟨S2x8192x1, .f32⟩
  | .hbm, ⟨35, _⟩ => ⟨S2x8192x1, .f32⟩
  | .hbm, ⟨36, _⟩ => ⟨S2x8192x1024, .f32⟩
  | .hbm, ⟨37, _⟩ => ⟨S2x8192x1024, .f32⟩
  | .hbm, ⟨38, _⟩ => ⟨S1x1x1024, .f32⟩
  | .hbm, ⟨39, _⟩ => ⟨S2x8192x1024, .f32⟩
  | .hbm, ⟨40, _⟩ => ⟨S2x8192x1024, .f32⟩
  | .hbm, ⟨41, _⟩ => ⟨S1024x2816, .f32⟩
  | .hbm, ⟨42, _⟩ => ⟨S2x8192x2816, .f32⟩
  | .hbm, ⟨43, _⟩ => ⟨S2x8192x2816, .f32⟩
  | .hbm, ⟨44, _⟩ => ⟨S2x8192x2816, .f32⟩
  | .hbm, ⟨45, _⟩ => ⟨S_, .f32⟩
  | .hbm, ⟨46, _⟩ => ⟨S2x8192x2816, .f32⟩
  | .hbm, ⟨47, _⟩ => ⟨S2x8192x2816, .f32⟩
  | .hbm, ⟨48, _⟩ => ⟨S_, .f32⟩
  | .hbm, ⟨49, _⟩ => ⟨S2x8192x2816, .f32⟩
  | .hbm, ⟨50, _⟩ => ⟨S2x8192x2816, .f32⟩
  | .hbm, ⟨51, _⟩ => ⟨S2x8192x2816, .f32⟩
  | .hbm, ⟨52, _⟩ => ⟨S1024x2816, .f32⟩
  | .hbm, ⟨53, _⟩ => ⟨S2x8192x2816, .f32⟩
  | .hbm, ⟨54, _⟩ => ⟨S2x8192x2816, .f32⟩
  | .hbm, ⟨55, _⟩ => ⟨S2816x1024, .f32⟩
  | .hbm, ⟨56, _⟩ => ⟨S2x8192x1024, .f32⟩
  | .hbm, ⟨57, _⟩ => ⟨S2x8192x1024, .f32⟩
  | .hbm, ⟨58, _⟩ => ⟨S2x8192x1024, .f32⟩
  | .hbm, ⟨59, _⟩ => ⟨S_, .f32⟩
  | .hbm, ⟨60, _⟩ => ⟨S2x8192, .f32⟩
  | .hbm, ⟨61, _⟩ => ⟨S2x8192x1, .f32⟩
  | .hbm, ⟨62, _⟩ => ⟨S_, .f32⟩
  | .hbm, ⟨63, _⟩ => ⟨S2x8192x1, .f32⟩
  | .hbm, ⟨64, _⟩ => ⟨S2x8192x1, .f32⟩
  | .hbm, ⟨65, _⟩ => ⟨S_, .f32⟩
  | .hbm, ⟨66, _⟩ => ⟨S2x8192x1, .f32⟩
  | .hbm, ⟨67, _⟩ => ⟨S2x8192x1, .f32⟩
  | .hbm, ⟨68, _⟩ => ⟨S2x8192x1, .f32⟩
  | .hbm, ⟨69, _⟩ => ⟨S2x8192x1024, .f32⟩
  | .hbm, ⟨70, _⟩ => ⟨S2x8192x1024, .f32⟩
  | .hbm, ⟨71, _⟩ => ⟨S1x1x1024, .f32⟩
  | .hbm, ⟨72, _⟩ => ⟨S2x8192x1024, .f32⟩
  | .hbm, ⟨73, _⟩ => ⟨S2x8192x1024, .f32⟩
  | .hbm, ⟨74, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_cst_0 : Ref sig .tc := ⟨.hbm, 29, rfl⟩
abbrev main_v16 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_2 : Ref sig .tc := ⟨.hbm, 59, rfl⟩
abbrev main_v36 : Ref sig .tc := ⟨.hbm, 60, rfl⟩
abbrev main_v37 : Ref sig .tc := ⟨.hbm, 61, rfl⟩
abbrev main_cst_3 : Ref sig .tc := ⟨.hbm, 62, rfl⟩
abbrev main_v38 : Ref sig .tc := ⟨.hbm, 63, rfl⟩
abbrev main_v39 : Ref sig .tc := ⟨.hbm, 64, rfl⟩
abbrev main_cst_4 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩

abbrev nD : Nat := 1
abbrev τ : Topo := Topo.v7x

variable {F : FTy → Type} [FloatOps F]
-- ==== Proof.Vals.lean ====
module

public import proofs.«01_k».proof.Defs
public import proofs.«01_k».proof.Proof.Gen.KernelIdeal.Frame
public import proofs.«01_k».proof.Proof.Gen.KernelIdeal.Loops
public import Idealize.ShloMosaic.Lib.VecWindow
public import Idealize.ShloMosaic.Lib.ValueIdx
public import Idealize.ShloMosaic.Lib.Pipeline.Value

/-! What the attention kernel's body computes, as functions of what it reads: the score block kept in the eight slabs of
a scratch buffer, one key block's update of the running maximum and accumulator, and the state after `j` key blocks. -/

@[expose] public section

set_option maxRecDepth 16384

noncomputable section

namespace Cert.Proof.KernelIdeal

open Cert.KernelIdeal
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The offsets and conditions in closed form -/

theorem cond1_iff : ∀ i : grid0.Coords, k0_cond1 i = 1#1 ↔ (i 2).val = 0 := by decide +kernel
theorem cond2_iff : ∀ i : grid0.Coords, k0_cond2 i = 1#1 ↔ (i 2).val ≠ 0 := by decide +kernel
theorem cond3_iff : ∀ i : grid0.Coords, k0_cond3 i = 1#1 ↔ (i 2).val < 7 := by decide +kernel
theorem cond4_iff : ∀ i : grid0.Coords, k0_cond4 i = 1#1 ↔ (i 2).val = 7 := by decide +kernel
theorem trips1_eq : ∀ i : grid0.Coords, (k0_t1_loop i).trips = (i 2).val - 1 := by decide +kernel
theorem trips2_eq : ∀ i : grid0.Coords, (k0_t2_loop i).trips = 0 := by decide +kernel
theorem off1_eq : ∀ (i : grid0.Coords) (k : Fin (k0_t1_loop i).trips) (r : Fin 2),
    k0_off1 i k (BitVec.ofNat 32 r.val) = ![0, 512 * (2 * k.val + 2 + r.val), 0] := by decide +kernel
theorem off2_eq : ∀ (i : grid0.Coords) (k : Fin (k0_t1_loop i).trips) (r : Fin 2),
    k0_off2 i k (BitVec.ofNat 32 r.val) = ![0, 2 * k.val + r.val, 0, 0] := by decide +kernel
theorem off5_eq : ∀ (i : grid0.Coords) (r : Fin 2),
    k0_off5 i (BitVec.ofNat 32 r.val) = ![0, 512 * (2 * (i 2).val + r.val), 0] := by decide +kernel
theorem off6_eq : ∀ (i : grid0.Coords) (_ : (i 2).val ≠ 0) (r : Fin 2),
    k0_off6 i (BitVec.ofNat 32 r.val) = ![0, 2 * ((i 2).val - 1) + r.val, 0, 0] := by decide +kernel

/-- Key block `j` of the head's keys: 512 rows. -/
def kblk (X : Vec F S1x8192x128 .bf16) (j : ℕ) : Vec F S1x512x128 .bf16 :=
  fun y => X (ix3 (y 0) ⟨(512 * j + (y 1).val) % 8192, Nat.mod_lt _ (by decide)⟩ (y 2))
/-- Value block `j` of the head's transposed values: 512 columns. -/
def vblk (X : Vec F S1x16x128x512 .bf16) (j : ℕ) : Vec F S1x1x128x512 .bf16 :=
  fun y => X (ix4 (y 0) ⟨(j + (y 1).val) % 16, Nat.mod_lt _ (by decide)⟩ (y 2) (y 3))

section Views
variable {κ : Kind} {sp : Space}

theorem readAt_kblk (v : View sig κ sp S1x8192x128 .bf16) (f : v.ty.Contents (Elt F)) (off : Fin 3 → ℕ) (j : ℕ) (hj : j < 16)
    (e : off = ![0, 512 * j, 0]) (inb : ∀ a, off a + S1x512x128.size a ≤ S1x8192x128.size a) :
    v.readAt (Elt F) (Rect.unit (s := S1x8192x128) off S1x512x128.size inb).toLoadRect f = kblk (v.read (Elt F) f) j := by
  subst e
  funext y
  refine congrArg (v.read (Elt F) f) (funext fun a => Fin.ext ?_)
  have h1 : (y 1).val < 512 := (y 1).isLt
  match a with
  | ⟨0, _⟩ => show 0 + 1 * (y 0).val = (y 0).val; omega
  | ⟨1, _⟩ => show 512 * j + 1 * (y 1).val = (512 * j + (y 1).val) % 8192; omega
  | ⟨2, _⟩ => show 0 + 1 * (y 2).val = (y 2).val; omega

theorem readAt_vblk (v : View sig κ sp S1x16x128x512 .bf16) (f : v.ty.Contents (Elt F)) (off : Fin 4 → ℕ) (j : ℕ) (hj : j < 16)
    (e : off = ![0, j, 0, 0]) (inb : ∀ a, off a + S1x1x128x512.size a ≤ S1x16x128x512.size a) :
    v.readAt (Elt F) (Rect.unit (s := S1x16x128x512) off S1x1x128x512.size inb).toLoadRect f = vblk (v.read (Elt F) f) j := by
  subst e
  funext y
  refine congrArg (v.read (Elt F) f) (funext fun a => Fin.ext ?_)
  have h1 : (y 1).val < 1 := (y 1).isLt
  match a with
  | ⟨0, _⟩ => show 0 + 1 * (y 0).val = (y 0).val; omega
  | ⟨1, _⟩ => show j + 1 * (y 1).val = (j + (y 1).val) % 16; omega
  | ⟨2, _⟩ => show 0 + 1 * (y 2).val = (y 2).val; omega
  | ⟨3, _⟩ => show 0 + 1 * (y 3).val = (y 3).val; omega

end Views

/-! ## The score block in its eight slabs -/

/-- Slab `n` lies inside the buffer. -/
theorem slab_inb (n : ℕ) (hn : n < 8) : ∀ a, (![n, 0, 0] : Fin 3 → ℕ) a + S1x512x128.size a ≤ S8x520x128.size a := fun a => by
  match a with
  | ⟨0, _⟩ => show n + 1 ≤ 8; omega
  | ⟨1, _⟩ => show 0 + 512 ≤ 520; omega
  | ⟨2, _⟩ => show 0 + 128 ≤ 128; omega

/-- Slab `n`'s rectangle. -/
abbrev slabR (n : ℕ) (hn : n < 8) : Rect S8x520x128 := Rect.unit ![n, 0, 0] S1x512x128.size (slab_inb n hn)

/-- The score block the eight slabs hold: slab `c` is columns `128 c` to `128 c + 127`. -/
def catS (X : Vec F S8x520x128 .f32) : FVec F S512x1024 .f32 := fun y =>
  X (ix3 ⟨(y 1).val / 128, by have := idx2_lt1 y; omega⟩ ⟨(y 0).val, by have := idx2_lt0 y; omega⟩ ⟨(y 1).val % 128, by omega⟩)
/-- Its right half: the columns from 512 on. -/
def catR (X : Vec F S8x520x128 .f32) : FVec F S512x512 .f32 := fun y =>
  X (ix3 ⟨(y 1).val / 128 + 4, by have := idx2_lt1 y; omega⟩ ⟨(y 0).val, by have := idx2_lt0 y; omega⟩ ⟨(y 1).val % 128, by omega⟩)

theorem shapeCast_slab_apply (x : Vec F S1x512x128 .f32) (y : S512x128.Idx) :
    shapeCast S512x128 x Gen.shapeCasts_S1x512x128_S512x128 y = x (ix3 0 (y 0) (y 1)) := by
  refine (shapeCast_dropUnit_apply ![512, 128] x Gen.shapeCasts_S1x512x128_S512x128 y).trans (congrArg x (funext fun a => Fin.ext ?_))
  match a with
  | ⟨0, _⟩ => rfl
  | ⟨1, _⟩ => rfl
  | ⟨2, _⟩ => rfl

theorem ld_slab (X : Vec F S8x520x128 .f32) (n : ℕ) (hn : n < 8) (y : S512x128.Idx) :
    shapeCast S512x128 (View.ld (Val := Elt F) (e' := .f32) X (slabR n hn)) Gen.shapeCasts_S1x512x128_S512x128 y
      = X (ix3 ⟨n, hn⟩ ⟨(y 0).val, by have := idx2_lt0 y; omega⟩ (y 1)) := by
  rw [shapeCast_slab_apply]
  refine congrArg X (funext fun a => Fin.ext ?_)
  match a with
  | ⟨0, _⟩ => show n + 1 * 0 = n; omega
  | ⟨1, _⟩ => show 0 + 1 * (y 0).val = (y 0).val; omega
  | ⟨2, _⟩ => show 0 + 1 * (y 1).val = (y 1).val; omega

/-- The eight slabs loaded and joined are the score block. -/
theorem cat8_eq (X : Vec F S8x520x128 .f32) :
    concatenate S512x1024 1 [⟨S512x128, shapeCast S512x128 (View.ld (Val := Elt F) (e' := .f32) X (slabR 0 (by decide))) Gen.shapeCasts_S1x512x128_S512x128⟩,
      ⟨S512x128, shapeCast S512x128 (View.ld (Val := Elt F) (e' := .f32) X (slabR 1 (by decide))) Gen.shapeCasts_S1x512x128_S512x128⟩,
      ⟨S512x128, shapeCast S512x128 (View.ld (Val := Elt F) (e' := .f32) X (slabR 2 (by decide))) Gen.shapeCasts_S1x512x128_S512x128⟩,
      ⟨S512x128, shapeCast S512x128 (View.ld (Val := Elt F) (e' := .f32) X (slabR 3 (by decide))) Gen.shapeCasts_S1x512x128_S512x128⟩,
      ⟨S512x128, shapeCast S512x128 (View.ld (Val := Elt F) (e' := .f32) X (slabR 4 (by decide))) Gen.shapeCasts_S1x512x128_S512x128⟩,
      ⟨S512x128, shapeCast S512x128 (View.ld (Val := Elt F) (e' := .f32) X (slabR 5 (by decide))) Gen.shapeCasts_S1x512x128_S512x128⟩,
      ⟨S512x128, shapeCast S512x128 (View.ld (Val := Elt F) (e' := .f32) X (slabR 6 (by decide))) Gen.shapeCasts_S1x512x128_S512x128⟩,
      ⟨S512x128, shapeCast S512x128 (View.ld (Val := Elt F) (e' := .f32) X (slabR 7 (by decide))) Gen.shapeCasts_S1x512x128_S512x128⟩]
      Gen.concatenates_S512x128_S512x128_S512x128_S512x128_S512x128_S512x128_S512x128_S512x128_S512x1024_d1 = catS X := by
  funext y
  have h0 := idx2_lt0 y
  have h1 := idx2_lt1 y
  refine (concatenate_ofFn_apply (t := S512x1024) (s₁ := S512x128) 1 (N := 8)
    (fun n => shapeCast S512x128 (View.ld (Val := Elt F) (e' := .f32) X (slabR n.val n.isLt)) Gen.shapeCasts_S1x512x128_S512x128)
    Gen.concatenates_S512x128_S512x128_S512x128_S512x128_S512x128_S512x128_S512x128_S512x128_S512x1024_d1
    rfl 128 rfl y ⟨(y 1).val / 128, by omega⟩ rfl (ix2 (y 0) ⟨(y 1).val % 128, by omega⟩) rfl (fun b hb => ?_)).trans ?_
  · match b with
    | ⟨0, _⟩ => rfl
    | ⟨1, _⟩ => exact absurd rfl hb
  · rw [ld_slab]
    rfl

/-- The four right slabs loaded and joined are the right half. -/
theorem cat4_eq (X : Vec F S8x520x128 .f32) :
    concatenate S512x512 1 [⟨S512x128, shapeCast S512x128 (View.ld (Val := Elt F) (e' := .f32) X (slabR 4 (by decide))) Gen.shapeCasts_S1x512x128_S512x128⟩,
      ⟨S512x128, shapeCast S512x128 (View.ld (Val := Elt F) (e' := .f32) X (slabR 5 (by decide))) Gen.shapeCasts_S1x512x128_S512x128⟩,
      ⟨S512x128, shapeCast S512x128 (View.ld (Val := Elt F) (e' := .f32) X (slabR 6 (by decide))) Gen.shapeCasts_S1x512x128_S512x128⟩,
      ⟨S512x128, shapeCast S512x128 (View.ld (Val := Elt F) (e' := .f32) X (slabR 7 (by decide))) Gen.shapeCasts_S1x512x128_S512x128⟩]
      Gen.concatenates_S512x128_S512x128_S512x128_S512x128_S512x512_d1 = catR X := by
  funext y
  have h0 := idx2_lt0 y
  have h1 := idx2_lt1 y
  refine (concatenate_ofFn_apply (t := S512x512) (s₁ := S512x128) 1 (N := 4)
    (fun n => shapeCast S512x128 (View.ld (Val := Elt F) (e' := .f32) X (slabR (n.val + 4) (by omega))) Gen.shapeCasts_S1x512x128_S512x128)
    Gen.concatenates_S512x128_S512x128_S512x128_S512x128_S512x512_d1
    rfl 128 rfl y ⟨(y 1).val / 128, by omega⟩ rfl (ix2 (y 0) ⟨(y 1).val % 128, by omega⟩) rfl (fun b hb => ?_)).trans ?_
  · match b with
    | ⟨0, _⟩ => rfl
    | ⟨1, _⟩ => exact absurd rfl hb
  · rw [ld_slab]
    rfl

/-- Slab `c` of a score block, as it is stored. -/
def slab (s : FVec F S512x1024 .f32) (c : ℕ) (hc : c < 8) : Vec F S1x512x128 .f32 :=
  fun y => s (ix2 (y 1) ⟨128 * c + (y 2).val, by have : (y 2).val < 128 := (y 2).isLt; omega⟩)
/-- Slab `4 + c` of a right half, as it is stored. -/
def slabr (s : FVec F S512x512 .f32) (c : ℕ) (hc : c < 4) : Vec F S1x512x128 .f32 :=
  fun y => s (ix2 (y 1) ⟨128 * c + (y 2).val, by have : (y 2).val < 128 := (y 2).isLt; omega⟩)

theorem slab_eq (s : FVec F S512x1024 .f32) (c : ℕ) (hc : c < 8) (o : ℕ) (ho : o = 128 * c) (h : S512x1024.Slices ![0, o] S512x128) :
    shapeCast S1x512x128 (extractStridedSlice S512x128 ![0, o] s h) Gen.shapeCasts_S512x128_S1x512x128 = slab s c hc := by
  subst ho
  funext y
  refine (shapeCast_addUnit_apply ![512, 128] _ Gen.shapeCasts_S512x128_S1x512x128 y).trans ?_
  refine extractStridedSlice_apply _ s h _ _ fun a => ?_
  match a with
  | ⟨0, _⟩ => show (y 1).val = 0 + (y 1).val; omega
  | ⟨1, _⟩ => rfl

theorem slabr_eq (s : FVec F S512x512 .f32) (c : ℕ) (hc : c < 4) (o : ℕ) (ho : o = 128 * c) (h : S512x512.Slices ![0, o] S512x128) :
    shapeCast S1x512x128 (extractStridedSlice S512x128 ![0, o] s h) Gen.shapeCasts_S512x128_S1x512x128 = slabr s c hc := by
  subst ho
  funext y
  refine (shapeCast_addUnit_apply ![512, 128] _ Gen.shapeCasts_S512x128_S1x512x128 y).trans ?_
  refine extractStridedSlice_apply _ s h _ _ fun a => ?_
  match a with
  | ⟨0, _⟩ => show (y 1).val = 0 + (y 1).val; omega
  | ⟨1, _⟩ => rfl

section Views
variable {κ : Kind} {sp : Space} (v : View sig κ sp S8x520x128 .f32) (f : v.ty.Contents (Elt F))

/-- The slabs stored, last first. -/
abbrev slabs (s : FVec F S512x1024 .f32) : List (View.Piece (Elt F) S8x520x128 .f32) :=
  [⟨slabR 7 (by decide), slab s 7 (by decide)⟩, ⟨slabR 6 (by decide), slab s 6 (by decide)⟩, ⟨slabR 5 (by decide), slab s 5 (by decide)⟩,
   ⟨slabR 4 (by decide), slab s 4 (by decide)⟩, ⟨slabR 3 (by decide), slab s 3 (by decide)⟩, ⟨slabR 2 (by decide), slab s 2 (by decide)⟩,
   ⟨slabR 1 (by decide), slab s 1 (by decide)⟩, ⟨slabR 0 (by decide), slab s 0 (by decide)⟩]
/-- The four right slabs stored, last first. -/
abbrev slabsr (s : FVec F S512x512 .f32) : List (View.Piece (Elt F) S8x520x128 .f32) :=
  [⟨slabR 7 (by decide), slabr s 3 (by decide)⟩, ⟨slabR 6 (by decide), slabr s 2 (by decide)⟩, ⟨slabR 5 (by decide), slabr s 1 (by decide)⟩,
   ⟨slabR 4 (by decide), slabr s 0 (by decide)⟩]

/-- One more slab under or beside the index. -/
theorem read_slab_cons (n : ℕ) (hn : n < 8) (w : Vec F S1x512x128 .f32) (L : List (View.Piece (Elt F) S8x520x128 .f32)) (a : Fin 8) (b : Fin 520) (hb : b.val < 512) (l : Fin 128) :
    v.read (Elt F) (v.writes (Elt F) f (⟨slabR n hn, w⟩ :: L)) (ix3 a b l)
      = if a.val = n then w (ix3 0 ⟨b.val, hb⟩ l) else v.read (Elt F) (v.writes (Elt F) f L) (ix3 a b l) := by
  by_cases h : a.val = n
  · rw [if_pos h]
    refine View.read_writes_cons_unit_of_mem v f (slab_inb n hn) w L (ix3 a b l) (ix3 0 ⟨b.val, hb⟩ l) rfl fun d => ?_
    match d with
    | ⟨0, _⟩ => show a.val = n + 0; omega
    | ⟨1, _⟩ => show b.val = 0 + b.val; omega
    | ⟨2, _⟩ => show l.val = 0 + l.val; omega
  · rw [if_neg h]
    refine View.read_writes_cons_unit_of_not_mem v f (slab_inb n hn) w L (ix3 a b l) rfl ⟨0, by decide⟩ ?_
    show a.val < n ∨ n + 1 ≤ a.val
    omega

theorem catS_slabs (s : FVec F S512x1024 .f32) : catS (v.read (Elt F) (v.writes (Elt F) f (slabs s))) = s := by
  funext y
  have h0 := idx2_lt0 y
  have h1 := idx2_lt1 y
  unfold catS
  have key : ∀ n : ℕ, ∀ hn : n < 8, (y 1).val / 128 = n →
      slab s n hn (ix3 0 ⟨(y 0).val, h0⟩ ⟨(y 1).val % 128, by omega⟩) = s y := fun n hn e => by
    refine congrArg s (funext fun a => Fin.ext ?_)
    match a with
    | ⟨0, _⟩ => rfl
    | ⟨1, _⟩ => show 128 * n + (y 1).val % 128 = (y 1).val; omega
  iterate 8 rw [read_slab_cons v f _ _ _ _ _ _ h0]
  split
  · exact key 7 (by decide) ‹_›
  split
  · exact key 6 (by decide) ‹_›
  split
  · exact key 5 (by decide) ‹_›
  split
  · exact key 4 (by decide) ‹_›
  split
  · exact key 3 (by decide) ‹_›
  split
  · exact key 2 (by decide) ‹_›
  split
  · exact key 1 (by decide) ‹_›
  split
  · exact key 0 (by decide) ‹_›
  · exfalso; simp only at *; omega

theorem catR_slabs (s : FVec F S512x1024 .f32) (y : S512x512.Idx) :
    catR (v.read (Elt F) (v.writes (Elt F) f (slabs s))) y = s (ix2 (y 0) ⟨(y 1).val + 512, by have := idx2_lt1 y; omega⟩) := by
  refine (Eq.trans ?_ (congrFun (catS_slabs v f s) _))
  have h1 := idx2_lt1 y
  unfold catR catS
  refine congrArg _ (funext fun a => Fin.ext ?_)
  match a with
  | ⟨0, _⟩ => show (y 1).val / 128 + 4 = ((y 1).val + 512) / 128; omega
  | ⟨1, _⟩ => rfl
  | ⟨2, _⟩ => show (y 1).val % 128 = ((y 1).val + 512) % 128; omega

theorem catR_slabsr (s : FVec F S512x512 .f32) : catR (v.read (Elt F) (v.writes (Elt F) f (slabsr s))) = s := by
  funext y
  have h0 := idx2_lt0 y
  have h1 := idx2_lt1 y
  unfold catR
  have key : ∀ n : ℕ, ∀ hn : n < 4, (y 1).val / 128 + 4 = n + 4 →
      slabr s n hn (ix3 0 ⟨(y 0).val, h0⟩ ⟨(y 1).val % 128, by omega⟩) = s y := fun n hn e => by
    refine congrArg s (funext fun a => Fin.ext ?_)
    match a with
    | ⟨0, _⟩ => rfl
    | ⟨1, _⟩ => show 128 * n + (y 1).val % 128 = (y 1).val; omega
  iterate 4 rw [read_slab_cons v f _ _ _ _ _ _ h0]
  split
  · exact key 3 (by decide) ‹_›
  split
  · exact key 2 (by decide) ‹_›
  split
  · exact key 1 (by decide) ‹_›
  split
  · exact key 0 (by decide) ‹_›
  · exfalso; simp only at *; omega

end Views

/-! ## One key block's update -/

/-- The probabilities' block: `2 ^ (s - m)`, rounded. -/
def pp (m : FVec F S1x1024 .f32) (s : FVec F S512x1024 .f32) : FVec F S512x1024 .bf16 :=
  truncf .bf16 (exp2 (subf s (broadcastTo S512x1024 m Gen.broadcasts_S1x1024_S512x1024))) Gen.bitsLt_bf16_f32
/-- The rescaling `2 ^ (m - m')`. -/
def alpha (m m' : FVec F S1x1024 .f32) : FVec F S1x1024 .f32 := exp2 (subf m m')

/-- A stream's running maximum and accumulator. -/
abbrev St (F : FTy → Type) [FloatOps F] := FVec F S1x1024 .f32 × FVec F S144x1024 .f32

/-- The running state after one more block of scores `s` and values `vb`. -/
def upd (p : St F) (s : FVec F S512x1024 .f32) (vb : Vec F S1x1x128x512 .bf16) : St F :=
  (maximumf p.1 (Gen.k0_pay53 s), Gen.k0_pay54 Gen.k0_pay324 (pp (maximumf p.1 (Gen.k0_pay53 s)) s) (alpha p.1 (maximumf p.1 (Gen.k0_pay53 s))) p.2 vb)

/-- The state after the first `j` key blocks, for queries `q`. -/
def FL (q : FVec F S128x1024 .bf16) (K : Vec F S1x8192x128 .bf16) (V : Vec F S1x16x128x512 .bf16) : ℕ → St F
  | 0 => (Gen.k0_pay331, Gen.k0_pay330)
  | j + 1 => upd (FL q K V j) (Gen.k0_pay1 q (kblk K j)) (vblk V j)

/-- The diagonal block's scores, the keys after the query masked. -/
def dmask (s : FVec F S512x1024 .f32) : FVec F S512x1024 .f32 :=
  select Gen.k0_pay265 s (broadcast S512x1024 (Scalar.ofBits (F := F) .f32 0xFF800000#32))
/-- The same for the right half of the block after it. -/
def dmaskr (s : FVec F S512x512 .f32) : FVec F S512x512 .f32 :=
  select Gen.k0_pay245 s (broadcast S512x512 (Scalar.ofBits (F := F) .f32 0xFF800000#32))

/-- The right half of the accumulator. -/
def accR (a : FVec F S144x1024 .f32) : FVec F S144x512 .f32 :=
  VecWindow.window (s := S144x1024) a ![0, 512] S144x512.size Gen.inb_S144x1024_S144x512_0_512

/-- The right half of the running maximum after the last block. -/
def dmax (m : FVec F S1x1024 .f32) (s : FVec F S512x512 .f32) : FVec F S1x512 .f32 :=
  Gen.k0_pay261 m (dmaskr s)

/-- The accumulator's right half after the last block (only the tile's right half of queries sees it). -/
def updr (p : St F) (s : FVec F S512x512 .f32) (vb : Vec F S1x1x128x512 .bf16) : FVec F S144x512 .f32 :=
  Gen.k0_pay305 Gen.k0_pay324 (Gen.k0_pay262 p.1 (dmaskr s)) (exp2 (subf (Gen.k0_pay260 p.1) (dmax p.1 s))) (accR p.2) vb

/-- The accumulator after both diagonal blocks. -/
def fin (p : St F) (s : FVec F S512x1024 .f32) (vb : Vec F S1x1x128x512 .bf16) (s' : FVec F S512x512 .f32) (vb' : Vec F S1x1x128x512 .bf16) :
    FVec F S144x1024 .f32 :=
  VecWindow.put (s := S144x1024) (upd p (dmask s) vb).2 ![0, 512] S144x512.size (updr (upd p (dmask s) vb) s' vb')

/-- The right half of a score block. -/
def rightHalf (s : FVec F S512x1024 .f32) : FVec F S512x512 .f32 :=
  fun y => s (ix2 (y 0) ⟨(y 1).val + 512, by have := idx2_lt1 y; omega⟩)

/-- A stream's accumulator at the end of query tile `n`. The last block's scores are computed for the right half only, except
    at the first tile. -/
def accN (q : FVec F S128x1024 .bf16) (K : Vec F S1x8192x128 .bf16) (V : Vec F S1x16x128x512 .bf16) (n : ℕ) : FVec F S144x1024 .f32 :=
  fin (FL q K V (2 * n)) (Gen.k0_pay1 q (kblk K (2 * n))) (vblk V (2 * n))
    (if n = 0 then rightHalf (Gen.k0_pay1 q (kblk K 1)) else Gen.k0_pay197 q (kblk K (2 * n + 1))) (vblk V (2 * n + 1))

/-- Accumulator rows 0 to 127: the weighted values' sums. -/
def accO (a : FVec F S144x1024 .f32) : FVec F S128x1024 .f32 :=
  VecWindow.window (s := S144x1024) a ![0, 0] S128x1024.size Gen.inb_S144x1024_S128x1024_0_0
/-- Accumulator row 128: the weights' sum. -/
def accL (a : FVec F S144x1024 .f32) : FVec F S1x1024 .f32 :=
  VecWindow.window (s := S144x1024) a ![128, 0] S1x1024.size Gen.inb_S144x1024_S1x1024_128_0

/-- What the body stores for query tile `n`. -/
def outN (l0 l1 l2 l3 : Vec F S1x64 .f32) (g : Vec F S1x128 .f32) (Q : Vec F S1x128x1024 .bf16) (K : Vec F S1x8192x128 .bf16) (V : Vec F S1x16x128x512 .bf16) (n : ℕ) :
    Vec F S1x1024x128 .bf16 :=
  Gen.k0_pay340 (Gen.k0_pay339 l0 l1) l2 l3 (accO (accN (Gen.k0_pay319 Q) K V n)) (accL (accN (Gen.k0_pay319 Q) K V n))
    (accO (accN (Gen.k0_pay321 Q) K V n)) (accL (accN (Gen.k0_pay321 Q) K V n)) g

end Cert.Proof.KernelIdeal

end
-- ==== Proof.Loop.lean ====
module

public import proofs.«01_k».proof.Proof.Vals

/-! The counted loop over the earlier key blocks: each trip absorbs two blocks whose scores are already in the slabs and
computes the scores of the next two. Before trip `k` each stream's state is the one after `2 k` blocks. -/

@[expose] public section

set_option maxRecDepth 16384

noncomputable section

namespace Cert.Proof.KernelIdeal

open Cert.KernelIdeal
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU (nD : Nat) (τ : Topo) : Type := UR sig nD τ
abbrev 𝒱₀ : Variants := Variants.none
local notation "𝕄" => MT nD τ sig Unit (Elt F) ℕ (UU nD τ) ℕ

/-- One block's update where the block's column maxima `x` are at hand: the pieces of `upd`. -/
def updX (v41 : FVec F S16x512 .bf16) (m x : FVec F S1x1024 .f32) (a : FVec F S144x1024 .f32) (s : FVec F S512x1024 .f32) (vb : Vec F S1x1x128x512 .bf16) :
    FVec F S144x1024 .f32 :=
  Gen.k0_pay54 v41 (pp (maximumf m x) s) (alpha m (maximumf m x)) a vb

theorem upd_eq (p : St F) (s : FVec F S512x1024 .f32) (vb : Vec F S1x1x128x512 .bf16) :
    upd p s vb = (maximumf p.1 (Gen.k0_pay53 s), updX Gen.k0_pay324 p.1 (Gen.k0_pay53 s) p.2 s vb) := rfl

/-- The whole accumulator's rectangle. -/
abbrev accRect : Rect S144x1024 := Rect.unit ![0, 0] S144x1024.size Gen.inb_S144x1024_S144x1024_0_0

/-- Eight slabs joined. -/
def cat8 (l0 l1 l2 l3 l4 l5 l6 l7 : Vec F S1x512x128 .f32) : FVec F S512x1024 .f32 :=
  concatenate S512x1024 1 [⟨S512x128, shapeCast S512x128 l0 Gen.shapeCasts_S1x512x128_S512x128⟩,
    ⟨S512x128, shapeCast S512x128 l1 Gen.shapeCasts_S1x512x128_S512x128⟩,
    ⟨S512x128, shapeCast S512x128 l2 Gen.shapeCasts_S1x512x128_S512x128⟩,
    ⟨S512x128, shapeCast S512x128 l3 Gen.shapeCasts_S1x512x128_S512x128⟩,
    ⟨S512x128, shapeCast S512x128 l4 Gen.shapeCasts_S1x512x128_S512x128⟩,
    ⟨S512x128, shapeCast S512x128 l5 Gen.shapeCasts_S1x512x128_S512x128⟩,
    ⟨S512x128, shapeCast S512x128 l6 Gen.shapeCasts_S1x512x128_S512x128⟩,
    ⟨S512x128, shapeCast S512x128 l7 Gen.shapeCasts_S1x512x128_S512x128⟩]
    Gen.concatenates_S512x128_S512x128_S512x128_S512x128_S512x128_S512x128_S512x128_S512x128_S512x1024_d1

theorem cat8_read {κ : Kind} {sp : Space} (v : View sig κ sp S8x520x128 .f32) (f : v.ty.Contents (Elt F)) :
    cat8 (v.readAt (Elt F) (Rect.unit (s := S8x520x128) ![0, 0, 0] S1x512x128.size Gen.inb_S8x520x128_S1x512x128_0_0_0).toLoadRect f)
      (v.readAt (Elt F) (Rect.unit (s := S8x520x128) ![1, 0, 0] S1x512x128.size Gen.inb_S8x520x128_S1x512x128_1_0_0).toLoadRect f)
      (v.readAt (Elt F) (Rect.unit (s := S8x520x128) ![2, 0, 0] S1x512x128.size Gen.inb_S8x520x128_S1x512x128_2_0_0).toLoadRect f)
      (v.readAt (Elt F) (Rect.unit (s := S8x520x128) ![3, 0, 0] S1x512x128.size Gen.inb_S8x520x128_S1x512x128_3_0_0).toLoadRect f)
      (v.readAt (Elt F) (Rect.unit (s := S8x520x128) ![4, 0, 0] S1x512x128.size Gen.inb_S8x520x128_S1x512x128_4_0_0).toLoadRect f)
      (v.readAt (Elt F) (Rect.unit (s := S8x520x128) ![5, 0, 0] S1x512x128.size Gen.inb_S8x520x128_S1x512x128_5_0_0).toLoadRect f)
      (v.readAt (Elt F) (Rect.unit (s := S8x520x128) ![6, 0, 0] S1x512x128.size Gen.inb_S8x520x128_S1x512x128_6_0_0).toLoadRect f)
      (v.readAt (Elt F) (Rect.unit (s := S8x520x128) ![7, 0, 0] S1x512x128.size Gen.inb_S8x520x128_S1x512x128_7_0_0).toLoadRect f) = catS (v.read (Elt F) f) :=
  cat8_eq _

/-- Four slabs joined. -/
def cat4 (l4 l5 l6 l7 : Vec F S1x512x128 .f32) : FVec F S512x512 .f32 :=
  concatenate S512x512 1 [⟨S512x128, shapeCast S512x128 l4 Gen.shapeCasts_S1x512x128_S512x128⟩,
    ⟨S512x128, shapeCast S512x128 l5 Gen.shapeCasts_S1x512x128_S512x128⟩,
    ⟨S512x128, shapeCast S512x128 l6 Gen.shapeCasts_S1x512x128_S512x128⟩,
    ⟨S512x128, shapeCast S512x128 l7 Gen.shapeCasts_S1x512x128_S512x128⟩]
    Gen.concatenates_S512x128_S512x128_S512x128_S512x128_S512x512_d1

theorem cat4_read {κ : Kind} {sp : Space} (v : View sig κ sp S8x520x128 .f32) (f : v.ty.Contents (Elt F)) :
    cat4 (v.readAt (Elt F) (Rect.unit (s := S8x520x128) ![4, 0, 0] S1x512x128.size Gen.inb_S8x520x128_S1x512x128_4_0_0).toLoadRect f)
      (v.readAt (Elt F) (Rect.unit (s := S8x520x128) ![5, 0, 0] S1x512x128.size Gen.inb_S8x520x128_S1x512x128_5_0_0).toLoadRect f)
      (v.readAt (Elt F) (Rect.unit (s := S8x520x128) ![6, 0, 0] S1x512x128.size Gen.inb_S8x520x128_S1x512x128_6_0_0).toLoadRect f)
      (v.readAt (Elt F) (Rect.unit (s := S8x520x128) ![7, 0, 0] S1x512x128.size Gen.inb_S8x520x128_S1x512x128_7_0_0).toLoadRect f) = catR (v.read (Elt F) f) :=
  cat4_eq _

section Payloads
variable (v41 : FVec F S16x512 .bf16) (m x y : FVec F S1x1024 .f32) (a : FVec F S144x1024 .f32) (vb : Vec F S1x1x128x512 .bf16) (l0 l1 l2 l3 l4 l5 l6 l7 : Vec F S1x512x128 .f32)

theorem first1 : Gen.k0_pay54 v41 (Gen.k0_pay42 m x l0 l1 l2 l3 l4 l5 l6 l7) (Gen.k0_pay43 m x) a vb = updX v41 m x a (cat8 l0 l1 l2 l3 l4 l5 l6 l7) vb := rfl
theorem first2 : Gen.k0_pay89 v41 (Gen.k0_pay76 m x l0 l1 l2 l3 l4 l5 l6 l7) (Gen.k0_pay77 m x) a vb = updX v41 m x a (cat8 l0 l1 l2 l3 l4 l5 l6 l7) vb := rfl
theorem second1 : Gen.k0_pay74 (Gen.k0_pay72 (Gen.k0_pay61 (Gen.k0_pay41 m x) (Gen.k0_pay55 y (Gen.k0_pay41 m x))) a)
      (Gen.k0_pay73 v41 (Gen.k0_pay60 (Gen.k0_pay55 y (Gen.k0_pay41 m x)) (Gen.k0_pay56 l0) (Gen.k0_pay57 l1) (Gen.k0_pay58 l2) (Gen.k0_pay59 l3) l4 l5 l6 l7) vb)
    = updX v41 (maximumf m x) y a (cat8 l0 l1 l2 l3 l4 l5 l6 l7) vb := rfl
theorem second2 : Gen.k0_pay334 v41 (Gen.k0_pay94 (Gen.k0_pay90 y (Gen.k0_pay75 m x)) (Gen.k0_pay91 l0) (Gen.k0_pay92 l1) (Gen.k0_pay93 l2) l3 l4 l5 l6 l7)
      (Gen.k0_pay107 (Gen.k0_pay95 (Gen.k0_pay75 m x) (Gen.k0_pay90 y (Gen.k0_pay75 m x))) a) vb
    = updX v41 (maximumf m x) y a (cat8 l0 l1 l2 l3 l4 l5 l6 l7) vb := rfl
end Payloads

/-- The slabs as the body stores them. -/
theorem slabs_eq (s : FVec F S512x1024 .f32) : slabs s = [⟨slabR 7 (by decide), shapeCast S1x512x128 (extractStridedSlice S512x128 ![0, 896] s Gen.slices_S512x1024_o0_896_S512x128) Gen.shapeCasts_S512x128_S1x512x128⟩,
    ⟨slabR 6 (by decide), shapeCast S1x512x128 (extractStridedSlice S512x128 ![0, 768] s Gen.slices_S512x1024_o0_768_S512x128) Gen.shapeCasts_S512x128_S1x512x128⟩,
    ⟨slabR 5 (by decide), shapeCast S1x512x128 (extractStridedSlice S512x128 ![0, 640] s Gen.slices_S512x1024_o0_640_S512x128) Gen.shapeCasts_S512x128_S1x512x128⟩,
    ⟨slabR 4 (by decide), shapeCast S1x512x128 (extractStridedSlice S512x128 ![0, 512] s Gen.slices_S512x1024_o0_512_S512x128) Gen.shapeCasts_S512x128_S1x512x128⟩,
    ⟨slabR 3 (by decide), shapeCast S1x512x128 (extractStridedSlice S512x128 ![0, 384] s Gen.slices_S512x1024_o0_384_S512x128) Gen.shapeCasts_S512x128_S1x512x128⟩,
    ⟨slabR 2 (by decide), shapeCast S1x512x128 (extractStridedSlice S512x128 ![0, 256] s Gen.slices_S512x1024_o0_256_S512x128) Gen.shapeCasts_S512x128_S1x512x128⟩,
    ⟨slabR 1 (by decide), shapeCast S1x512x128 (extractStridedSlice S512x128 ![0, 128] s Gen.slices_S512x1024_o0_128_S512x128) Gen.shapeCasts_S512x128_S1x512x128⟩,
    ⟨slabR 0 (by decide), shapeCast S1x512x128 (extractStridedSlice S512x128 ![0, 0] s Gen.slices_S512x1024_o0_0_S512x128) Gen.shapeCasts_S512x128_S1x512x128⟩] := by
  unfold slabs
  refine congrArg₂ _ (congrArg _ (slab_eq s 7 (by decide) 896 rfl _).symm) (congrArg₂ _ (congrArg _ (slab_eq s 6 (by decide) 768 rfl _).symm)
    (congrArg₂ _ (congrArg _ (slab_eq s 5 (by decide) 640 rfl _).symm) (congrArg₂ _ (congrArg _ (slab_eq s 4 (by decide) 512 rfl _).symm)
    (congrArg₂ _ (congrArg _ (slab_eq s 3 (by decide) 384 rfl _).symm) (congrArg₂ _ (congrArg _ (slab_eq s 2 (by decide) 256 rfl _).symm)
    (congrArg₂ _ (congrArg _ (slab_eq s 1 (by decide) 128 rfl _).symm) (congrArg₂ _ (congrArg _ (slab_eq s 0 (by decide) 0 rfl _).symm) rfl)))))))

/-- The right slabs as the body stores them. -/
theorem slabsr_eq (s : FVec F S512x512 .f32) : slabsr s = [⟨slabR 7 (by decide), shapeCast S1x512x128 (extractStridedSlice S512x128 ![0, 384] s Gen.slices_S512x512_o0_384_S512x128) Gen.shapeCasts_S512x128_S1x512x128⟩,
    ⟨slabR 6 (by decide), shapeCast S1x512x128 (extractStridedSlice S512x128 ![0, 256] s Gen.slices_S512x512_o0_256_S512x128) Gen.shapeCasts_S512x128_S1x512x128⟩,
    ⟨slabR 5 (by decide), shapeCast S1x512x128 (extractStridedSlice S512x128 ![0, 128] s Gen.slices_S512x512_o0_128_S512x128) Gen.shapeCasts_S512x128_S1x512x128⟩,
    ⟨slabR 4 (by decide), shapeCast S1x512x128 (extractStridedSlice S512x128 ![0, 0] s Gen.slices_S512x512_o0_0_S512x128) Gen.shapeCasts_S512x128_S1x512x128⟩] := by
  unfold slabsr
  refine congrArg₂ _ (congrArg _ (slabr_eq s 3 (by decide) 384 rfl _).symm) (congrArg₂ _ (congrArg _ (slabr_eq s 2 (by decide) 256 rfl _).symm)
    (congrArg₂ _ (congrArg _ (slabr_eq s 1 (by decide) 128 rfl _).symm) (congrArg₂ _ (congrArg _ (slabr_eq s 0 (by decide) 0 rfl _).symm) rfl)))

section Trip

variable (c : Dev nD) (i : grid0.Coords) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x128 .f32) (harg7 : arg7.IsWhole) (arg8 : Memref sig .tc .vmem S1x128x1024 .bf16) (harg8 : arg8.IsWhole) (arg9 : Memref sig .tc .vmem S1x128x1024 .bf16) (harg9 : arg9.IsWhole) (arg10 : Memref sig .tc .vmem S1x8192x128 .bf16) (harg10 : arg10.IsWhole) (arg11 : Memref sig .tc .vmem S1x16x128x512 .bf16) (harg11 : arg11.IsWhole) (arg12 : Memref sig .tc .vmem S1x1024x128 .bf16) (harg12 : arg12.IsWhole) (arg13 : Memref sig .tc .vmem S8x520x128 .f32) (harg13 : arg13.IsWhole) (arg14 : Memref sig .tc .vmem S8x520x128 .f32) (harg14 : arg14.IsWhole) (arg15 : Memref sig .tc .vmem S8x520x128 .f32) (harg15 : arg15.IsWhole) (arg16 : Memref sig .tc .vmem S8x520x128 .f32) (harg16 : arg16.IsWhole) (arg17 : Memref sig .tc .vmem S144x1024 .f32) (harg17 : arg17.IsWhole) (arg18 : Memref sig .tc .vmem S144x1024 .f32) (harg18 : arg18.IsWhole) (arg19 : Memref sig .tc .vmem S4x1024 .f32) (harg19 : arg19.IsWhole)
  (arg2 : BitVec 32) (v10 v20 v30 v40 : FVec F S128x1024 .bf16) (v41 : FVec F S16x512 .bf16) (v46 : BitVec 32) (v51 : FVec F S1x1024 .f32) (v53 v55 : Vec F S1x1024 .f32) (v60 : FVec F S1x1024 .f32)

/-- A buffer held whole at given contents. -/
abbrev pt {S : Shape} {e : EltTy} (a : Memref sig .tc .vmem S e) (f : Buf (Elt F) (a.view.loc (c : Thread nD τ))) : sProp 𝕄 :=
  a.view.loc (c : Thread nD τ) ↦[a.view.set]{fullShare} f

/-- What the loop carries. -/
abbrev LAcc (F : FTy → Type) [FloatOps F] := FVec F S1x1024 .f32 × Vec F S1x1024 .f32 × Vec F S1x1024 .f32 × FVec F S1x1024 .f32 × Vec F S1x1024 .f32 × Vec F S1x1024 .f32

/-- The loop's state: what it carries and what its six buffers hold. -/
structure LS where
  a : LAcc F
  f13 : Buf (Elt F) (arg13.view.loc (c : Thread nD τ))
  f14 : Buf (Elt F) (arg14.view.loc (c : Thread nD τ))
  f15 : Buf (Elt F) (arg15.view.loc (c : Thread nD τ))
  f16 : Buf (Elt F) (arg16.view.loc (c : Thread nD τ))
  f17 : Buf (Elt F) (arg17.view.loc (c : Thread nD τ))
  f18 : Buf (Elt F) (arg18.view.loc (c : Thread nD τ))

/-- One trip on the state, for the head's keys `K` and values `V`. -/
def lstep (K : Vec F S1x8192x128 .bf16) (V : Vec F S1x16x128x512 .bf16) (k : ℕ) (s : LS (F := F) c arg13 arg14 arg15 arg16 arg17 arg18) :
    LS (F := F) c arg13 arg14 arg15 arg16 arg17 arg18 where
  a := (maximumf (maximumf s.a.1 s.a.2.1) s.a.2.2.1, Gen.k0_pay53 (Gen.k0_pay1 v10 (kblk K (2 * k + 2))), Gen.k0_pay53 (Gen.k0_pay1 v10 (kblk K (2 * k + 3))),
    maximumf (maximumf s.a.2.2.2.1 s.a.2.2.2.2.1) s.a.2.2.2.2.2, Gen.k0_pay53 (Gen.k0_pay1 v30 (kblk K (2 * k + 2))), Gen.k0_pay53 (Gen.k0_pay1 v30 (kblk K (2 * k + 3))))
  f13 := arg13.view.writes (Elt F) s.f13 (slabs (Gen.k0_pay1 v10 (kblk K (2 * k + 2))))
  f14 := arg14.view.writes (Elt F) s.f14 (slabs (Gen.k0_pay1 v10 (kblk K (2 * k + 3))))
  f15 := arg15.view.writes (Elt F) s.f15 (slabs (Gen.k0_pay1 v30 (kblk K (2 * k + 2))))
  f16 := arg16.view.writes (Elt F) s.f16 (slabs (Gen.k0_pay1 v30 (kblk K (2 * k + 3))))
  f17 := arg17.view.writes (Elt F) s.f17 [⟨accRect, updX v41 (maximumf s.a.1 s.a.2.1) s.a.2.2.1 (updX v41 s.a.1 s.a.2.1 (arg17.view.read (Elt F) s.f17) (catS (arg13.view.read (Elt F) s.f13)) (vblk V (2 * k))) (catS (arg14.view.read (Elt F) s.f14)) (vblk V (2 * k + 1))⟩, ⟨accRect, updX v41 s.a.1 s.a.2.1 (arg17.view.read (Elt F) s.f17) (catS (arg13.view.read (Elt F) s.f13)) (vblk V (2 * k))⟩]
  f18 := arg18.view.writes (Elt F) s.f18 [⟨accRect, updX v41 (maximumf s.a.2.2.2.1 s.a.2.2.2.2.1) s.a.2.2.2.2.2 (updX v41 s.a.2.2.2.1 s.a.2.2.2.2.1 (arg18.view.read (Elt F) s.f18) (catS (arg15.view.read (Elt F) s.f15)) (vblk V (2 * k))) (catS (arg16.view.read (Elt F) s.f16)) (vblk V (2 * k + 1))⟩, ⟨accRect, updX v41 s.a.2.2.2.1 s.a.2.2.2.2.1 (arg18.view.read (Elt F) s.f18) (catS (arg15.view.read (Elt F) s.f15)) (vblk V (2 * k))⟩]

/-- What the loop holds: the keys' and values' buffers unchanged, its six buffers at the state's contents. -/
abbrev lpts (g10 : Buf (Elt F) (arg10.view.loc (c : Thread nD τ))) (g11 : Buf (Elt F) (arg11.view.loc (c : Thread nD τ))) (s : LS (F := F) c arg13 arg14 arg15 arg16 arg17 arg18) : sProp 𝕄 :=
  iprop(pt c arg10 g10 ∗ pt c arg11 g11 ∗ pt c arg13 s.f13 ∗ pt c arg14 s.f14 ∗ pt c arg15 s.f15 ∗ pt c arg16 s.f16 ∗ pt c arg17 s.f17 ∗ pt c arg18 s.f18)

theorem trips_le : (k0_t1_loop i).trips ≤ 6 := by
  have h := trips1_eq i
  have : (i 2).val < 8 := (i 2).isLt
  omega

set_option maxHeartbeats 2000000 in
/-- One trip: from the state `s` to `lstep s`. -/
theorem tripRun (k : Fin (k0_t1_loop i).trips) (g10 : Buf (Elt F) (arg10.view.loc (c : Thread nD τ))) (g11 : Buf (Elt F) (arg11.view.loc (c : Thread nD τ))) (s : LS (F := F) c arg13 arg14 arg15 arg16 arg17 arg18) :
    lpts c arg10 arg11 arg13 arg14 arg15 arg16 arg17 arg18 g10 g11 s
    ⊢ wp frame (wpE (defs₀ (F := F)) 𝒱₀ (c : Thread nD τ) none) Set.univ (Gen.k0_t1_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v10 v20 v30 v40 v41 v46 v51 v53 v55 v60 k s.a)
      (fun acc' => iprop(∃ f13 f14 f15 f16 f17 f18, (pt c arg10 g10 ∗ pt c arg11 g11 ∗ pt c arg13 f13 ∗ pt c arg14 f14 ∗ pt c arg15 f15 ∗ pt c arg16 f16 ∗ pt c arg17 f17 ∗ pt c arg18 f18) ∗ ⌜acc' = (lstep c arg13 arg14 arg15 arg16 arg17 arg18 v10 v30 v41 (arg10.view.read (Elt F) g10) (arg11.view.read (Elt F) g11) k s).a ∧ f13 = (lstep c arg13 arg14 arg15 arg16 arg17 arg18 v10 v30 v41 (arg10.view.read (Elt F) g10) (arg11.view.read (Elt F) g11) k s).f13 ∧ f14 = (lstep c arg13 arg14 arg15 arg16 arg17 arg18 v10 v30 v41 (arg10.view.read (Elt F) g10) (arg11.view.read (Elt F) g11) k s).f14 ∧ f15 = (lstep c arg13 arg14 arg15 arg16 arg17 arg18 v10 v30 v41 (arg10.view.read (Elt F) g10) (arg11.view.read (Elt F) g11) k s).f15 ∧ f16 = (lstep c arg13 arg14 arg15 arg16 arg17 arg18 v10 v30 v41 (arg10.view.read (Elt F) g10) (arg11.view.read (Elt F) g11) k s).f16 ∧ f17 = (lstep c arg13 arg14 arg15 arg16 arg17 arg18 v10 v30 v41 (arg10.view.read (Elt F) g10) (arg11.view.read (Elt F) g11) k s).f17 ∧ f18 = (lstep c arg13 arg14 arg15 arg16 arg17 arg18 v10 v30 v41 (arg10.view.read (Elt F) g10) (arg11.view.read (Elt F) g11) k s).f18⌝)) := by
  obtain ⟨⟨a21, a22, a23, a24, a25, a26⟩, f13, f14, f15, f16, f17, f18⟩ := s
  have hk : k.val < 6 := Nat.lt_of_lt_of_le k.isLt (trips_le i)
  have ek0 : ∀ inb, arg10.view.readAt (Elt F) (Rect.unit (s := S1x8192x128) (k0_off1 i k 0#32) S1x512x128.size inb).toLoadRect g10 = kblk (arg10.view.read (Elt F) g10) (2 * k.val + 2) :=
    fun inb => readAt_kblk arg10.view g10 _ _ (by omega) (off1_eq i k 0) inb
  have ek1 : ∀ inb, arg10.view.readAt (Elt F) (Rect.unit (s := S1x8192x128) (k0_off1 i k 1#32) S1x512x128.size inb).toLoadRect g10 = kblk (arg10.view.read (Elt F) g10) (2 * k.val + 3) :=
    fun inb => readAt_kblk arg10.view g10 _ _ (by omega) (off1_eq i k 1) inb
  have ev0 : ∀ inb, arg11.view.readAt (Elt F) (Rect.unit (s := S1x16x128x512) (k0_off2 i k 0#32) S1x1x128x512.size inb).toLoadRect g11 = vblk (arg11.view.read (Elt F) g11) (2 * k.val) :=
    fun inb => readAt_vblk arg11.view g11 _ _ (by omega) (off2_eq i k 0) inb
  have ev1 : ∀ inb, arg11.view.readAt (Elt F) (Rect.unit (s := S1x16x128x512) (k0_off2 i k 1#32) S1x1x128x512.size inb).toLoadRect g11 = vblk (arg11.view.read (Elt F) g11) (2 * k.val + 1) :=
    fun inb => readAt_vblk arg11.view g11 _ _ (by omega) (off2_eq i k 1) inb
  unfold lpts
  unfold Gen.k0_t1_body
  dsimp only
  iintro ⟨H10, H11, H13, H14, H15, H16, H17, H18⟩
  sl_exec_parts
  sl_step
  iexists _, _, _, _, _, _
  isplitl [H10 H11 H13 H14 H15 H16 H17 H18]
  · isplitl [H10]; · iexact H10
    isplitl [H11]; · iexact H11
    isplitl [H13]; · iexact H13
    isplitl [H14]; · iexact H14
    isplitl [H15]; · iexact H15
    isplitl [H16]; · iexact H16
    isplitl [H17]; · iexact H17
    iexact H18
  · ipureintro
    dsimp only [lstep]
    refine ⟨?_, ?_, ?_, ?_, ?_, ?_, ?_⟩ <;> sl_unfold_run_names
    · rfl
    · rw [slabs_eq]; rfl
    · rw [slabs_eq]; rfl
    · rw [slabs_eq]; rfl
    · rw [slabs_eq]; rfl
    · rw [View.readCov_full, View.readAt_full, second1, first1, cat8_read, cat8_read]
    · rw [View.readCov_full, View.readAt_full, second2, first2, cat8_read, cat8_read]

/-- What the loop carries and its buffers hold before trip `k`: the scores of blocks `2k` and `2k + 1` for both streams,
    their column maxima, and each stream's state after `2k` blocks. -/
def LSem (q₁ q₂ : FVec F S128x1024 .bf16) (K : Vec F S1x8192x128 .bf16) (V : Vec F S1x16x128x512 .bf16) (k : ℕ) (a : LAcc F)
    (X13 X14 X15 X16 : Vec F S8x520x128 .f32) (X17 X18 : Vec F S144x1024 .f32) : Prop :=
  (catS X13 = Gen.k0_pay1 q₁ (kblk K (2 * k)) ∧ catS X14 = Gen.k0_pay1 q₁ (kblk K (2 * k + 1))
    ∧ catS X15 = Gen.k0_pay1 q₂ (kblk K (2 * k)) ∧ catS X16 = Gen.k0_pay1 q₂ (kblk K (2 * k + 1)))
  ∧ (a.2.1 = Gen.k0_pay53 (Gen.k0_pay1 q₁ (kblk K (2 * k))) ∧ a.2.2.1 = Gen.k0_pay53 (Gen.k0_pay1 q₁ (kblk K (2 * k + 1)))
    ∧ a.2.2.2.2.1 = Gen.k0_pay53 (Gen.k0_pay1 q₂ (kblk K (2 * k))) ∧ a.2.2.2.2.2 = Gen.k0_pay53 (Gen.k0_pay1 q₂ (kblk K (2 * k + 1))))
  ∧ (a.1, X17) = FL q₁ K V (2 * k) ∧ (a.2.2.2.1, X18) = FL q₂ K V (2 * k)

/-- Two blocks absorbed. -/
theorem FL_two (q : FVec F S128x1024 .bf16) (K : Vec F S1x8192x128 .bf16) (V : Vec F S1x16x128x512 .bf16) (j : ℕ) (m x y : FVec F S1x1024 .f32)
    (a : FVec F S144x1024 .f32) (s s' : FVec F S512x1024 .f32) (h : (m, a) = FL q K V j) (hs : s = Gen.k0_pay1 q (kblk K j)) (hs' : s' = Gen.k0_pay1 q (kblk K (j + 1)))
    (hx : x = Gen.k0_pay53 (Gen.k0_pay1 q (kblk K j))) (hy : y = Gen.k0_pay53 (Gen.k0_pay1 q (kblk K (j + 1)))) :
    (maximumf (maximumf m x) y, updX Gen.k0_pay324 (maximumf m x) y (updX Gen.k0_pay324 m x a s (vblk V j)) s' (vblk V (j + 1))) = FL q K V (j + 2) := by
  subst hs hs' hx hy
  show _ = upd (upd (FL q K V j) (Gen.k0_pay1 q (kblk K j)) (vblk V j)) (Gen.k0_pay1 q (kblk K (j + 1))) (vblk V (j + 1))
  rw [← h, upd_eq, upd_eq]

/-- The loop's invariant. -/
def LI (q₁ q₂ : FVec F S128x1024 .bf16) (g10 : Buf (Elt F) (arg10.view.loc (c : Thread nD τ))) (g11 : Buf (Elt F) (arg11.view.loc (c : Thread nD τ))) (k : ℕ) (a : LAcc F) : sProp 𝕄 :=
  iprop(∃ f13 f14 f15 f16 f17 f18, (pt c arg10 g10 ∗ pt c arg11 g11 ∗ pt c arg13 f13 ∗ pt c arg14 f14 ∗ pt c arg15 f15 ∗ pt c arg16 f16 ∗ pt c arg17 f17 ∗ pt c arg18 f18) ∗ ⌜LSem q₁ q₂ (arg10.view.read (Elt F) g10) (arg11.view.read (Elt F) g11) k a (arg13.view.read (Elt F) f13) (arg14.view.read (Elt F) f14) (arg15.view.read (Elt F) f15) (arg16.view.read (Elt F) f16) (arg17.view.read (Elt F) f17) (arg18.view.read (Elt F) f18)⌝)

/-- The invariant passes a trip. -/
theorem li_step (k : Fin (k0_t1_loop i).trips) (g10 : Buf (Elt F) (arg10.view.loc (c : Thread nD τ))) (g11 : Buf (Elt F) (arg11.view.loc (c : Thread nD τ))) (a : LAcc F) :
    LI c arg10 arg11 arg13 arg14 arg15 arg16 arg17 arg18 v10 v30 g10 g11 k.val a
    ⊢ wp frame (wpE (defs₀ (F := F)) 𝒱₀ (c : Thread nD τ) none) Set.univ (Gen.k0_t1_body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v10 v20 v30 v40 Gen.k0_pay324 v46 v51 v53 v55 v60 k a)
      (fun a' => LI c arg10 arg11 arg13 arg14 arg15 arg16 arg17 arg18 v10 v30 g10 g11 (k.val + 1) a') := by
  unfold LI
  iintro ⟨%f13, %f14, %f15, %f16, %f17, %f18, H, %e⟩
  iapply (wp_wand_r Idealize.ShloMosaic.frame (wpE (defs₀ (F := F)) 𝒱₀ (c : Thread nD τ) none) Set.univ)
  isplitl [H]
  · iapply (tripRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg2 v10 v20 v30 v40 Gen.k0_pay324 v46 v51 v53 v55 v60 k g10 g11 ⟨a, f13, f14, f15, f16, f17, f18⟩)
    iexact H
  · iintro %acc' ⟨%f13', %f14', %f15', %f16', %f17', %f18', H, %e'⟩
    obtain ⟨e0, e13, e14, e15, e16, e17, e18⟩ := e'
    subst e0 e13 e14 e15 e16 e17 e18
    iexists _, _, _, _, _, _
    isplitl [H]
    · iexact H
    · ipureintro
      obtain ⟨⟨s13, s14, s15, s16⟩, ⟨x1, x2, x3, x4⟩, s17, s18⟩ := e
      have e2 : 2 * (k.val + 1) = 2 * k.val + 2 := by omega
      unfold LSem
      rw [e2]
      dsimp only [lstep]
      refine ⟨⟨catS_slabs arg13.view f13 _, catS_slabs arg14.view f14 _, catS_slabs arg15.view f15 _, catS_slabs arg16.view f16 _⟩, ⟨rfl, rfl, rfl, rfl⟩, ?_, ?_⟩
      · rw [View.read_writes_full]
        exact FL_two v10 _ _ (2 * k.val) _ _ _ _ _ _ s17 s13 s14 x1 x2
      · rw [View.read_writes_full]
        exact FL_two v30 _ _ (2 * k.val) _ _ _ _ _ _ s18 s15 s16 x3 x4

end Trip

end Cert.Proof.KernelIdeal

end
-- ==== Proof.Tail.lean ====
module

public import proofs.«01_k».proof.Proof.Loop

/-! What a grid point's run leaves, read off its stores. -/

@[expose] public section

set_option maxRecDepth 16384

noncomputable section

namespace Cert.Proof.KernelIdeal

open Cert.KernelIdeal
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-- Row `r` of the maxima's buffer. -/
def row (X : Vec F S4x1024 .f32) (r : Fin 4) : FVec F S1x1024 .f32 := fun y => X (ix2 r (y 1))

/-- The slabs and maxima are ready for the queries `Q`: for each stream, the scores against the first two key blocks and
    their column maxima. -/
def Ready (Q : Vec F S1x128x1024 .bf16) (K : Vec F S1x8192x128 .bf16) (X13 X14 X15 X16 : Vec F S8x520x128 .f32) (X19 : Vec F S4x1024 .f32) : Prop :=
  (catS X13 = Gen.k0_pay1 (Gen.k0_pay319 Q) (kblk K 0) ∧ catS X14 = Gen.k0_pay1 (Gen.k0_pay319 Q) (kblk K 1)
    ∧ catS X15 = Gen.k0_pay1 (Gen.k0_pay321 Q) (kblk K 0) ∧ catS X16 = Gen.k0_pay1 (Gen.k0_pay321 Q) (kblk K 1))
  ∧ row X19 0 = Gen.k0_pay53 (Gen.k0_pay1 (Gen.k0_pay319 Q) (kblk K 0))
  ∧ row X19 1 = Gen.k0_pay53 (Gen.k0_pay1 (Gen.k0_pay319 Q) (kblk K 1))
  ∧ row X19 2 = Gen.k0_pay53 (Gen.k0_pay1 (Gen.k0_pay321 Q) (kblk K 0))
  ∧ row X19 3 = Gen.k0_pay53 (Gen.k0_pay1 (Gen.k0_pay321 Q) (kblk K 1))

/-- A row loaded through a slice of two rows. -/
theorem readAt_row {κ : Kind} {sp : Space} (v : View sig κ sp S4x1024 .f32) (f : v.ty.Contents (Elt F)) (a b : ℕ) (r : Fin 4) (hr : a + b = r.val)
    (inb : ∀ d, (![a, 0] : Fin 2 → ℕ) d + S2x1024.size d ≤ S4x1024.size d) (inb' : ∀ d, (![b, 0] : Fin 2 → ℕ) d + S1x1024.size d ≤ S2x1024.size d) (h) :
    v.readAt (Elt F) ((Rect.unit (s := S4x1024) ![a, 0] S2x1024.size inb).withinL (Rect.unit (s := S2x1024) ![b, 0] S1x1024.size inb').toLoadRect h) f
      = row (v.read (Elt F) f) r := by
  funext y
  refine congrArg (v.read (Elt F) f) (funext fun d => Fin.ext ?_)
  have h0 : (y 0).val < 1 := (y 0).isLt
  match d with
  | ⟨0, _⟩ => show (a + b) + 1 * (y 0).val = r.val; omega
  | ⟨1, _⟩ => show (0 + 0) + 1 * (y 1).val = (y 1).val; omega

section Payloads
variable (v41 : FVec F S16x512 .bf16) (m x y : FVec F S1x1024 .f32) (a : FVec F S144x1024 .f32) (vb : Vec F S1x1x128x512 .bf16) (l0 l1 l2 l3 l4 l5 l6 l7 : Vec F S1x512x128 .f32)

theorem third1 : Gen.k0_pay188 v41 (Gen.k0_pay176 m x l0 l1 l2 l3 l4 l5 l6 l7) (Gen.k0_pay177 m x) a vb = updX v41 m x a (cat8 l0 l1 l2 l3 l4 l5 l6 l7) vb := rfl
theorem third2 : Gen.k0_pay202 v41 (Gen.k0_pay195 (Gen.k0_pay189 y (Gen.k0_pay175 m x)) (Gen.k0_pay190 l0) (Gen.k0_pay191 l1) (Gen.k0_pay192 l2) (Gen.k0_pay193 l3) (Gen.k0_pay194 l4) l5 l6 l7)
      (Gen.k0_pay196 (Gen.k0_pay175 m x) (Gen.k0_pay189 y (Gen.k0_pay175 m x))) a vb
    = updX v41 (maximumf m x) y a (cat8 l0 l1 l2 l3 l4 l5 l6 l7) vb := rfl
theorem fourth1 : Gen.k0_pay220 (Gen.k0_pay219 v41 (Gen.k0_pay208 (Gen.k0_pay203 m x) (Gen.k0_pay204 l0) (Gen.k0_pay205 l1) (Gen.k0_pay206 l2) (Gen.k0_pay207 l3) l4 l5 l6 l7)
      (Gen.k0_pay209 m (Gen.k0_pay203 m x)) a vb) = updX v41 m x a (cat8 l0 l1 l2 l3 l4 l5 l6 l7) vb := rfl
theorem fourth2 : Gen.k0_pay336 (Gen.k0_pay229 v41 (Gen.k0_pay222 y (Gen.k0_pay203 m x) l0 l1 l2 l3 l4 l5 l6 l7) (Gen.k0_pay223 y (Gen.k0_pay203 m x)) a vb)
    = updX v41 (maximumf m x) y a (cat8 l0 l1 l2 l3 l4 l5 l6 l7) vb := rfl
theorem max1 : Gen.k0_pay189 y (Gen.k0_pay175 m x) = maximumf (maximumf m x) y := rfl
theorem max2 : Gen.k0_pay221 y (Gen.k0_pay203 m x) = maximumf (maximumf m x) y := rfl

variable (q : FVec F S128x1024 .bf16) (kb : Vec F S1x512x128 .bf16)

theorem slabs1 : [⟨Rect.unit (s := S8x520x128) ![7, 0, 0] S1x512x128.size Gen.inb_S8x520x128_S1x512x128_7_0_0, Gen.k0_pay187 (Gen.k0_pay178 q kb)⟩,
    ⟨Rect.unit (s := S8x520x128) ![6, 0, 0] S1x512x128.size Gen.inb_S8x520x128_S1x512x128_6_0_0, Gen.k0_pay186 (Gen.k0_pay185 q kb)⟩,
    ⟨Rect.unit (s := S8x520x128) ![5, 0, 0] S1x512x128.size Gen.inb_S8x520x128_S1x512x128_5_0_0, Gen.k0_pay184 q kb⟩,
    ⟨Rect.unit (s := S8x520x128) ![4, 0, 0] S1x512x128.size Gen.inb_S8x520x128_S1x512x128_4_0_0, Gen.k0_pay183 q kb⟩,
    ⟨Rect.unit (s := S8x520x128) ![3, 0, 0] S1x512x128.size Gen.inb_S8x520x128_S1x512x128_3_0_0, Gen.k0_pay182 q kb⟩,
    ⟨Rect.unit (s := S8x520x128) ![2, 0, 0] S1x512x128.size Gen.inb_S8x520x128_S1x512x128_2_0_0, Gen.k0_pay181 q kb⟩,
    ⟨Rect.unit (s := S8x520x128) ![1, 0, 0] S1x512x128.size Gen.inb_S8x520x128_S1x512x128_1_0_0, Gen.k0_pay180 q kb⟩,
    ⟨Rect.unit (s := S8x520x128) ![0, 0, 0] S1x512x128.size Gen.inb_S8x520x128_S1x512x128_0_0_0, Gen.k0_pay179 q kb⟩] = slabs (Gen.k0_pay1 q kb) := by rw [slabs_eq]; rfl
theorem slabs2 : [⟨Rect.unit (s := S8x520x128) ![7, 0, 0] S1x512x128.size Gen.inb_S8x520x128_S1x512x128_7_0_0, Gen.k0_pay218 (Gen.k0_pay210 q kb)⟩,
    ⟨Rect.unit (s := S8x520x128) ![6, 0, 0] S1x512x128.size Gen.inb_S8x520x128_S1x512x128_6_0_0, Gen.k0_pay217 (Gen.k0_pay210 q kb)⟩,
    ⟨Rect.unit (s := S8x520x128) ![5, 0, 0] S1x512x128.size Gen.inb_S8x520x128_S1x512x128_5_0_0, Gen.k0_pay216 (Gen.k0_pay210 q kb)⟩,
    ⟨Rect.unit (s := S8x520x128) ![4, 0, 0] S1x512x128.size Gen.inb_S8x520x128_S1x512x128_4_0_0, Gen.k0_pay215 (Gen.k0_pay210 q kb)⟩,
    ⟨Rect.unit (s := S8x520x128) ![3, 0, 0] S1x512x128.size Gen.inb_S8x520x128_S1x512x128_3_0_0, Gen.k0_pay214 (Gen.k0_pay210 q kb)⟩,
    ⟨Rect.unit (s := S8x520x128) ![2, 0, 0] S1x512x128.size Gen.inb_S8x520x128_S1x512x128_2_0_0, Gen.k0_pay213 q kb⟩,
    ⟨Rect.unit (s := S8x520x128) ![1, 0, 0] S1x512x128.size Gen.inb_S8x520x128_S1x512x128_1_0_0, Gen.k0_pay212 q kb⟩,
    ⟨Rect.unit (s := S8x520x128) ![0, 0, 0] S1x512x128.size Gen.inb_S8x520x128_S1x512x128_0_0_0, Gen.k0_pay211 q kb⟩] = slabs (Gen.k0_pay1 q kb) := by rw [slabs_eq]; rfl
theorem slabsr1 : [⟨Rect.unit (s := S8x520x128) ![7, 0, 0] S1x512x128.size Gen.inb_S8x520x128_S1x512x128_7_0_0, Gen.k0_pay201 (Gen.k0_pay197 q kb)⟩,
    ⟨Rect.unit (s := S8x520x128) ![6, 0, 0] S1x512x128.size Gen.inb_S8x520x128_S1x512x128_6_0_0, Gen.k0_pay200 q kb⟩,
    ⟨Rect.unit (s := S8x520x128) ![5, 0, 0] S1x512x128.size Gen.inb_S8x520x128_S1x512x128_5_0_0, Gen.k0_pay199 q kb⟩,
    ⟨Rect.unit (s := S8x520x128) ![4, 0, 0] S1x512x128.size Gen.inb_S8x520x128_S1x512x128_4_0_0, Gen.k0_pay198 q kb⟩] = slabsr (Gen.k0_pay197 q kb) := by rw [slabsr_eq]; rfl
theorem slabsr2 : [⟨Rect.unit (s := S8x520x128) ![7, 0, 0] S1x512x128.size Gen.inb_S8x520x128_S1x512x128_7_0_0, Gen.k0_pay228 q kb⟩,
    ⟨Rect.unit (s := S8x520x128) ![6, 0, 0] S1x512x128.size Gen.inb_S8x520x128_S1x512x128_6_0_0, Gen.k0_pay227 q kb⟩,
    ⟨Rect.unit (s := S8x520x128) ![5, 0, 0] S1x512x128.size Gen.inb_S8x520x128_S1x512x128_5_0_0, Gen.k0_pay226 q kb⟩,
    ⟨Rect.unit (s := S8x520x128) ![4, 0, 0] S1x512x128.size Gen.inb_S8x520x128_S1x512x128_4_0_0, Gen.k0_pay225 q kb⟩] = slabsr (Gen.k0_pay197 q kb) := by rw [slabsr_eq]; rfl
end Payloads

/-- The last block's scores for the tile's right half, as they stand when the diagonal is reached. -/
def lastS (q : FVec F S128x1024 .bf16) (K : Vec F S1x8192x128 .bf16) (n : ℕ) : FVec F S512x512 .f32 :=
  if n = 0 then rightHalf (Gen.k0_pay1 q (kblk K 1)) else Gen.k0_pay197 q (kblk K (2 * n + 1))

section Diag
variable (m : FVec F S1x1024 .f32) (a : FVec F S144x1024 .f32) (A : Vec F S144x512 .f32) (vb vb' : Vec F S1x1x128x512 .bf16) (l0 l1 l2 l3 l4 l5 l6 l7 r4 r5 r6 r7 : Vec F S1x512x128 .f32)
  (M : FVec F S1x1024 .f32)

/-- The right half's update from the pieces at hand. -/
def updR (M : FVec F S1x1024 .f32) (s : FVec F S512x512 .f32) (A : Vec F S144x512 .f32) (vb : Vec F S1x1x128x512 .bf16) : FVec F S144x512 .f32 :=
  Gen.k0_pay305 Gen.k0_pay324 (Gen.k0_pay262 M (dmaskr s)) (exp2 (subf (Gen.k0_pay260 M) (dmax M s))) A vb

theorem diag1 : Gen.k0_pay244 Gen.k0_pay324 m (Gen.k0_pay230 l0 l1 l2 l3 l4 l5 l6 l7) a vb = (upd (m, a) (dmask (cat8 l0 l1 l2 l3 l4 l5 l6 l7)) vb).2 := rfl
theorem diag1m : Gen.k0_pay243 m (Gen.k0_pay230 l0 l1 l2 l3 l4 l5 l6 l7) = (upd (m, a) (dmask (cat8 l0 l1 l2 l3 l4 l5 l6 l7)) vb).1 := rfl
theorem diag2 : Gen.k0_pay280 Gen.k0_pay324 m (Gen.k0_pay267 Gen.k0_pay265 (Gen.k0_pay266 l0 l1 l2 l3 l4 l5 l6 l7) (FloatOps.ofBits FTy.f32 4286578688#32)) a vb
    = (upd (m, a) (dmask (cat8 l0 l1 l2 l3 l4 l5 l6 l7)) vb).2 := rfl
theorem diag2m : Gen.k0_pay279 m (Gen.k0_pay267 Gen.k0_pay265 (Gen.k0_pay266 l0 l1 l2 l3 l4 l5 l6 l7) (FloatOps.ofBits FTy.f32 4286578688#32))
    = (upd (m, a) (dmask (cat8 l0 l1 l2 l3 l4 l5 l6 l7)) vb).1 := rfl
theorem right1 : Gen.k0_pay264 Gen.k0_pay324 (Gen.k0_pay262 M (Gen.k0_pay248 Gen.k0_pay245 (Gen.k0_pay246 r4) (Gen.k0_pay247 r5) r6 r7))
      (Gen.k0_pay263 M (Gen.k0_pay248 Gen.k0_pay245 (Gen.k0_pay246 r4) (Gen.k0_pay247 r5) r6 r7) A) vb' = updR M (cat4 r4 r5 r6 r7) A vb' := rfl
theorem right2 : Gen.k0_pay337 Gen.k0_pay324 (Gen.k0_pay292 M) (Gen.k0_pay293 M (Gen.k0_pay281 r4 r5 r6 r7)) (Gen.k0_pay294 M (Gen.k0_pay281 r4 r5 r6 r7)) A vb'
    = updR M (cat4 r4 r5 r6 r7) A vb' := rfl

variable (Q : Vec F S1x128x1024 .bf16) (q : FVec F S128x1024 .bf16) (kb : Vec F S1x512x128 .bf16)
theorem next1 : Gen.k0_pay320 Q = Gen.k0_pay319 Q := rfl
theorem next2 : Gen.k0_pay323 (iota .tc S128x1024 32 [0] Gen.iota_S128x1024_d0_w32) (Gen.k0_pay322 Q) = Gen.k0_pay321 Q := rfl
theorem slabs3 : [⟨Rect.unit (s := S8x520x128) ![7, 0, 0] S1x512x128.size Gen.inb_S8x520x128_S1x512x128_7_0_0, Gen.k0_pay241 (extractStridedSlice S512x128 ![0, 896] (Gen.k0_pay231 q kb) Gen.slices_S512x1024_o0_896_S512x128)⟩,
    ⟨Rect.unit (s := S8x520x128) ![6, 0, 0] S1x512x128.size Gen.inb_S8x520x128_S1x512x128_6_0_0, shapeCast S1x512x128 (extractStridedSlice S512x128 ![0, 768] (Gen.k0_pay231 q kb) Gen.slices_S512x1024_o0_768_S512x128) Gen.shapeCasts_S512x128_S1x512x128⟩,
    ⟨Rect.unit (s := S8x520x128) ![5, 0, 0] S1x512x128.size Gen.inb_S8x520x128_S1x512x128_5_0_0, shapeCast S1x512x128 (extractStridedSlice S512x128 ![0, 640] (Gen.k0_pay231 q kb) Gen.slices_S512x1024_o0_640_S512x128) Gen.shapeCasts_S512x128_S1x512x128⟩,
    ⟨Rect.unit (s := S8x520x128) ![4, 0, 0] S1x512x128.size Gen.inb_S8x520x128_S1x512x128_4_0_0, shapeCast S1x512x128 (extractStridedSlice S512x128 ![0, 512] (Gen.k0_pay231 q kb) Gen.slices_S512x1024_o0_512_S512x128) Gen.shapeCasts_S512x128_S1x512x128⟩,
    ⟨Rect.unit (s := S8x520x128) ![3, 0, 0] S1x512x128.size Gen.inb_S8x520x128_S1x512x128_3_0_0, shapeCast S1x512x128 (extractStridedSlice S512x128 ![0, 384] (Gen.k0_pay231 q kb) Gen.slices_S512x1024_o0_384_S512x128) Gen.shapeCasts_S512x128_S1x512x128⟩,
    ⟨Rect.unit (s := S8x520x128) ![2, 0, 0] S1x512x128.size Gen.inb_S8x520x128_S1x512x128_2_0_0, shapeCast S1x512x128 (extractStridedSlice S512x128 ![0, 256] (Gen.k0_pay231 q kb) Gen.slices_S512x1024_o0_256_S512x128) Gen.shapeCasts_S512x128_S1x512x128⟩,
    ⟨Rect.unit (s := S8x520x128) ![1, 0, 0] S1x512x128.size Gen.inb_S8x520x128_S1x512x128_1_0_0, shapeCast S1x512x128 (extractStridedSlice S512x128 ![0, 128] (Gen.k0_pay231 q kb) Gen.slices_S512x1024_o0_128_S512x128) Gen.shapeCasts_S512x128_S1x512x128⟩,
    ⟨Rect.unit (s := S8x520x128) ![0, 0, 0] S1x512x128.size Gen.inb_S8x520x128_S1x512x128_0_0_0, shapeCast S1x512x128 (Gen.k0_pay232 q kb) Gen.shapeCasts_S512x128_S1x512x128⟩] = slabs (Gen.k0_pay1 q kb) := by rw [slabs_eq]; rfl
theorem slabs4 : [⟨Rect.unit (s := S8x520x128) ![7, 0, 0] S1x512x128.size Gen.inb_S8x520x128_S1x512x128_7_0_0, Gen.k0_pay258 (Gen.k0_pay249 q kb)⟩,
    ⟨Rect.unit (s := S8x520x128) ![6, 0, 0] S1x512x128.size Gen.inb_S8x520x128_S1x512x128_6_0_0, Gen.k0_pay257 (Gen.k0_pay249 q kb)⟩,
    ⟨Rect.unit (s := S8x520x128) ![5, 0, 0] S1x512x128.size Gen.inb_S8x520x128_S1x512x128_5_0_0, Gen.k0_pay256 (Gen.k0_pay249 q kb)⟩,
    ⟨Rect.unit (s := S8x520x128) ![4, 0, 0] S1x512x128.size Gen.inb_S8x520x128_S1x512x128_4_0_0, Gen.k0_pay255 (Gen.k0_pay254 q kb)⟩,
    ⟨Rect.unit (s := S8x520x128) ![3, 0, 0] S1x512x128.size Gen.inb_S8x520x128_S1x512x128_3_0_0, Gen.k0_pay253 q kb⟩,
    ⟨Rect.unit (s := S8x520x128) ![2, 0, 0] S1x512x128.size Gen.inb_S8x520x128_S1x512x128_2_0_0, Gen.k0_pay252 q kb⟩,
    ⟨Rect.unit (s := S8x520x128) ![1, 0, 0] S1x512x128.size Gen.inb_S8x520x128_S1x512x128_1_0_0, Gen.k0_pay251 q kb⟩,
    ⟨Rect.unit (s := S8x520x128) ![0, 0, 0] S1x512x128.size Gen.inb_S8x520x128_S1x512x128_0_0_0, Gen.k0_pay250 q kb⟩] = slabs (Gen.k0_pay1 q kb) := by rw [slabs_eq]; rfl
theorem slabs5 : [⟨Rect.unit (s := S8x520x128) ![7, 0, 0] S1x512x128.size Gen.inb_S8x520x128_S1x512x128_7_0_0, Gen.k0_pay277 (Gen.k0_pay268 q kb)⟩,
    ⟨Rect.unit (s := S8x520x128) ![6, 0, 0] S1x512x128.size Gen.inb_S8x520x128_S1x512x128_6_0_0, Gen.k0_pay276 (Gen.k0_pay275 q kb)⟩,
    ⟨Rect.unit (s := S8x520x128) ![5, 0, 0] S1x512x128.size Gen.inb_S8x520x128_S1x512x128_5_0_0, Gen.k0_pay274 q kb⟩,
    ⟨Rect.unit (s := S8x520x128) ![4, 0, 0] S1x512x128.size Gen.inb_S8x520x128_S1x512x128_4_0_0, Gen.k0_pay273 q kb⟩,
    ⟨Rect.unit (s := S8x520x128) ![3, 0, 0] S1x512x128.size Gen.inb_S8x520x128_S1x512x128_3_0_0, Gen.k0_pay272 q kb⟩,
    ⟨Rect.unit (s := S8x520x128) ![2, 0, 0] S1x512x128.size Gen.inb_S8x520x128_S1x512x128_2_0_0, Gen.k0_pay271 q kb⟩,
    ⟨Rect.unit (s := S8x520x128) ![1, 0, 0] S1x512x128.size Gen.inb_S8x520x128_S1x512x128_1_0_0, Gen.k0_pay270 q kb⟩,
    ⟨Rect.unit (s := S8x520x128) ![0, 0, 0] S1x512x128.size Gen.inb_S8x520x128_S1x512x128_0_0_0, Gen.k0_pay269 q kb⟩] = slabs (Gen.k0_pay1 q kb) := by rw [slabs_eq]; rfl
theorem slabs6 : [⟨Rect.unit (s := S8x520x128) ![7, 0, 0] S1x512x128.size Gen.inb_S8x520x128_S1x512x128_7_0_0, Gen.k0_pay290 (Gen.k0_pay282 q kb)⟩,
    ⟨Rect.unit (s := S8x520x128) ![6, 0, 0] S1x512x128.size Gen.inb_S8x520x128_S1x512x128_6_0_0, Gen.k0_pay289 (Gen.k0_pay282 q kb)⟩,
    ⟨Rect.unit (s := S8x520x128) ![5, 0, 0] S1x512x128.size Gen.inb_S8x520x128_S1x512x128_5_0_0, Gen.k0_pay288 (Gen.k0_pay282 q kb)⟩,
    ⟨Rect.unit (s := S8x520x128) ![4, 0, 0] S1x512x128.size Gen.inb_S8x520x128_S1x512x128_4_0_0, Gen.k0_pay287 (Gen.k0_pay282 q kb)⟩,
    ⟨Rect.unit (s := S8x520x128) ![3, 0, 0] S1x512x128.size Gen.inb_S8x520x128_S1x512x128_3_0_0, Gen.k0_pay286 (Gen.k0_pay282 q kb)⟩,
    ⟨Rect.unit (s := S8x520x128) ![2, 0, 0] S1x512x128.size Gen.inb_S8x520x128_S1x512x128_2_0_0, Gen.k0_pay285 q kb⟩,
    ⟨Rect.unit (s := S8x520x128) ![1, 0, 0] S1x512x128.size Gen.inb_S8x520x128_S1x512x128_1_0_0, Gen.k0_pay284 q kb⟩,
    ⟨Rect.unit (s := S8x520x128) ![0, 0, 0] S1x512x128.size Gen.inb_S8x520x128_S1x512x128_0_0_0, Gen.k0_pay283 q kb⟩] = slabs (Gen.k0_pay1 q kb) := by rw [slabs_eq]; rfl
theorem row0 : Gen.k0_pay242 (Gen.k0_pay231 q kb) = Gen.k0_pay53 (Gen.k0_pay1 q kb) :=
  shapeCast_self _ _
theorem row1 : Gen.k0_pay259 (Gen.k0_pay249 q kb) = Gen.k0_pay53 (Gen.k0_pay1 q kb) :=
  shapeCast_self _ _
theorem row2 : Gen.k0_pay278 (Gen.k0_pay268 q kb) = Gen.k0_pay53 (Gen.k0_pay1 q kb) :=
  shapeCast_self _ _
theorem row3 : Gen.k0_pay291 (Gen.k0_pay282 q kb) = Gen.k0_pay53 (Gen.k0_pay1 q kb) :=
  shapeCast_self _ _
end Diag

section Views
variable {κ : Kind} {sp : Space} (v : View sig κ sp S144x1024 .f32)

/-- The accumulator's right half, and its rows, after both diagonal stores. -/
theorem acc_right (w : FVec F S144x1024 .f32) : v.readCov (Val := Elt F) [⟨Rect.unit (s := S144x1024) ![0, 0] S144x1024.size Gen.inb_S144x1024_S144x1024_0_0, w⟩]
    (Rect.unit (s := S144x1024) ![0, 512] S144x512.size Gen.inb_S144x1024_S144x512_0_512).toLoadRect = accR w := by
  unfold View.readCov accR
  rw [View.readAt_unit v _ _ rfl, View.read_writes_full]
theorem acc_O (w : FVec F S144x1024 .f32) (r : FVec F S144x512 .f32) :
    v.readCov (Val := Elt F) [⟨Rect.unit (s := S144x1024) ![0, 512] S144x512.size Gen.inb_S144x1024_S144x512_0_512, r⟩, ⟨Rect.unit (s := S144x1024) ![0, 0] S144x1024.size Gen.inb_S144x1024_S144x1024_0_0, w⟩]
    (Rect.unit (s := S144x1024) ![0, 0] S128x1024.size Gen.inb_S144x1024_S128x1024_0_0).toLoadRect = accO (VecWindow.put (s := S144x1024) w ![0, 512] S144x512.size r) := by
  unfold View.readCov accO
  rw [View.readAt_unit v _ _ rfl, View.read_writes_cons_put v _ _ _ _ rfl, View.read_writes_full]
theorem acc_L (w : FVec F S144x1024 .f32) (r : FVec F S144x512 .f32) :
    v.readCov (Val := Elt F) [⟨Rect.unit (s := S144x1024) ![0, 512] S144x512.size Gen.inb_S144x1024_S144x512_0_512, r⟩, ⟨Rect.unit (s := S144x1024) ![0, 0] S144x1024.size Gen.inb_S144x1024_S144x1024_0_0, w⟩]
    (Rect.unit (s := S144x1024) ![128, 0] S1x1024.size Gen.inb_S144x1024_S1x1024_128_0).toLoadRect = accL (VecWindow.put (s := S144x1024) w ![0, 512] S144x512.size r) := by
  unfold View.readCov accL
  rw [View.readAt_unit v _ _ rfl, View.read_writes_cons_put v _ _ _ _ rfl, View.read_writes_full]

variable (u : View sig κ sp S4x1024 .f32) (f : u.ty.Contents (Elt F))

theorem read_row_cons (p q : ℕ) (inb : ∀ d, (![p, 0] : Fin 2 → ℕ) d + S2x1024.size d ≤ S4x1024.size d) (inb' : ∀ d, (![q, 0] : Fin 2 → ℕ) d + S1x1024.size d ≤ S2x1024.size d) (h)
    (w : Vec F S1x1024 .f32) (L : List (View.Piece (Elt F) S4x1024 .f32)) (r : Fin 4) :
    row (u.read (Elt F) (u.writes (Elt F) f (⟨(Rect.unit (s := S4x1024) ![p, 0] S2x1024.size inb).within (Rect.unit (s := S2x1024) ![q, 0] S1x1024.size inb') h, w⟩ :: L))) r
      = if p + q = r.val then w else row (u.read (Elt F) (u.writes (Elt F) f L)) r := by
  funext y
  have h1 := idx2_lt1 y
  have h0 := idx2_lt0 y
  have inb2 : ∀ d, (fun d => (![p, 0] : Fin 2 → ℕ) d + (![q, 0] : Fin 2 → ℕ) d) d + S1x1024.size d ≤ S4x1024.size d := fun d => by
    have e1 := inb d
    have e2 := inb' d
    show (![p, 0] : Fin 2 → ℕ) d + (![q, 0] : Fin 2 → ℕ) d + _ ≤ _
    omega
  by_cases hr : p + q = r.val
  · rw [if_pos hr]
    refine View.read_writes_cons_unit_of_mem u f inb2 w L (ix2 r (y 1)) y rfl fun d => ?_
    match d with
    | ⟨0, _⟩ => show r.val = p + q + (y 0).val; omega
    | ⟨1, _⟩ => show (y 1).val = 0 + 0 + (y 1).val; omega
  · rw [if_neg hr]
    refine View.read_writes_cons_unit_of_not_mem u f inb2 w L (ix2 r (y 1)) rfl ⟨0, by decide⟩ ?_
    show r.val < p + q ∨ p + q + 1 ≤ r.val
    omega
end Views

/-- What the body stores, from the state at the diagonal. -/
theorem out_eq (l0 l1 l2 l3 : Vec F S1x64 .f32) (g : Vec F S1x128 .f32) (Q : Vec F S1x128x1024 .bf16) (K : Vec F S1x8192x128 .bf16) (V : Vec F S1x16x128x512 .bf16) (n : ℕ) (p₁ p₂ : St F)
    (s₁ s₂ : FVec F S512x1024 .f32) (t₁ t₂ : FVec F S512x512 .f32) (h₁ : p₁ = FL (Gen.k0_pay319 Q) K V (2 * n)) (h₂ : p₂ = FL (Gen.k0_pay321 Q) K V (2 * n))
    (e₁ : s₁ = Gen.k0_pay1 (Gen.k0_pay319 Q) (kblk K (2 * n))) (e₂ : s₂ = Gen.k0_pay1 (Gen.k0_pay321 Q) (kblk K (2 * n)))
    (k₁ : t₁ = lastS (Gen.k0_pay319 Q) K n) (k₂ : t₂ = lastS (Gen.k0_pay321 Q) K n) :
    Gen.k0_pay340 (Gen.k0_pay339 l0 l1) l2 l3 (accO (fin p₁ s₁ (vblk V (2 * n)) t₁ (vblk V (2 * n + 1)))) (accL (fin p₁ s₁ (vblk V (2 * n)) t₁ (vblk V (2 * n + 1))))
      (accO (fin p₂ s₂ (vblk V (2 * n)) t₂ (vblk V (2 * n + 1)))) (accL (fin p₂ s₂ (vblk V (2 * n)) t₂ (vblk V (2 * n + 1)))) g
    = outN l0 l1 l2 l3 g Q K V n := by
  subst h₁ h₂ e₁ e₂ k₁ k₂
  rfl

end Cert.Proof.KernelIdeal

end
-- ==== Proof.Ends.lean ====
module

public import proofs.«01_k».proof.Proof.Tail

/-! The two ends of a head's row of blocks: what the first block stores into its slabs before the diagonal, and the last
block's diagonal, after which there is no next block to make ready. -/

@[expose] public section

set_option maxRecDepth 16384

noncomputable section

namespace Cert.Proof.KernelIdeal

open Cert.KernelIdeal
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

section First
variable (q : FVec F S128x1024 .bf16) (kb : Vec F S1x512x128 .bf16)

theorem slabsA13 : [⟨Rect.unit (s := S8x520x128) ![7, 0, 0] S1x512x128.size Gen.inb_S8x520x128_S1x512x128_7_0_0, Gen.k0_pay10 (Gen.k0_pay1 q kb)⟩,
    ⟨Rect.unit (s := S8x520x128) ![6, 0, 0] S1x512x128.size Gen.inb_S8x520x128_S1x512x128_6_0_0, Gen.k0_pay9 (Gen.k0_pay8 q kb)⟩,
    ⟨Rect.unit (s := S8x520x128) ![5, 0, 0] S1x512x128.size Gen.inb_S8x520x128_S1x512x128_5_0_0, Gen.k0_pay7 q kb⟩,
    ⟨Rect.unit (s := S8x520x128) ![4, 0, 0] S1x512x128.size Gen.inb_S8x520x128_S1x512x128_4_0_0, Gen.k0_pay6 q kb⟩,
    ⟨Rect.unit (s := S8x520x128) ![3, 0, 0] S1x512x128.size Gen.inb_S8x520x128_S1x512x128_3_0_0, Gen.k0_pay5 q kb⟩,
    ⟨Rect.unit (s := S8x520x128) ![2, 0, 0] S1x512x128.size Gen.inb_S8x520x128_S1x512x128_2_0_0, Gen.k0_pay4 q kb⟩,
    ⟨Rect.unit (s := S8x520x128) ![1, 0, 0] S1x512x128.size Gen.inb_S8x520x128_S1x512x128_1_0_0, Gen.k0_pay3 q kb⟩,
    ⟨Rect.unit (s := S8x520x128) ![0, 0, 0] S1x512x128.size Gen.inb_S8x520x128_S1x512x128_0_0_0, Gen.k0_pay2 q kb⟩] = slabs (Gen.k0_pay1 q kb) := by rw [slabs_eq]; rfl
theorem slabsA14 : [⟨Rect.unit (s := S8x520x128) ![7, 0, 0] S1x512x128.size Gen.inb_S8x520x128_S1x512x128_7_0_0, Gen.k0_pay21 (Gen.k0_pay12 q kb)⟩,
    ⟨Rect.unit (s := S8x520x128) ![6, 0, 0] S1x512x128.size Gen.inb_S8x520x128_S1x512x128_6_0_0, Gen.k0_pay20 (Gen.k0_pay12 q kb)⟩,
    ⟨Rect.unit (s := S8x520x128) ![5, 0, 0] S1x512x128.size Gen.inb_S8x520x128_S1x512x128_5_0_0, Gen.k0_pay19 (Gen.k0_pay12 q kb)⟩,
    ⟨Rect.unit (s := S8x520x128) ![4, 0, 0] S1x512x128.size Gen.inb_S8x520x128_S1x512x128_4_0_0, Gen.k0_pay18 (Gen.k0_pay12 q kb)⟩,
    ⟨Rect.unit (s := S8x520x128) ![3, 0, 0] S1x512x128.size Gen.inb_S8x520x128_S1x512x128_3_0_0, Gen.k0_pay17 (Gen.k0_pay16 q kb)⟩,
    ⟨Rect.unit (s := S8x520x128) ![2, 0, 0] S1x512x128.size Gen.inb_S8x520x128_S1x512x128_2_0_0, Gen.k0_pay15 q kb⟩,
    ⟨Rect.unit (s := S8x520x128) ![1, 0, 0] S1x512x128.size Gen.inb_S8x520x128_S1x512x128_1_0_0, Gen.k0_pay14 q kb⟩,
    ⟨Rect.unit (s := S8x520x128) ![0, 0, 0] S1x512x128.size Gen.inb_S8x520x128_S1x512x128_0_0_0, Gen.k0_pay13 q kb⟩] = slabs (Gen.k0_pay1 q kb) := by rw [slabs_eq]; rfl
theorem slabsA15 : [⟨Rect.unit (s := S8x520x128) ![7, 0, 0] S1x512x128.size Gen.inb_S8x520x128_S1x512x128_7_0_0, Gen.k0_pay33 (extractStridedSlice S512x128 ![0, 896] (Gen.k0_pay23 q kb) Gen.slices_S512x1024_o0_896_S512x128)⟩,
    ⟨Rect.unit (s := S8x520x128) ![6, 0, 0] S1x512x128.size Gen.inb_S8x520x128_S1x512x128_6_0_0, shapeCast S1x512x128 (extractStridedSlice S512x128 ![0, 768] (Gen.k0_pay23 q kb) Gen.slices_S512x1024_o0_768_S512x128) Gen.shapeCasts_S512x128_S1x512x128⟩,
    ⟨Rect.unit (s := S8x520x128) ![5, 0, 0] S1x512x128.size Gen.inb_S8x520x128_S1x512x128_5_0_0, shapeCast S1x512x128 (extractStridedSlice S512x128 ![0, 640] (Gen.k0_pay23 q kb) Gen.slices_S512x1024_o0_640_S512x128) Gen.shapeCasts_S512x128_S1x512x128⟩,
    ⟨Rect.unit (s := S8x520x128) ![4, 0, 0] S1x512x128.size Gen.inb_S8x520x128_S1x512x128_4_0_0, shapeCast S1x512x128 (extractStridedSlice S512x128 ![0, 512] (Gen.k0_pay23 q kb) Gen.slices_S512x1024_o0_512_S512x128) Gen.shapeCasts_S512x128_S1x512x128⟩,
    ⟨Rect.unit (s := S8x520x128) ![3, 0, 0] S1x512x128.size Gen.inb_S8x520x128_S1x512x128_3_0_0, shapeCast S1x512x128 (extractStridedSlice S512x128 ![0, 384] (Gen.k0_pay23 q kb) Gen.slices_S512x1024_o0_384_S512x128) Gen.shapeCasts_S512x128_S1x512x128⟩,
    ⟨Rect.unit (s := S8x520x128) ![2, 0, 0] S1x512x128.size Gen.inb_S8x520x128_S1x512x128_2_0_0, shapeCast S1x512x128 (extractStridedSlice S512x128 ![0, 256] (Gen.k0_pay23 q kb) Gen.slices_S512x1024_o0_256_S512x128) Gen.shapeCasts_S512x128_S1x512x128⟩,
    ⟨Rect.unit (s := S8x520x128) ![1, 0, 0] S1x512x128.size Gen.inb_S8x520x128_S1x512x128_1_0_0, shapeCast S1x512x128 (extractStridedSlice S512x128 ![0, 128] (Gen.k0_pay23 q kb) Gen.slices_S512x1024_o0_128_S512x128) Gen.shapeCasts_S512x128_S1x512x128⟩,
    ⟨Rect.unit (s := S8x520x128) ![0, 0, 0] S1x512x128.size Gen.inb_S8x520x128_S1x512x128_0_0_0, shapeCast S1x512x128 (Gen.k0_pay24 q kb) Gen.shapeCasts_S512x128_S1x512x128⟩] = slabs (Gen.k0_pay1 q kb) := by rw [slabs_eq]; rfl
theorem slabsA16 : [⟨Rect.unit (s := S8x520x128) ![7, 0, 0] S1x512x128.size Gen.inb_S8x520x128_S1x512x128_7_0_0, Gen.k0_pay328 (Gen.k0_pay35 q kb)⟩,
    ⟨Rect.unit (s := S8x520x128) ![6, 0, 0] S1x512x128.size Gen.inb_S8x520x128_S1x512x128_6_0_0, Gen.k0_pay327 (Gen.k0_pay35 q kb)⟩,
    ⟨Rect.unit (s := S8x520x128) ![5, 0, 0] S1x512x128.size Gen.inb_S8x520x128_S1x512x128_5_0_0, Gen.k0_pay326 (Gen.k0_pay35 q kb)⟩,
    ⟨Rect.unit (s := S8x520x128) ![4, 0, 0] S1x512x128.size Gen.inb_S8x520x128_S1x512x128_4_0_0, Gen.k0_pay325 (Gen.k0_pay40 q kb)⟩,
    ⟨Rect.unit (s := S8x520x128) ![3, 0, 0] S1x512x128.size Gen.inb_S8x520x128_S1x512x128_3_0_0, Gen.k0_pay39 q kb⟩,
    ⟨Rect.unit (s := S8x520x128) ![2, 0, 0] S1x512x128.size Gen.inb_S8x520x128_S1x512x128_2_0_0, Gen.k0_pay38 q kb⟩,
    ⟨Rect.unit (s := S8x520x128) ![1, 0, 0] S1x512x128.size Gen.inb_S8x520x128_S1x512x128_1_0_0, Gen.k0_pay37 q kb⟩,
    ⟨Rect.unit (s := S8x520x128) ![0, 0, 0] S1x512x128.size Gen.inb_S8x520x128_S1x512x128_0_0_0, Gen.k0_pay36 q kb⟩] = slabs (Gen.k0_pay1 q kb) := by rw [slabs_eq]; rfl

theorem catR_first {κ : Kind} {sp : Space} (v : View sig κ sp S8x520x128 .f32) (f : v.ty.Contents (Elt F)) (K : Vec F S1x8192x128 .bf16) (n : ℕ) (hn : n = 0) :
    catR (v.read (Elt F) (v.writes (Elt F) f (slabs (Gen.k0_pay1 q (kblk K 1))))) = lastS q K n := by
  unfold lastS
  rw [if_pos hn]
  funext y
  exact catR_slabs v f _ y

theorem start1 (K : Vec F S1x8192x128 .bf16) (V : Vec F S1x16x128x512 .bf16) (n : ℕ) (hn : n = 0) : ((Gen.k0_pay331, Gen.k0_pay330) : St F) = FL q K V (2 * n) := by
  subst hn; rfl
theorem start2 (K : Vec F S1x8192x128 .bf16) (V : Vec F S1x16x128x512 .bf16) (n : ℕ) (hn : n = 0) : ((Gen.k0_pay333, Gen.k0_pay332) : St F) = FL q K V (2 * n) := by
  subst hn; rfl
end First

section Last
variable (m : FVec F S1x1024 .f32) (a : FVec F S144x1024 .f32) (A : Vec F S144x512 .f32) (vb vb' : Vec F S1x1x128x512 .bf16) (l0 l1 l2 l3 l4 l5 l6 l7 r4 r5 r6 r7 : Vec F S1x512x128 .f32)
  (M : FVec F S1x1024 .f32)

theorem diag3 : Gen.k0_pay299 Gen.k0_pay324 (Gen.k0_pay297 m l0 l1 l2 l3 l4 l5 l6 l7) (Gen.k0_pay298 m l0 l1 l2 l3 l4 l5 l6 l7) a vb = (upd (m, a) (dmask (cat8 l0 l1 l2 l3 l4 l5 l6 l7)) vb).2 := rfl
theorem diag3m : Gen.k0_pay296 m l0 l1 l2 l3 l4 l5 l6 l7 = (upd (m, a) (dmask (cat8 l0 l1 l2 l3 l4 l5 l6 l7)) vb).1 := rfl
theorem diag4 : Gen.k0_pay315 Gen.k0_pay324 m Gen.k0_pay306 (Gen.k0_pay307 l0) (Gen.k0_pay308 l1) (Gen.k0_pay309 l2) (Gen.k0_pay310 l3) (Gen.k0_pay311 l4) (Gen.k0_pay312 l5) l6 l7 a vb
    = (upd (m, a) (dmask (cat8 l0 l1 l2 l3 l4 l5 l6 l7)) vb).2 := rfl
theorem diag4m : Gen.k0_pay314 m Gen.k0_pay306 (Gen.k0_pay307 l0) (Gen.k0_pay308 l1) (Gen.k0_pay309 l2) (Gen.k0_pay310 l3) (Gen.k0_pay311 l4) (Gen.k0_pay312 l5) l6 l7
    = (upd (m, a) (dmask (cat8 l0 l1 l2 l3 l4 l5 l6 l7)) vb).1 := rfl
theorem right3 : Gen.k0_pay305 Gen.k0_pay324 (Gen.k0_pay303 M r4 r5 r6 r7) (Gen.k0_pay304 M r4 r5 r6 r7) A vb' = updR M (cat4 r4 r5 r6 r7) A vb' := rfl
theorem right4 : Gen.k0_pay338 Gen.k0_pay324 M Gen.k0_pay316 (Gen.k0_pay317 r4) (Gen.k0_pay318 r5) r6 r7 A vb' = updR M (cat4 r4 r5 r6 r7) A vb' := rfl
end Last

end Cert.Proof.KernelIdeal

end
-- ==== Proof.BodyA.lean ====
module

public import proofs.«01_k».proof.Proof.Ends

/-! One grid point's run: what the body stores, and what it leaves ready for the next point of the same head. -/

@[expose] public section

set_option maxRecDepth 16384

noncomputable section

namespace Cert.Proof.KernelIdeal

open Cert.KernelIdeal
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

section Body

variable (c : Dev nD) (i : grid0.Coords) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x128 .f32) (harg7 : arg7.IsWhole) (arg8 : Memref sig .tc .vmem S1x128x1024 .bf16) (harg8 : arg8.IsWhole) (arg9 : Memref sig .tc .vmem S1x128x1024 .bf16) (harg9 : arg9.IsWhole) (arg10 : Memref sig .tc .vmem S1x8192x128 .bf16) (harg10 : arg10.IsWhole) (arg11 : Memref sig .tc .vmem S1x16x128x512 .bf16) (harg11 : arg11.IsWhole) (arg12 : Memref sig .tc .vmem S1x1024x128 .bf16) (harg12 : arg12.IsWhole) (arg13 : Memref sig .tc .vmem S8x520x128 .f32) (harg13 : arg13.IsWhole) (arg14 : Memref sig .tc .vmem S8x520x128 .f32) (harg14 : arg14.IsWhole) (arg15 : Memref sig .tc .vmem S8x520x128 .f32) (harg15 : arg15.IsWhole) (arg16 : Memref sig .tc .vmem S8x520x128 .f32) (harg16 : arg16.IsWhole) (arg17 : Memref sig .tc .vmem S144x1024 .f32) (harg17 : arg17.IsWhole) (arg18 : Memref sig .tc .vmem S144x1024 .f32) (harg18 : arg18.IsWhole) (arg19 : Memref sig .tc .vmem S4x1024 .f32) (harg19 : arg19.IsWhole)

set_option maxHeartbeats 8000000 in
theorem caseA (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) (f17 : Buf (Elt F) (arg17.view.loc (c : Thread nD τ))) (f18 : Buf (Elt F) (arg18.view.loc (c : Thread nD τ))) (f19 : Buf (Elt F) (arg19.view.loc (c : Thread nD τ))) (hn0 : (i 2).val = 0) :
    iprop(pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19)
    ⊢ wp frame (wpE (defs₀ (F := F)) 𝒱₀ (c : Thread nD τ) none) Set.univ (cc0_diff_attn i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
      (fun _ => iprop(∃ g12 g13 g14 g15 g16 g17 g18 g19, (pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 g12 ∗ pt c arg13 g13 ∗ pt c arg14 g14 ∗ pt c arg15 g15 ∗ pt c arg16 g16 ∗ pt c arg17 g17 ∗ pt c arg18 g18 ∗ pt c arg19 g19) ∗ ⌜arg12.view.read (Elt F) g12 = outN (arg3.view.read (Elt F) f3) (arg4.view.read (Elt F) f4) (arg5.view.read (Elt F) f5) (arg6.view.read (Elt F) f6) (arg7.view.read (Elt F) f7) (arg8.view.read (Elt F) f8) (arg10.view.read (Elt F) f10) (arg11.view.read (Elt F) f11) (i 2).val ∧ Ready (arg9.view.read (Elt F) f9) (arg10.view.read (Elt F) f10) (arg13.view.read (Elt F) g13) (arg14.view.read (Elt F) g14) (arg15.view.read (Elt F) g15) (arg16.view.read (Elt F) g16) (arg19.view.read (Elt F) g19)⌝)) := by
  have h1 : k0_cond1 i = 1#1 := (cond1_iff i).2 hn0
  have h2 : ¬ k0_cond2 i = 1#1 := fun h => (cond2_iff i).1 h hn0
  have ht1 : (k0_t1_loop i).trips = 0 := (trips1_eq i).trans (by omega)
  have ht2 : (k0_t2_loop i).trips = 0 := trips2_eq i
  have e3 : ∀ inb, arg3.view.readAt (Elt F) (Rect.unit (s := S1x64) ![0, 0] S1x64.size inb).toLoadRect f3 = (arg3.view.read (Elt F) f3) := fun inb => View.readAt_full arg3.view f3 inb
  have e4 : ∀ inb, arg4.view.readAt (Elt F) (Rect.unit (s := S1x64) ![0, 0] S1x64.size inb).toLoadRect f4 = (arg4.view.read (Elt F) f4) := fun inb => View.readAt_full arg4.view f4 inb
  have e5 : ∀ inb, arg5.view.readAt (Elt F) (Rect.unit (s := S1x64) ![0, 0] S1x64.size inb).toLoadRect f5 = (arg5.view.read (Elt F) f5) := fun inb => View.readAt_full arg5.view f5 inb
  have e6 : ∀ inb, arg6.view.readAt (Elt F) (Rect.unit (s := S1x64) ![0, 0] S1x64.size inb).toLoadRect f6 = (arg6.view.read (Elt F) f6) := fun inb => View.readAt_full arg6.view f6 inb
  have e7 : ∀ inb, arg7.view.readAt (Elt F) (Rect.unit (s := S1x128) ![0, 0] S1x128.size inb).toLoadRect f7 = (arg7.view.read (Elt F) f7) := fun inb => View.readAt_full arg7.view f7 inb
  have e8 : ∀ inb, arg8.view.readAt (Elt F) (Rect.unit (s := S1x128x1024) ![0, 0, 0] S1x128x1024.size inb).toLoadRect f8 = (arg8.view.read (Elt F) f8) := fun inb => View.readAt_full arg8.view f8 inb
  have e9 : ∀ inb, arg9.view.readAt (Elt F) (Rect.unit (s := S1x128x1024) ![0, 0, 0] S1x128x1024.size inb).toLoadRect f9 = (arg9.view.read (Elt F) f9) := fun inb => View.readAt_full arg9.view f9 inb
  have k0 : ∀ inb, arg10.view.readAt (Elt F) (Rect.unit (s := S1x8192x128) ![0, 0, 0] S1x512x128.size inb).toLoadRect f10 = kblk (arg10.view.read (Elt F) f10) 0 := fun inb => readAt_kblk arg10.view f10 _ 0 (by decide) rfl inb
  have k1 : ∀ inb, arg10.view.readAt (Elt F) (Rect.unit (s := S1x8192x128) ![0, 512, 0] S1x512x128.size inb).toLoadRect f10 = kblk (arg10.view.read (Elt F) f10) 1 := fun inb => readAt_kblk arg10.view f10 _ 1 (by decide) rfl inb
  sl_unfold [cc0_diff_attn]
  iintro ⟨H3, H4, H5, H6, H7, H8, H9, H10, H11, H12, H13, H14, H15, H16, H17, H18, H19⟩
  set_option sl_exec.stopBefore "k0_cond3" in sl_exec_parts
  sl_unfold_run_names
  generalize hy13 : arg13.view.writes (Elt F) f13 _ = y13
  generalize hy14 : arg14.view.writes (Elt F) f14 _ = y14
  generalize hy15 : arg15.view.writes (Elt F) f15 _ = y15
  generalize hy16 : arg16.view.writes (Elt F) f16 _ = y16
  generalize hy17 : arg17.view.writes (Elt F) arg17.view.junk _ = y17
  generalize hy18 : arg18.view.writes (Elt F) arg18.view.junk _ = y18
  generalize hy19 : arg19.view.writes (Elt F) arg19.view.junk _ = y19
  have hN : (i 2).val < 8 := (i 2).isLt
  have z13 : catS (arg13.view.read (Elt F) y13) = Gen.k0_pay1 (Gen.k0_pay319 (arg8.view.read (Elt F) f8)) (kblk (arg10.view.read (Elt F) f10) (2 * (i 2).val)) := by
    rw [← hy13, slabsA13, hn0]; exact catS_slabs arg13.view f13 _
  have z15 : catS (arg15.view.read (Elt F) y15) = Gen.k0_pay1 (Gen.k0_pay321 (arg8.view.read (Elt F) f8)) (kblk (arg10.view.read (Elt F) f10) (2 * (i 2).val)) := by
    rw [← hy15, slabsA15, hn0]; exact catS_slabs arg15.view f15 _
  have z14 : catR (arg14.view.read (Elt F) y14) = lastS (Gen.k0_pay319 (arg8.view.read (Elt F) f8)) (arg10.view.read (Elt F) f10) (i 2).val := by
    rw [← hy14, slabsA14]; exact catR_first _ arg14.view f14 _ _ hn0
  have z16 : catR (arg16.view.read (Elt F) y16) = lastS (Gen.k0_pay321 (arg8.view.read (Elt F) f8)) (arg10.view.read (Elt F) f10) (i 2).val := by
    rw [← hy16, slabsA16]; exact catR_first _ arg16.view f16 _ _ hn0
  generalize hm1 : Gen.k0_pay331 (F := F) = m1
  generalize hm2 : Gen.k0_pay333 (F := F) = m2
  have z17 : (m1, arg17.view.read (Elt F) y17) = FL (Gen.k0_pay319 (arg8.view.read (Elt F) f8)) (arg10.view.read (Elt F) f10) (arg11.view.read (Elt F) f11) (2 * (i 2).val) := by
    rw [← hy17, View.read_writes_full, ← hm1]; exact start1 _ _ _ _ hn0
  have z18 : (m2, arg18.view.read (Elt F) y18) = FL (Gen.k0_pay321 (arg8.view.read (Elt F) f8)) (arg10.view.read (Elt F) f10) (arg11.view.read (Elt F) f11) (2 * (i 2).val) := by
    rw [← hy18, View.read_writes_full, ← hm2]; exact start2 _ _ _ _ hn0
  clear hy13 hy14 hy15 hy16 hy17 hy18 hy19 hm1 hm2
  have hn7 : (i 2).val < 7 := by omega
  have h3 : k0_cond3 i = 1#1 := (cond3_iff i).2 hn7
  have h4 : ¬ k0_cond4 i = 1#1 := fun h => absurd ((cond4_iff i).1 h) (by omega)
  have w0 : ∀ inb, arg11.view.readAt (Elt F) (Rect.unit (s := S1x16x128x512) (k0_off7 i 0#32) S1x1x128x512.size inb).toLoadRect f11 = vblk (arg11.view.read (Elt F) f11) (2 * (i 2).val) :=
    fun inb => readAt_vblk arg11.view f11 _ _ (by omega) (Gen.k0_off7_eq i 0) inb
  have w1 : ∀ inb, arg11.view.readAt (Elt F) (Rect.unit (s := S1x16x128x512) (k0_off7 i 1#32) S1x1x128x512.size inb).toLoadRect f11 = vblk (arg11.view.read (Elt F) f11) (2 * (i 2).val + 1) :=
    fun inb => readAt_vblk arg11.view f11 _ _ (by omega) (Gen.k0_off7_eq i 1) inb
  have a17 : ∀ inb, arg17.view.readAt (Elt F) (Rect.unit (s := S144x1024) ![0, 0] S144x1024.size inb).toLoadRect y17 = arg17.view.read (Elt F) y17 := fun inb => View.readAt_full arg17.view y17 inb
  have a18 : ∀ inb, arg18.view.readAt (Elt F) (Rect.unit (s := S144x1024) ![0, 0] S144x1024.size inb).toLoadRect y18 = arg18.view.read (Elt F) y18 := fun inb => View.readAt_full arg18.view y18 inb
  sl_exec_parts
  sl_unfold_run_names
  sl_step
  iexists _, _, _, _, _, _, _, _
  isplitl [H3 H4 H5 H6 H7 H8 H9 H10 H11 H12 H13 H14 H15 H16 H17 H18 H19]
  · isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  · ipureintro
    rw [next1, next2]
    refine ⟨?_, ⟨?_, ?_, ?_, ?_⟩, ?_, ?_, ?_, ?_⟩
    · rw [View.read_writes_full, diag1, diag2, diag1m (a := arg17.view.read (Elt F) y17) (vb := vblk (arg11.view.read (Elt F) f11) (2 * (i 2).val)), diag2m (a := arg18.view.read (Elt F) y18) (vb := vblk (arg11.view.read (Elt F) f11) (2 * (i 2).val)), right1, right2, acc_right, acc_right, acc_O, acc_L, acc_O, acc_L, cat8_read, cat8_read, cat4_read, cat4_read]
      exact out_eq _ _ _ _ _ _ _ _ _ _ _ _ _ _ _ z17 z18 z13 z15 z14 z16
    · rw [slabs3]; exact catS_slabs arg13.view y13 _
    · rw [slabs4]; exact catS_slabs arg14.view y14 _
    · rw [slabs5]; exact catS_slabs arg15.view y15 _
    · rw [slabs6]; exact catS_slabs arg16.view y16 _
    · rw [read_row_cons, if_neg (by decide), read_row_cons, if_neg (by decide), read_row_cons, if_neg (by decide), read_row_cons, if_pos (by decide), row0]
    · rw [read_row_cons, if_neg (by decide), read_row_cons, if_neg (by decide), read_row_cons, if_pos (by decide), row1]
    · rw [read_row_cons, if_neg (by decide), read_row_cons, if_pos (by decide), row2]
    · rw [read_row_cons, if_pos (by decide), row3]

end Body

end Cert.Proof.KernelIdeal

end
-- ==== Proof.BodyB.lean ====
module

public import proofs.«01_k».proof.Proof.Tail

/-! One grid point's run: what the body stores, and what it leaves ready for the next point of the same head. -/

@[expose] public section

set_option maxRecDepth 16384

noncomputable section

namespace Cert.Proof.KernelIdeal

open Cert.KernelIdeal
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

section Body

variable (c : Dev nD) (i : grid0.Coords) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x128 .f32) (harg7 : arg7.IsWhole) (arg8 : Memref sig .tc .vmem S1x128x1024 .bf16) (harg8 : arg8.IsWhole) (arg9 : Memref sig .tc .vmem S1x128x1024 .bf16) (harg9 : arg9.IsWhole) (arg10 : Memref sig .tc .vmem S1x8192x128 .bf16) (harg10 : arg10.IsWhole) (arg11 : Memref sig .tc .vmem S1x16x128x512 .bf16) (harg11 : arg11.IsWhole) (arg12 : Memref sig .tc .vmem S1x1024x128 .bf16) (harg12 : arg12.IsWhole) (arg13 : Memref sig .tc .vmem S8x520x128 .f32) (harg13 : arg13.IsWhole) (arg14 : Memref sig .tc .vmem S8x520x128 .f32) (harg14 : arg14.IsWhole) (arg15 : Memref sig .tc .vmem S8x520x128 .f32) (harg15 : arg15.IsWhole) (arg16 : Memref sig .tc .vmem S8x520x128 .f32) (harg16 : arg16.IsWhole) (arg17 : Memref sig .tc .vmem S144x1024 .f32) (harg17 : arg17.IsWhole) (arg18 : Memref sig .tc .vmem S144x1024 .f32) (harg18 : arg18.IsWhole) (arg19 : Memref sig .tc .vmem S4x1024 .f32) (harg19 : arg19.IsWhole)

set_option maxHeartbeats 8000000 in
theorem caseB (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) (f17 : Buf (Elt F) (arg17.view.loc (c : Thread nD τ))) (f18 : Buf (Elt F) (arg18.view.loc (c : Thread nD τ))) (f19 : Buf (Elt F) (arg19.view.loc (c : Thread nD τ))) (hn0 : (i 2).val ≠ 0) (hn7 : (i 2).val < 7) (hr : Ready (arg8.view.read (Elt F) f8) (arg10.view.read (Elt F) f10) (arg13.view.read (Elt F) f13) (arg14.view.read (Elt F) f14) (arg15.view.read (Elt F) f15) (arg16.view.read (Elt F) f16) (arg19.view.read (Elt F) f19)) :
    iprop(pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19)
    ⊢ wp frame (wpE (defs₀ (F := F)) 𝒱₀ (c : Thread nD τ) none) Set.univ (cc0_diff_attn i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
      (fun _ => iprop(∃ g12 g13 g14 g15 g16 g17 g18 g19, (pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 g12 ∗ pt c arg13 g13 ∗ pt c arg14 g14 ∗ pt c arg15 g15 ∗ pt c arg16 g16 ∗ pt c arg17 g17 ∗ pt c arg18 g18 ∗ pt c arg19 g19) ∗ ⌜arg12.view.read (Elt F) g12 = outN (arg3.view.read (Elt F) f3) (arg4.view.read (Elt F) f4) (arg5.view.read (Elt F) f5) (arg6.view.read (Elt F) f6) (arg7.view.read (Elt F) f7) (arg8.view.read (Elt F) f8) (arg10.view.read (Elt F) f10) (arg11.view.read (Elt F) f11) (i 2).val ∧ Ready (arg9.view.read (Elt F) f9) (arg10.view.read (Elt F) f10) (arg13.view.read (Elt F) g13) (arg14.view.read (Elt F) g14) (arg15.view.read (Elt F) g15) (arg16.view.read (Elt F) g16) (arg19.view.read (Elt F) g19)⌝)) := by
  have h1 : ¬ k0_cond1 i = 1#1 := fun h => hn0 ((cond1_iff i).1 h)
  have ht2 : (k0_t2_loop i).trips = 0 := trips2_eq i
  have e3 : ∀ inb, arg3.view.readAt (Elt F) (Rect.unit (s := S1x64) ![0, 0] S1x64.size inb).toLoadRect f3 = (arg3.view.read (Elt F) f3) := fun inb => View.readAt_full arg3.view f3 inb
  have e4 : ∀ inb, arg4.view.readAt (Elt F) (Rect.unit (s := S1x64) ![0, 0] S1x64.size inb).toLoadRect f4 = (arg4.view.read (Elt F) f4) := fun inb => View.readAt_full arg4.view f4 inb
  have e5 : ∀ inb, arg5.view.readAt (Elt F) (Rect.unit (s := S1x64) ![0, 0] S1x64.size inb).toLoadRect f5 = (arg5.view.read (Elt F) f5) := fun inb => View.readAt_full arg5.view f5 inb
  have e6 : ∀ inb, arg6.view.readAt (Elt F) (Rect.unit (s := S1x64) ![0, 0] S1x64.size inb).toLoadRect f6 = (arg6.view.read (Elt F) f6) := fun inb => View.readAt_full arg6.view f6 inb
  have e7 : ∀ inb, arg7.view.readAt (Elt F) (Rect.unit (s := S1x128) ![0, 0] S1x128.size inb).toLoadRect f7 = (arg7.view.read (Elt F) f7) := fun inb => View.readAt_full arg7.view f7 inb
  have e8 : ∀ inb, arg8.view.readAt (Elt F) (Rect.unit (s := S1x128x1024) ![0, 0, 0] S1x128x1024.size inb).toLoadRect f8 = (arg8.view.read (Elt F) f8) := fun inb => View.readAt_full arg8.view f8 inb
  have e9 : ∀ inb, arg9.view.readAt (Elt F) (Rect.unit (s := S1x128x1024) ![0, 0, 0] S1x128x1024.size inb).toLoadRect f9 = (arg9.view.read (Elt F) f9) := fun inb => View.readAt_full arg9.view f9 inb
  have k0 : ∀ inb, arg10.view.readAt (Elt F) (Rect.unit (s := S1x8192x128) ![0, 0, 0] S1x512x128.size inb).toLoadRect f10 = kblk (arg10.view.read (Elt F) f10) 0 := fun inb => readAt_kblk arg10.view f10 _ 0 (by decide) rfl inb
  have k1 : ∀ inb, arg10.view.readAt (Elt F) (Rect.unit (s := S1x8192x128) ![0, 512, 0] S1x512x128.size inb).toLoadRect f10 = kblk (arg10.view.read (Elt F) f10) 1 := fun inb => readAt_kblk arg10.view f10 _ 1 (by decide) rfl inb
  sl_unfold [cc0_diff_attn]
  iintro ⟨H3, H4, H5, H6, H7, H8, H9, H10, H11, H12, H13, H14, H15, H16, H17, H18, H19⟩
  sl_exec_parts
  sl_for (LI c arg10 arg11 arg13 arg14 arg15 arg16 arg17 arg18 (Gen.k0_pay319 (arg8.view.read (Elt F) f8)) (Gen.k0_pay321 (arg8.view.read (Elt F) f8)) f10 f11) $$ [H10 H11 H13 H14 H15 H16 H17 H18]
  case region =>
    intro k a
    exact li_step c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ _ _ _ _ _ _ _ _ k f10 f11 a
  · unfold LI
    iexists _, _, _, _, _, _
    isplitl [H10 H11 H13 H14 H15 H16 H17 H18]
    · isplitl [H10]; · iexact H10
      isplitl [H11]; · iexact H11
      isplitl [H13]; · iexact H13
      isplitl [H14]; · iexact H14
      isplitl [H15]; · iexact H15
      isplitl [H16]; · iexact H16
      isplitl [H17]; · iexact H17
      iexact H18
    · ipureintro
      sl_unfold_run_names
      obtain ⟨⟨s13, s14, s15, s16⟩, r0, r1, r2, r3⟩ := hr
      rw [View.read_writes_full, View.read_writes_full,
        readAt_row arg19.view f19 0 0 0 rfl, readAt_row arg19.view f19 0 1 1 rfl, readAt_row arg19.view f19 2 0 2 rfl, readAt_row arg19.view f19 2 1 3 rfl]
      exact ⟨⟨s13, s14, s15, s16⟩, ⟨r0, r1, r2, r3⟩, rfl, rfl⟩
  iintro %a HI
  unfold LI
  icases HI with ⟨%x13, %x14, %x15, %x16, %x17, %x18, ⟨H10, H11, H13, H14, H15, H16, H17, H18⟩, %hs⟩
  have hN : (i 2).val < 8 := (i 2).isLt
  have h2 : k0_cond2 i = 1#1 := (cond2_iff i).2 hn0
  have hT : Scf.trips (k0_t1_loop i).lb (k0_t1_loop i).ub (k0_t1_loop i).st = (i 2).val - 1 := trips1_eq i
  rw [hT] at hs
  have ek0 : ∀ inb, arg10.view.readAt (Elt F) (Rect.unit (s := S1x8192x128) (k0_off5 i 0#32) S1x512x128.size inb).toLoadRect f10 = kblk (arg10.view.read (Elt F) f10) (2 * (i 2).val) :=
    fun inb => readAt_kblk arg10.view f10 _ _ (by omega) (off5_eq i 0) inb
  have ek1 : ∀ inb, arg10.view.readAt (Elt F) (Rect.unit (s := S1x8192x128) (k0_off5 i 1#32) S1x512x128.size inb).toLoadRect f10 = kblk (arg10.view.read (Elt F) f10) (2 * (i 2).val + 1) :=
    fun inb => readAt_kblk arg10.view f10 _ _ (by omega) (off5_eq i 1) inb
  have ev0 : ∀ inb, arg11.view.readAt (Elt F) (Rect.unit (s := S1x16x128x512) (k0_off6 i 0#32) S1x1x128x512.size inb).toLoadRect f11 = vblk (arg11.view.read (Elt F) f11) (2 * ((i 2).val - 1)) :=
    fun inb => readAt_vblk arg11.view f11 _ _ (by omega) (off6_eq i hn0 0) inb
  have ev1 : ∀ inb, arg11.view.readAt (Elt F) (Rect.unit (s := S1x16x128x512) (k0_off6 i 1#32) S1x1x128x512.size inb).toLoadRect f11 = vblk (arg11.view.read (Elt F) f11) (2 * ((i 2).val - 1) + 1) :=
    fun inb => readAt_vblk arg11.view f11 _ _ (by omega) (off6_eq i hn0 1) inb
  set_option sl_exec.stopBefore "k0_cond3" in sl_exec_parts
  sl_unfold_run_names
  obtain ⟨⟨s13, s14, s15, s16⟩, ⟨t1, t2, t3, t4⟩, s17, s18⟩ := hs
  generalize hy13 : arg13.view.writes (Elt F) x13 _ = y13
  generalize hy14 : arg14.view.writes (Elt F) x14 _ = y14
  generalize hy15 : arg15.view.writes (Elt F) x15 _ = y15
  generalize hy16 : arg16.view.writes (Elt F) x16 _ = y16
  generalize hy17 : arg17.view.writes (Elt F) x17 _ = y17
  generalize hy18 : arg18.view.writes (Elt F) x18 _ = y18
  have hn2 : 2 * (i 2).val = 2 * ((i 2).val - 1) + 2 := by omega
  have z13 : catS (arg13.view.read (Elt F) y13) = Gen.k0_pay1 (Gen.k0_pay319 (arg8.view.read (Elt F) f8)) (kblk (arg10.view.read (Elt F) f10) (2 * (i 2).val)) := by
    rw [← hy13, slabs1]; exact catS_slabs arg13.view x13 _
  have z15 : catS (arg15.view.read (Elt F) y15) = Gen.k0_pay1 (Gen.k0_pay321 (arg8.view.read (Elt F) f8)) (kblk (arg10.view.read (Elt F) f10) (2 * (i 2).val)) := by
    rw [← hy15, slabs2]; exact catS_slabs arg15.view x15 _
  have z14 : catR (arg14.view.read (Elt F) y14) = lastS (Gen.k0_pay319 (arg8.view.read (Elt F) f8)) (arg10.view.read (Elt F) f10) (i 2).val := by
    unfold lastS; rw [if_neg hn0, ← hy14, slabsr1]; exact catR_slabsr arg14.view x14 _
  have z16 : catR (arg16.view.read (Elt F) y16) = lastS (Gen.k0_pay321 (arg8.view.read (Elt F) f8)) (arg10.view.read (Elt F) f10) (i 2).val := by
    unfold lastS; rw [if_neg hn0, ← hy16, slabsr2]; exact catR_slabsr arg16.view x16 _
  generalize hm1 : Gen.k0_pay189 a.2.2.1 (Gen.k0_pay175 a.1 a.2.1) = m1
  generalize hm2 : Gen.k0_pay221 a.2.2.2.2.2 (Gen.k0_pay203 a.2.2.2.1 a.2.2.2.2.1) = m2
  have z17 : (m1, arg17.view.read (Elt F) y17) = FL (Gen.k0_pay319 (arg8.view.read (Elt F) f8)) (arg10.view.read (Elt F) f10) (arg11.view.read (Elt F) f11) (2 * (i 2).val) := by
    rw [← hy17, View.read_writes_full, ← hm1, View.readCov_full, View.readAt_full arg17.view x17, third1, third2, cat8_read, cat8_read, max1, hn2]
    exact FL_two _ _ _ (2 * ((i 2).val - 1)) _ _ _ _ _ _ s17 s13 s14 t1 t2
  have z18 : (m2, arg18.view.read (Elt F) y18) = FL (Gen.k0_pay321 (arg8.view.read (Elt F) f8)) (arg10.view.read (Elt F) f10) (arg11.view.read (Elt F) f11) (2 * (i 2).val) := by
    rw [← hy18, View.read_writes_full, ← hm2, View.readCov_full, View.readAt_full arg18.view x18, fourth1, fourth2, cat8_read, cat8_read, max2, hn2]
    exact FL_two _ _ _ (2 * ((i 2).val - 1)) _ _ _ _ _ _ s18 s15 s16 t3 t4
  clear hy13 hy14 hy15 hy16 hy17 hy18 hm1 hm2
  have h3 : k0_cond3 i = 1#1 := (cond3_iff i).2 hn7
  have h4 : ¬ k0_cond4 i = 1#1 := fun h => absurd ((cond4_iff i).1 h) (by omega)
  have w0 : ∀ inb, arg11.view.readAt (Elt F) (Rect.unit (s := S1x16x128x512) (k0_off7 i 0#32) S1x1x128x512.size inb).toLoadRect f11 = vblk (arg11.view.read (Elt F) f11) (2 * (i 2).val) :=
    fun inb => readAt_vblk arg11.view f11 _ _ (by omega) (Gen.k0_off7_eq i 0) inb
  have w1 : ∀ inb, arg11.view.readAt (Elt F) (Rect.unit (s := S1x16x128x512) (k0_off7 i 1#32) S1x1x128x512.size inb).toLoadRect f11 = vblk (arg11.view.read (Elt F) f11) (2 * (i 2).val + 1) :=
    fun inb => readAt_vblk arg11.view f11 _ _ (by omega) (Gen.k0_off7_eq i 1) inb
  have a17 : ∀ inb, arg17.view.readAt (Elt F) (Rect.unit (s := S144x1024) ![0, 0] S144x1024.size inb).toLoadRect y17 = arg17.view.read (Elt F) y17 := fun inb => View.readAt_full arg17.view y17 inb
  have a18 : ∀ inb, arg18.view.readAt (Elt F) (Rect.unit (s := S144x1024) ![0, 0] S144x1024.size inb).toLoadRect y18 = arg18.view.read (Elt F) y18 := fun inb => View.readAt_full arg18.view y18 inb
  sl_exec_parts
  sl_unfold_run_names
  sl_step
  iexists _, _, _, _, _, _, _, _
  isplitl [H3 H4 H5 H6 H7 H8 H9 H10 H11 H12 H13 H14 H15 H16 H17 H18 H19]
  · isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  · ipureintro
    rw [next1, next2]
    refine ⟨?_, ⟨?_, ?_, ?_, ?_⟩, ?_, ?_, ?_, ?_⟩
    · rw [View.read_writes_full, diag1, diag2, diag1m (a := arg17.view.read (Elt F) y17) (vb := vblk (arg11.view.read (Elt F) f11) (2 * (i 2).val)), diag2m (a := arg18.view.read (Elt F) y18) (vb := vblk (arg11.view.read (Elt F) f11) (2 * (i 2).val)), right1, right2, acc_right, acc_right, acc_O, acc_L, acc_O, acc_L, cat8_read, cat8_read, cat4_read, cat4_read]
      exact out_eq _ _ _ _ _ _ _ _ _ _ _ _ _ _ _ z17 z18 z13 z15 z14 z16
    · rw [slabs3]; exact catS_slabs arg13.view y13 _
    · rw [slabs4]; exact catS_slabs arg14.view y14 _
    · rw [slabs5]; exact catS_slabs arg15.view y15 _
    · rw [slabs6]; exact catS_slabs arg16.view y16 _
    · rw [read_row_cons, if_neg (by decide), read_row_cons, if_neg (by decide), read_row_cons, if_neg (by decide), read_row_cons, if_pos (by decide), row0]
    · rw [read_row_cons, if_neg (by decide), read_row_cons, if_neg (by decide), read_row_cons, if_pos (by decide), row1]
    · rw [read_row_cons, if_neg (by decide), read_row_cons, if_pos (by decide), row2]
    · rw [read_row_cons, if_pos (by decide), row3]

end Body

end Cert.Proof.KernelIdeal

end
-- ==== Proof.BodyC.lean ====
module

public import proofs.«01_k».proof.Proof.Ends

/-! One grid point's run: what the body stores, and what it leaves ready for the next point of the same head. -/

@[expose] public section

set_option maxRecDepth 16384

noncomputable section

namespace Cert.Proof.KernelIdeal

open Cert.KernelIdeal
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

section Body

variable (c : Dev nD) (i : grid0.Coords) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x128 .f32) (harg7 : arg7.IsWhole) (arg8 : Memref sig .tc .vmem S1x128x1024 .bf16) (harg8 : arg8.IsWhole) (arg9 : Memref sig .tc .vmem S1x128x1024 .bf16) (harg9 : arg9.IsWhole) (arg10 : Memref sig .tc .vmem S1x8192x128 .bf16) (harg10 : arg10.IsWhole) (arg11 : Memref sig .tc .vmem S1x16x128x512 .bf16) (harg11 : arg11.IsWhole) (arg12 : Memref sig .tc .vmem S1x1024x128 .bf16) (harg12 : arg12.IsWhole) (arg13 : Memref sig .tc .vmem S8x520x128 .f32) (harg13 : arg13.IsWhole) (arg14 : Memref sig .tc .vmem S8x520x128 .f32) (harg14 : arg14.IsWhole) (arg15 : Memref sig .tc .vmem S8x520x128 .f32) (harg15 : arg15.IsWhole) (arg16 : Memref sig .tc .vmem S8x520x128 .f32) (harg16 : arg16.IsWhole) (arg17 : Memref sig .tc .vmem S144x1024 .f32) (harg17 : arg17.IsWhole) (arg18 : Memref sig .tc .vmem S144x1024 .f32) (harg18 : arg18.IsWhole) (arg19 : Memref sig .tc .vmem S4x1024 .f32) (harg19 : arg19.IsWhole)

set_option maxHeartbeats 8000000 in
theorem caseC (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) (f17 : Buf (Elt F) (arg17.view.loc (c : Thread nD τ))) (f18 : Buf (Elt F) (arg18.view.loc (c : Thread nD τ))) (f19 : Buf (Elt F) (arg19.view.loc (c : Thread nD τ))) (hn0 : (i 2).val ≠ 0) (hn7 : (i 2).val = 7) (hr : Ready (arg8.view.read (Elt F) f8) (arg10.view.read (Elt F) f10) (arg13.view.read (Elt F) f13) (arg14.view.read (Elt F) f14) (arg15.view.read (Elt F) f15) (arg16.view.read (Elt F) f16) (arg19.view.read (Elt F) f19)) :
    iprop(pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19)
    ⊢ wp frame (wpE (defs₀ (F := F)) 𝒱₀ (c : Thread nD τ) none) Set.univ (cc0_diff_attn i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
      (fun _ => iprop(∃ g12 g13 g14 g15 g16 g17 g18 g19, (pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 g12 ∗ pt c arg13 g13 ∗ pt c arg14 g14 ∗ pt c arg15 g15 ∗ pt c arg16 g16 ∗ pt c arg17 g17 ∗ pt c arg18 g18 ∗ pt c arg19 g19) ∗ ⌜arg12.view.read (Elt F) g12 = outN (arg3.view.read (Elt F) f3) (arg4.view.read (Elt F) f4) (arg5.view.read (Elt F) f5) (arg6.view.read (Elt F) f6) (arg7.view.read (Elt F) f7) (arg8.view.read (Elt F) f8) (arg10.view.read (Elt F) f10) (arg11.view.read (Elt F) f11) (i 2).val⌝)) := by
  have h1 : ¬ k0_cond1 i = 1#1 := fun h => hn0 ((cond1_iff i).1 h)
  have ht2 : (k0_t2_loop i).trips = 0 := trips2_eq i
  have e3 : ∀ inb, arg3.view.readAt (Elt F) (Rect.unit (s := S1x64) ![0, 0] S1x64.size inb).toLoadRect f3 = (arg3.view.read (Elt F) f3) := fun inb => View.readAt_full arg3.view f3 inb
  have e4 : ∀ inb, arg4.view.readAt (Elt F) (Rect.unit (s := S1x64) ![0, 0] S1x64.size inb).toLoadRect f4 = (arg4.view.read (Elt F) f4) := fun inb => View.readAt_full arg4.view f4 inb
  have e5 : ∀ inb, arg5.view.readAt (Elt F) (Rect.unit (s := S1x64) ![0, 0] S1x64.size inb).toLoadRect f5 = (arg5.view.read (Elt F) f5) := fun inb => View.readAt_full arg5.view f5 inb
  have e6 : ∀ inb, arg6.view.readAt (Elt F) (Rect.unit (s := S1x64) ![0, 0] S1x64.size inb).toLoadRect f6 = (arg6.view.read (Elt F) f6) := fun inb => View.readAt_full arg6.view f6 inb
  have e7 : ∀ inb, arg7.view.readAt (Elt F) (Rect.unit (s := S1x128) ![0, 0] S1x128.size inb).toLoadRect f7 = (arg7.view.read (Elt F) f7) := fun inb => View.readAt_full arg7.view f7 inb
  have e8 : ∀ inb, arg8.view.readAt (Elt F) (Rect.unit (s := S1x128x1024) ![0, 0, 0] S1x128x1024.size inb).toLoadRect f8 = (arg8.view.read (Elt F) f8) := fun inb => View.readAt_full arg8.view f8 inb
  have e9 : ∀ inb, arg9.view.readAt (Elt F) (Rect.unit (s := S1x128x1024) ![0, 0, 0] S1x128x1024.size inb).toLoadRect f9 = (arg9.view.read (Elt F) f9) := fun inb => View.readAt_full arg9.view f9 inb
  have k0 : ∀ inb, arg10.view.readAt (Elt F) (Rect.unit (s := S1x8192x128) ![0, 0, 0] S1x512x128.size inb).toLoadRect f10 = kblk (arg10.view.read (Elt F) f10) 0 := fun inb => readAt_kblk arg10.view f10 _ 0 (by decide) rfl inb
  have k1 : ∀ inb, arg10.view.readAt (Elt F) (Rect.unit (s := S1x8192x128) ![0, 512, 0] S1x512x128.size inb).toLoadRect f10 = kblk (arg10.view.read (Elt F) f10) 1 := fun inb => readAt_kblk arg10.view f10 _ 1 (by decide) rfl inb
  sl_unfold [cc0_diff_attn]
  iintro ⟨H3, H4, H5, H6, H7, H8, H9, H10, H11, H12, H13, H14, H15, H16, H17, H18, H19⟩
  sl_exec_parts
  sl_for (LI c arg10 arg11 arg13 arg14 arg15 arg16 arg17 arg18 (Gen.k0_pay319 (arg8.view.read (Elt F) f8)) (Gen.k0_pay321 (arg8.view.read (Elt F) f8)) f10 f11) $$ [H10 H11 H13 H14 H15 H16 H17 H18]
  case region =>
    intro k a
    exact li_step c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ _ _ _ _ _ _ _ _ k f10 f11 a
  · unfold LI
    iexists _, _, _, _, _, _
    isplitl [H10 H11 H13 H14 H15 H16 H17 H18]
    · isplitl [H10]; · iexact H10
      isplitl [H11]; · iexact H11
      isplitl [H13]; · iexact H13
      isplitl [H14]; · iexact H14
      isplitl [H15]; · iexact H15
      isplitl [H16]; · iexact H16
      isplitl [H17]; · iexact H17
      iexact H18
    · ipureintro
      sl_unfold_run_names
      obtain ⟨⟨s13, s14, s15, s16⟩, r0, r1, r2, r3⟩ := hr
      rw [View.read_writes_full, View.read_writes_full,
        readAt_row arg19.view f19 0 0 0 rfl, readAt_row arg19.view f19 0 1 1 rfl, readAt_row arg19.view f19 2 0 2 rfl, readAt_row arg19.view f19 2 1 3 rfl]
      exact ⟨⟨s13, s14, s15, s16⟩, ⟨r0, r1, r2, r3⟩, rfl, rfl⟩
  iintro %a HI
  unfold LI
  icases HI with ⟨%x13, %x14, %x15, %x16, %x17, %x18, ⟨H10, H11, H13, H14, H15, H16, H17, H18⟩, %hs⟩
  have hN : (i 2).val < 8 := (i 2).isLt
  have h2 : k0_cond2 i = 1#1 := (cond2_iff i).2 hn0
  have hT : Scf.trips (k0_t1_loop i).lb (k0_t1_loop i).ub (k0_t1_loop i).st = (i 2).val - 1 := trips1_eq i
  rw [hT] at hs
  have ek0 : ∀ inb, arg10.view.readAt (Elt F) (Rect.unit (s := S1x8192x128) (k0_off5 i 0#32) S1x512x128.size inb).toLoadRect f10 = kblk (arg10.view.read (Elt F) f10) (2 * (i 2).val) :=
    fun inb => readAt_kblk arg10.view f10 _ _ (by omega) (off5_eq i 0) inb
  have ek1 : ∀ inb, arg10.view.readAt (Elt F) (Rect.unit (s := S1x8192x128) (k0_off5 i 1#32) S1x512x128.size inb).toLoadRect f10 = kblk (arg10.view.read (Elt F) f10) (2 * (i 2).val + 1) :=
    fun inb => readAt_kblk arg10.view f10 _ _ (by omega) (off5_eq i 1) inb
  have ev0 : ∀ inb, arg11.view.readAt (Elt F) (Rect.unit (s := S1x16x128x512) (k0_off6 i 0#32) S1x1x128x512.size inb).toLoadRect f11 = vblk (arg11.view.read (Elt F) f11) (2 * ((i 2).val - 1)) :=
    fun inb => readAt_vblk arg11.view f11 _ _ (by omega) (off6_eq i hn0 0) inb
  have ev1 : ∀ inb, arg11.view.readAt (Elt F) (Rect.unit (s := S1x16x128x512) (k0_off6 i 1#32) S1x1x128x512.size inb).toLoadRect f11 = vblk (arg11.view.read (Elt F) f11) (2 * ((i 2).val - 1) + 1) :=
    fun inb => readAt_vblk arg11.view f11 _ _ (by omega) (off6_eq i hn0 1) inb
  set_option sl_exec.stopBefore "k0_cond3" in sl_exec_parts
  sl_unfold_run_names
  obtain ⟨⟨s13, s14, s15, s16⟩, ⟨t1, t2, t3, t4⟩, s17, s18⟩ := hs
  generalize hy13 : arg13.view.writes (Elt F) x13 _ = y13
  generalize hy14 : arg14.view.writes (Elt F) x14 _ = y14
  generalize hy15 : arg15.view.writes (Elt F) x15 _ = y15
  generalize hy16 : arg16.view.writes (Elt F) x16 _ = y16
  generalize hy17 : arg17.view.writes (Elt F) x17 _ = y17
  generalize hy18 : arg18.view.writes (Elt F) x18 _ = y18
  have hn2 : 2 * (i 2).val = 2 * ((i 2).val - 1) + 2 := by omega
  have z13 : catS (arg13.view.read (Elt F) y13) = Gen.k0_pay1 (Gen.k0_pay319 (arg8.view.read (Elt F) f8)) (kblk (arg10.view.read (Elt F) f10) (2 * (i 2).val)) := by
    rw [← hy13, slabs1]; exact catS_slabs arg13.view x13 _
  have z15 : catS (arg15.view.read (Elt F) y15) = Gen.k0_pay1 (Gen.k0_pay321 (arg8.view.read (Elt F) f8)) (kblk (arg10.view.read (Elt F) f10) (2 * (i 2).val)) := by
    rw [← hy15, slabs2]; exact catS_slabs arg15.view x15 _
  have z14 : catR (arg14.view.read (Elt F) y14) = lastS (Gen.k0_pay319 (arg8.view.read (Elt F) f8)) (arg10.view.read (Elt F) f10) (i 2).val := by
    unfold lastS; rw [if_neg hn0, ← hy14, slabsr1]; exact catR_slabsr arg14.view x14 _
  have z16 : catR (arg16.view.read (Elt F) y16) = lastS (Gen.k0_pay321 (arg8.view.read (Elt F) f8)) (arg10.view.read (Elt F) f10) (i 2).val := by
    unfold lastS; rw [if_neg hn0, ← hy16, slabsr2]; exact catR_slabsr arg16.view x16 _
  generalize hm1 : Gen.k0_pay189 a.2.2.1 (Gen.k0_pay175 a.1 a.2.1) = m1
  generalize hm2 : Gen.k0_pay221 a.2.2.2.2.2 (Gen.k0_pay203 a.2.2.2.1 a.2.2.2.2.1) = m2
  have z17 : (m1, arg17.view.read (Elt F) y17) = FL (Gen.k0_pay319 (arg8.view.read (Elt F) f8)) (arg10.view.read (Elt F) f10) (arg11.view.read (Elt F) f11) (2 * (i 2).val) := by
    rw [← hy17, View.read_writes_full, ← hm1, View.readCov_full, View.readAt_full arg17.view x17, third1, third2, cat8_read, cat8_read, max1, hn2]
    exact FL_two _ _ _ (2 * ((i 2).val - 1)) _ _ _ _ _ _ s17 s13 s14 t1 t2
  have z18 : (m2, arg18.view.read (Elt F) y18) = FL (Gen.k0_pay321 (arg8.view.read (Elt F) f8)) (arg10.view.read (Elt F) f10) (arg11.view.read (Elt F) f11) (2 * (i 2).val) := by
    rw [← hy18, View.read_writes_full, ← hm2, View.readCov_full, View.readAt_full arg18.view x18, fourth1, fourth2, cat8_read, cat8_read, max2, hn2]
    exact FL_two _ _ _ (2 * ((i 2).val - 1)) _ _ _ _ _ _ s18 s15 s16 t3 t4
  clear hy13 hy14 hy15 hy16 hy17 hy18 hm1 hm2
  have h3 : ¬ k0_cond3 i = 1#1 := fun h => absurd ((cond3_iff i).1 h) (by omega)
  have h4 : k0_cond4 i = 1#1 := (cond4_iff i).2 hn7
  have w0 : ∀ inb, arg11.view.readAt (Elt F) (Rect.unit (s := S1x16x128x512) (k0_off8 i 0#32) S1x1x128x512.size inb).toLoadRect f11 = vblk (arg11.view.read (Elt F) f11) (2 * (i 2).val) :=
    fun inb => readAt_vblk arg11.view f11 _ _ (by omega) (Gen.k0_off8_eq i 0) inb
  have w1 : ∀ inb, arg11.view.readAt (Elt F) (Rect.unit (s := S1x16x128x512) (k0_off8 i 1#32) S1x1x128x512.size inb).toLoadRect f11 = vblk (arg11.view.read (Elt F) f11) (2 * (i 2).val + 1) :=
    fun inb => readAt_vblk arg11.view f11 _ _ (by omega) (Gen.k0_off8_eq i 1) inb
  have a17 : ∀ inb, arg17.view.readAt (Elt F) (Rect.unit (s := S144x1024) ![0, 0] S144x1024.size inb).toLoadRect y17 = arg17.view.read (Elt F) y17 := fun inb => View.readAt_full arg17.view y17 inb
  have a18 : ∀ inb, arg18.view.readAt (Elt F) (Rect.unit (s := S144x1024) ![0, 0] S144x1024.size inb).toLoadRect y18 = arg18.view.read (Elt F) y18 := fun inb => View.readAt_full arg18.view y18 inb
  sl_exec_parts
  sl_unfold_run_names
  sl_step
  iexists _, _, _, _, _, _, _, _
  isplitl [H3 H4 H5 H6 H7 H8 H9 H10 H11 H12 H13 H14 H15 H16 H17 H18 H19]
  · isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  · ipureintro
    rw [View.read_writes_full, diag3, diag4, diag3m (a := arg17.view.read (Elt F) y17) (vb := vblk (arg11.view.read (Elt F) f11) (2 * (i 2).val)), diag4m (a := arg18.view.read (Elt F) y18) (vb := vblk (arg11.view.read (Elt F) f11) (2 * (i 2).val)), right3, right4, acc_right, acc_right, acc_O, acc_L, acc_O, acc_L, cat8_read, cat8_read, cat4_read, cat4_read]
    exact out_eq _ _ _ _ _ _ _ _ _ _ _ _ _ _ _ z17 z18 z13 z15 z14 z16

end Body

end Cert.Proof.KernelIdeal

end
-- ==== Proof.Run.lean ====
module

public import proofs.«01_k».proof.Proof.BodyA
public import proofs.«01_k».proof.Proof.BodyB
public import proofs.«01_k».proof.Proof.BodyC
public import proofs.«01_k».proof.Proof.Gen.KernelIdeal.Frame

/-! The launch: one grid point from the three cases, the data the pipeline needs, and the whole run. -/

@[expose] public section

set_option maxRecDepth 16384

noncomputable section

namespace Cert.Proof.KernelIdeal

open Cert.KernelIdeal
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UU nD τ) ℕ

section Point

variable (c : Dev nD) (i : grid0.Coords) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x128 .f32) (harg7 : arg7.IsWhole) (arg8 : Memref sig .tc .vmem S1x128x1024 .bf16) (harg8 : arg8.IsWhole) (arg9 : Memref sig .tc .vmem S1x128x1024 .bf16) (harg9 : arg9.IsWhole) (arg10 : Memref sig .tc .vmem S1x8192x128 .bf16) (harg10 : arg10.IsWhole) (arg11 : Memref sig .tc .vmem S1x16x128x512 .bf16) (harg11 : arg11.IsWhole) (arg12 : Memref sig .tc .vmem S1x1024x128 .bf16) (harg12 : arg12.IsWhole) (arg13 : Memref sig .tc .vmem S8x520x128 .f32) (harg13 : arg13.IsWhole) (arg14 : Memref sig .tc .vmem S8x520x128 .f32) (harg14 : arg14.IsWhole) (arg15 : Memref sig .tc .vmem S8x520x128 .f32) (harg15 : arg15.IsWhole) (arg16 : Memref sig .tc .vmem S8x520x128 .f32) (harg16 : arg16.IsWhole) (arg17 : Memref sig .tc .vmem S144x1024 .f32) (harg17 : arg17.IsWhole) (arg18 : Memref sig .tc .vmem S144x1024 .f32) (harg18 : arg18.IsWhole) (arg19 : Memref sig .tc .vmem S4x1024 .f32) (harg19 : arg19.IsWhole)

/-- One grid point: the output block, and the next row block's ready state when there is a next one. -/
theorem point (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) (f17 : Buf (Elt F) (arg17.view.loc (c : Thread nD τ))) (f18 : Buf (Elt F) (arg18.view.loc (c : Thread nD τ))) (f19 : Buf (Elt F) (arg19.view.loc (c : Thread nD τ))) (hlt : (i 2).val < 8) (hr : (i 2).val ≠ 0 → Ready (arg8.view.read (Elt F) f8) (arg10.view.read (Elt F) f10) (arg13.view.read (Elt F) f13) (arg14.view.read (Elt F) f14) (arg15.view.read (Elt F) f15) (arg16.view.read (Elt F) f16) (arg19.view.read (Elt F) f19)) :
    iprop(pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19)
    ⊢ wp frame (wpE (defs₀ (F := F)) 𝒱₀ (c : Thread nD τ) none) Set.univ (cc0_diff_attn i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
      (fun _ => iprop(∃ g12 g13 g14 g15 g16 g17 g18 g19, (pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 g12 ∗ pt c arg13 g13 ∗ pt c arg14 g14 ∗ pt c arg15 g15 ∗ pt c arg16 g16 ∗ pt c arg17 g17 ∗ pt c arg18 g18 ∗ pt c arg19 g19) ∗ ⌜arg12.view.read (Elt F) g12 = outN (arg3.view.read (Elt F) f3) (arg4.view.read (Elt F) f4) (arg5.view.read (Elt F) f5) (arg6.view.read (Elt F) f6) (arg7.view.read (Elt F) f7) (arg8.view.read (Elt F) f8) (arg10.view.read (Elt F) f10) (arg11.view.read (Elt F) f11) (i 2).val ∧ ((i 2).val < 7 → Ready (arg9.view.read (Elt F) f9) (arg10.view.read (Elt F) f10) (arg13.view.read (Elt F) g13) (arg14.view.read (Elt F) g14) (arg15.view.read (Elt F) g15) (arg16.view.read (Elt F) g16) (arg19.view.read (Elt F) g19))⌝)) := by
  by_cases h0 : (i 2).val = 0
  · refine (caseA c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f3 f4 f5 f6 f7 f8 f9 f10 f11 f12 f13 f14 f15 f16 f17 f18 f19 h0).trans (wp_mono _ _ _ fun _ => ?_)
    iintro ⟨%g12, %g13, %g14, %g15, %g16, %g17, %g18, %g19, H, %h⟩
    iexists g12, g13, g14, g15, g16, g17, g18, g19
    isplitl [H]; · iexact H
    ipureintro; exact ⟨h.1, fun _ => h.2⟩
  · by_cases h7 : (i 2).val < 7
    · refine (caseB c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f3 f4 f5 f6 f7 f8 f9 f10 f11 f12 f13 f14 f15 f16 f17 f18 f19 h0 h7 (hr h0)).trans (wp_mono _ _ _ fun _ => ?_)
      iintro ⟨%g12, %g13, %g14, %g15, %g16, %g17, %g18, %g19, H, %h⟩
      iexists g12, g13, g14, g15, g16, g17, g18, g19
      isplitl [H]; · iexact H
      ipureintro; exact ⟨h.1, fun _ => h.2⟩
    · refine (caseC c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f3 f4 f5 f6 f7 f8 f9 f10 f11 f12 f13 f14 f15 f16 f17 f18 f19 h0 (by omega) (hr h0)).trans (wp_mono _ _ _ fun _ => ?_)
      iintro ⟨%g12, %g13, %g14, %g15, %g16, %g17, %g18, %g19, H, %h⟩
      iexists g12, g13, g14, g15, g16, g17, g18, g19
      isplitl [H]; · iexact H
      ipureintro; exact ⟨h, fun h' => absurd h' h7⟩

/-- The same, with the continuation. -/
theorem pointK (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) (f17 : Buf (Elt F) (arg17.view.loc (c : Thread nD τ))) (f18 : Buf (Elt F) (arg18.view.loc (c : Thread nD τ))) (f19 : Buf (Elt F) (arg19.view.loc (c : Thread nD τ))) (hlt : (i 2).val < 8) (hr : (i 2).val ≠ 0 → Ready (arg8.view.read (Elt F) f8) (arg10.view.read (Elt F) f10) (arg13.view.read (Elt F) f13) (arg14.view.read (Elt F) f14) (arg15.view.read (Elt F) f15) (arg16.view.read (Elt F) f16) (arg19.view.read (Elt F) f19)) (K : PUnit → sProp 𝕄) :
    iprop((pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19) ∗ ((∃ g12 g13 g14 g15 g16 g17 g18 g19, (pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 g12 ∗ pt c arg13 g13 ∗ pt c arg14 g14 ∗ pt c arg15 g15 ∗ pt c arg16 g16 ∗ pt c arg17 g17 ∗ pt c arg18 g18 ∗ pt c arg19 g19) ∗ ⌜arg12.view.read (Elt F) g12 = outN (arg3.view.read (Elt F) f3) (arg4.view.read (Elt F) f4) (arg5.view.read (Elt F) f5) (arg6.view.read (Elt F) f6) (arg7.view.read (Elt F) f7) (arg8.view.read (Elt F) f8) (arg10.view.read (Elt F) f10) (arg11.view.read (Elt F) f11) (i 2).val ∧ ((i 2).val < 7 → Ready (arg9.view.read (Elt F) f9) (arg10.view.read (Elt F) f10) (arg13.view.read (Elt F) g13) (arg14.view.read (Elt F) g14) (arg15.view.read (Elt F) g15) (arg16.view.read (Elt F) g16) (arg19.view.read (Elt F) g19))⌝) -∗ K ⟨⟩))
    ⊢ wp frame (wpE (defs₀ (F := F)) 𝒱₀ (c : Thread nD τ) none) Set.univ (cc0_diff_attn i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  refine BI.Entails.trans (BI.sep_mono (point c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 f3 f4 f5 f6 f7 f8 f9 f10 f11 f12 f13 f14 f15 f16 f17 f18 f19 hlt hr) (?_ : _ ⊢ iprop(∀ a : PUnit, _ -∗ K a))) (wp_wand_r _ _ _)
  iintro H %a
  iexact H

end Point

section Launch

variable (m : (ℓ : Loc nD τ sig) → Buf (Elt F) ℓ) (ρ : Dev nD → PrngReg)

theorem coords0 (t : Fin grid0.N) : (grid0.coords t 0).val = t.val / 32 % 2 := Pipeline.Grid.coords_val t 0 (by decide) (by decide)
theorem coords1 (t : Fin grid0.N) : (grid0.coords t 1).val = t.val / 8 % 4 := Pipeline.Grid.coords_val t 1 (by decide) (by decide)
theorem coords2 (t : Fin grid0.N) : (grid0.coords t 2).val = t.val % 8 := by
  have := Pipeline.Grid.coords_val t 2 (S := 1) (B := 8) (by decide) (by decide)
  rwa [Nat.div_one] at this

/-- The block stored at a point. -/
def outAt (c : Dev nD) (t : Fin cfg0.N) : Vec F S1x1024x128 .bf16 :=
  outN (Gen.iblk m c 0 t) (Gen.iblk m c 1 t) (Gen.iblk m c 2 t) (Gen.iblk m c 3 t) (Gen.iblk m c 4 t) (Gen.iblk m c 5 t) (Gen.iblk m c 7 t) (Gen.iblk m c 8 t) (grid0.coords t 2).val

/-- What the scratch buffers must hold before point `n`. -/
def ReadyAt (c : Dev nD) (n : Nat) (X13 X14 X15 X16 : Vec F S8x520x128 .f32) (X19 : Vec F S4x1024 .f32) : Prop :=
  ∀ h : n < cfg0.N, n % 8 ≠ 0 → Ready (Gen.iblk m c 5 ⟨n, h⟩) (Gen.iblk m c 7 ⟨n, h⟩) X13 X14 X15 X16 X19

/-- The invariant between points. -/
def Inv (c : Dev nD) (n : Nat) : sProp 𝕄 :=
  iprop(∃ g13 g14 g15 g16 g17 g18 g19, (pt c (Memref.whole cc0_scratch0) g13 ∗ pt c (Memref.whole cc0_scratch1) g14 ∗ pt c (Memref.whole cc0_scratch2) g15 ∗ pt c (Memref.whole cc0_scratch3) g16 ∗ pt c (Memref.whole cc0_scratch4) g17 ∗ pt c (Memref.whole cc0_scratch5) g18 ∗ pt c (Memref.whole cc0_scratch6) g19)
    ∗ ⌜ReadyAt m c n ((Memref.whole cc0_scratch0).view.read (Elt F) g13) ((Memref.whole cc0_scratch1).view.read (Elt F) g14) ((Memref.whole cc0_scratch2).view.read (Elt F) g15) ((Memref.whole cc0_scratch3).view.read (Elt F) g16) ((Memref.whole cc0_scratch6).view.read (Elt F) g19)⌝
    ∗ (∃ r, prngReg c r))

/-- Window 6 shows the next point's window 5, and window 7 does not move, inside one head. -/
theorem next_q (c : Dev nD) (t : Fin cfg0.N) (h : t.val + 1 < cfg0.N) (h7 : t.val % 8 < 7) : Gen.iblk m c 6 t = Gen.iblk m c 5 ⟨t.val + 1, h⟩ := by
  have hi : cc0_transform_6 (grid0.coords t) = cc0_transform_5 (grid0.coords ⟨t.val + 1, h⟩) := by
    revert t; decide
  funext y
  unfold Gen.iblk
  rw [View.read_apply, View.read_apply]
  refine congrArg (fun e => _root_.cast _ (Gen.V m c main_v7 e)) ?_
  funext a; apply Fin.ext
  show (cc0_transform_6 (grid0.coords t) a) * _ + _ = (cc0_transform_5 (grid0.coords ⟨t.val + 1, h⟩) a) * _ + _
  rw [hi]; rfl

theorem next_k (c : Dev nD) (t : Fin cfg0.N) (h : t.val + 1 < cfg0.N) (h7 : t.val % 8 < 7) : Gen.iblk m c 7 t = Gen.iblk m c 7 ⟨t.val + 1, h⟩ := by
  have hi : cc0_transform_7 (grid0.coords t) = cc0_transform_7 (grid0.coords ⟨t.val + 1, h⟩) := by
    revert t; decide
  funext y
  unfold Gen.iblk
  rw [View.read_apply, View.read_apply]
  refine congrArg (fun e => _root_.cast _ (Gen.V m c main_v9 e)) ?_
  funext a; apply Fin.ext
  show (cc0_transform_7 (grid0.coords t) a) * _ + _ = (cc0_transform_7 (grid0.coords ⟨t.val + 1, h⟩) a) * _ + _
  rw [hi]; rfl

/-- The data of the launch. -/
def dats (_ : Fin 1) (c : Dev nD) : Dat τ (Elt F) Unit ℕ (UR sig nD τ) ℕ cfg0 c where
  A w := Gen.V m c (Pipeline.arrRef spec0 w)
  after w t := match w with
    | ⟨0, _⟩ => Gen.iblk m c 0 t
    | ⟨1, _⟩ => Gen.iblk m c 1 t
    | ⟨2, _⟩ => Gen.iblk m c 2 t
    | ⟨3, _⟩ => Gen.iblk m c 3 t
    | ⟨4, _⟩ => Gen.iblk m c 4 t
    | ⟨5, _⟩ => Gen.iblk m c 5 t
    | ⟨6, _⟩ => Gen.iblk m c 6 t
    | ⟨7, _⟩ => Gen.iblk m c 7 t
    | ⟨8, _⟩ => Gen.iblk m c 8 t
    | ⟨9, _⟩ => outAt m c t
  Φ t := Inv m c t.val
  q w := Pipeline.shareOf spec0 w
  owed _ := 0

theorem A_eq (c : Dev nD) (w : Fin cfg0.W) : (dats m 0 c).A w = Gen.V m c (Pipeline.arrRef spec0 w) := rfl
theorem after0_0 (c : Dev nD) (t : Fin cfg0.N) : (dats m 0 c).after 0 t = Gen.iblk m c 0 t := by dsimp only [dats]
theorem after0_1 (c : Dev nD) (t : Fin cfg0.N) : (dats m 0 c).after 1 t = Gen.iblk m c 1 t := by dsimp only [dats]
theorem after0_2 (c : Dev nD) (t : Fin cfg0.N) : (dats m 0 c).after 2 t = Gen.iblk m c 2 t := by dsimp only [dats]
theorem after0_3 (c : Dev nD) (t : Fin cfg0.N) : (dats m 0 c).after 3 t = Gen.iblk m c 3 t := by dsimp only [dats]
theorem after0_4 (c : Dev nD) (t : Fin cfg0.N) : (dats m 0 c).after 4 t = Gen.iblk m c 4 t := by dsimp only [dats]
theorem after0_5 (c : Dev nD) (t : Fin cfg0.N) : (dats m 0 c).after 5 t = Gen.iblk m c 5 t := by dsimp only [dats]
theorem after0_6 (c : Dev nD) (t : Fin cfg0.N) : (dats m 0 c).after 6 t = Gen.iblk m c 6 t := by dsimp only [dats]
theorem after0_7 (c : Dev nD) (t : Fin cfg0.N) : (dats m 0 c).after 7 t = Gen.iblk m c 7 t := by dsimp only [dats]
theorem after0_8 (c : Dev nD) (t : Fin cfg0.N) : (dats m 0 c).after 8 t = Gen.iblk m c 8 t := by dsimp only [dats]
theorem after0_9 (c : Dev nD) (t : Fin cfg0.N) : (dats m 0 c).after 9 t = outAt m c t := by dsimp only [dats]
theorem before0_0 (c : Dev nD) (t : Fin cfg0.N) (d) : (dats m 0 c).before 0 t d = Gen.iblk m c 0 t :=
  Gen.before0_0_of m (dats m 0 c) (A_eq m c 0) (after0_0 m c) t d
theorem before0_1 (c : Dev nD) (t : Fin cfg0.N) (d) : (dats m 0 c).before 1 t d = Gen.iblk m c 1 t :=
  Gen.before0_1_of m (dats m 0 c) (A_eq m c 1) (after0_1 m c) t d
theorem before0_2 (c : Dev nD) (t : Fin cfg0.N) (d) : (dats m 0 c).before 2 t d = Gen.iblk m c 2 t :=
  Gen.before0_2_of m (dats m 0 c) (A_eq m c 2) (after0_2 m c) t d
theorem before0_3 (c : Dev nD) (t : Fin cfg0.N) (d) : (dats m 0 c).before 3 t d = Gen.iblk m c 3 t :=
  Gen.before0_3_of m (dats m 0 c) (A_eq m c 3) (after0_3 m c) t d
theorem before0_4 (c : Dev nD) (t : Fin cfg0.N) (d) : (dats m 0 c).before 4 t d = Gen.iblk m c 4 t :=
  Gen.before0_4_of m (dats m 0 c) (A_eq m c 4) (after0_4 m c) t d
theorem before0_5 (c : Dev nD) (t : Fin cfg0.N) (d) : (dats m 0 c).before 5 t d = Gen.iblk m c 5 t :=
  Gen.before0_5_of m (dats m 0 c) (A_eq m c 5) (after0_5 m c) t d
theorem before0_6 (c : Dev nD) (t : Fin cfg0.N) (d) : (dats m 0 c).before 6 t d = Gen.iblk m c 6 t :=
  Gen.before0_6_of m (dats m 0 c) (A_eq m c 6) (after0_6 m c) t d
theorem before0_7 (c : Dev nD) (t : Fin cfg0.N) (d) : (dats m 0 c).before 7 t d = Gen.iblk m c 7 t :=
  Gen.before0_7_of m (dats m 0 c) (A_eq m c 7) (after0_7 m c) t d
theorem before0_8 (c : Dev nD) (t : Fin cfg0.N) (d) : (dats m 0 c).before 8 t d = Gen.iblk m c 8 t :=
  Gen.before0_8_of m (dats m 0 c) (A_eq m c 8) (after0_8 m c) t d

set_option maxHeartbeats 4000000 in
theorem body_obligation (c : Dev nD) : BodyObligation (dats (F := F) m 0 c) (defs₀ (F := F)) 𝒱₀ () Set.univ := fun t => by
  rw [Gen.bigSep_W0, Gen.bigSep_W0]
  sl_whnfR [defs₀, Defs.onTc]
  simp only [before0_0, before0_1, before0_2, before0_3, before0_4, before0_5, before0_6, before0_7, before0_8]
  rw [show (dats m 0 c).Φ t.succ = Inv m c (t.val + 1) from rfl, show (dats m 0 c).Φ t.castSucc = Inv m c t.val from rfl,
    show (dats m 0 c).owesAt () t.succ = (dats m 0 c).owesAt () t.castSucc from rfl, after0_0, after0_1, after0_2, after0_3, after0_4, after0_5, after0_6, after0_7, after0_8, after0_9]
  unfold owns Inv
  iintro ⟨⟨%g13, %g14, %g15, %g16, %g17, %g18, %g19, HS, %hr, HP⟩, Ho, ⟨%d0, %f3, %hf3, H0⟩, ⟨%d1, %f4, %hf4, H1⟩, ⟨%d2, %f5, %hf5, H2⟩, ⟨%d3, %f6, %hf6, H3⟩, ⟨%d4, %f7, %hf7, H4⟩, ⟨%d5, %f8, %hf8, H5⟩, ⟨%d6, %f9, %hf9, H6⟩, ⟨%d7, %f10, %hf10, H7⟩, ⟨%d8, %f11, %hf11, H8⟩, ⟨%d9, %f12, -, H9⟩⟩
  icases HS with ⟨S0, S1, S2, S3, S4, S5, S6⟩
  have hlt : (grid0.coords t 2).val < 8 := by rw [coords2]; omega
  iapply (pointK c (grid0.coords t) _ _ _ _ _ _ _ _ _ _ _ _ _ _ _ _ _ _ _ _ (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) f3 f4 f5 f6 f7 f8 f9 f10 f11 f12 g13 g14 g15 g16 g17 g18 g19 hlt ?_ _)
  · intro h0
    rw [coords2] at h0
    rw [hf8, hf10]
    exact hr t.isLt h0
  isplitl [H0 H1 H2 H3 H4 H5 H6 H7 H8 H9 S0 S1 S2 S3 S4 S5 S6]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [S0]; · iexact S0
    isplitl [S1]; · iexact S1
    isplitl [S2]; · iexact S2
    isplitl [S3]; · iexact S3
    isplitl [S4]; · iexact S4
    isplitl [S5]; · iexact S5
    iexact S6
  iintro ⟨%g12, %k13, %k14, %k15, %k16, %k17, %k18, %k19, ⟨H0, H1, H2, H3, H4, H5, H6, H7, H8, H9, S0, S1, S2, S3, S4, S5, S6⟩, %hpost⟩
  isplitl [S0 S1 S2 S3 S4 S5 S6 HP]
  · iexists k13, k14, k15, k16, k17, k18, k19
    isplitl [S0 S1 S2 S3 S4 S5 S6]
    · isplitl [S0]; · iexact S0
      isplitl [S1]; · iexact S1
      isplitl [S2]; · iexact S2
      isplitl [S3]; · iexact S3
      isplitl [S4]; · iexact S4
      isplitl [S5]; · iexact S5
      iexact S6
    isplitr
    · ipureintro
      intro h hne
      have h7 : t.val % 8 < 7 := by omega
      have := hpost.2 (by rw [coords2]; exact h7)
      rw [hf9, hf10, next_q m c t h h7, next_k m c t h h7] at this
      exact this
    iexact HP
  isplitl [Ho]; · iexact Ho
  isplitl [H0]
  · iexists f3; isplitr; · ipureintro; exact hf3
    iexact H0
  isplitl [H1]
  · iexists f4; isplitr; · ipureintro; exact hf4
    iexact H1
  isplitl [H2]
  · iexists f5; isplitr; · ipureintro; exact hf5
    iexact H2
  isplitl [H3]
  · iexists f6; isplitr; · ipureintro; exact hf6
    iexact H3
  isplitl [H4]
  · iexists f7; isplitr; · ipureintro; exact hf7
    iexact H4
  isplitl [H5]
  · iexists f8; isplitr; · ipureintro; exact hf8
    iexact H5
  isplitl [H6]
  · iexists f9; isplitr; · ipureintro; exact hf9
    iexact H6
  isplitl [H7]
  · iexists f10; isplitr; · ipureintro; exact hf10
    iexact H7
  isplitl [H8]
  · iexists f11; isplitr; · ipureintro; exact hf11
    iexact H8
  iexists g12; isplitr
  · ipureintro
    rw [hpost.1, hf3, hf4, hf5, hf6, hf7, hf8, hf10, hf11]; rfl
  iexact H9

theorem pt_whole (c : Dev nD) (b : Ref sig .tc) (f : Buf (Elt F) ((c : Thread nD τ).loc b)) :
    (((c : Thread nD τ).loc b) ↦{fullShare} f : sProp 𝕄) = (Memref.whole b).view.loc (c : Thread nD τ) ↦[(Memref.whole b).view.set]{fullShare} f := by
  simp only [Memref.view_whole, View.set_whole]

theorem phi_in (c : Dev nD) : (Pipeline.ΦA spec0 c : sProp 𝕄) ⊢ Inv m c 0 := by
  unfold Pipeline.ΦA Inv
  rw [Gen.scopedRest0_eq]
  simp only [pt_whole]
  iintro ⟨⟨⟨%g13, H0⟩, ⟨%g14, H1⟩, ⟨%g15, H2⟩, ⟨%g16, H3⟩, ⟨%g17, H4⟩, ⟨%g18, H5⟩, ⟨%g19, H6⟩⟩, HP⟩
  iexists g13, g14, g15, g16, g17, g18, g19
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitr
  · ipureintro; exact fun _ h => absurd rfl h
  iexact HP

theorem phi_out (c : Dev nD) (n : Nat) : (Inv m c n : sProp 𝕄) ⊢ Pipeline.ΦA spec0 c := by
  unfold Pipeline.ΦA Inv
  rw [Gen.scopedRest0_eq]
  simp only [pt_whole]
  iintro ⟨%g13, %g14, %g15, %g16, %g17, %g18, %g19, ⟨H0, H1, H2, H3, H4, H5, H6⟩, -, HP⟩
  isplitr [HP]
  · isplitl [H0]; · iexists g13; iexact H0
    isplitl [H1]; · iexists g14; iexact H1
    isplitl [H2]; · iexists g15; iexact H2
    isplitl [H3]; · iexists g16; iexact H3
    isplitl [H4]; · iexists g17; iexact H4
    isplitl [H5]; · iexists g18; iexact H5
    iexists g19; iexact H6
  iexact HP

set_option backward.isDefEq.respectTransparency.types false in
/-- The run: every array ends at what the data says, and no semaphore is left counting. -/
theorem run_main : θ_run defs (onTc (τ := τ) (main (F := F))) (s₀ m ρ) (fun r => Pipeline.FramePost cfgs (dats m) 0 (Gen.V m) r ∧ r.2.sem = fun _ => 0) :=
  Pipeline.θ_run_frame_track_shared cfgs (dats m) 0 Gen.launch₀0 defs₀ 𝒱₀ m ρ main
    (fun c => (body_obligation m c).loose) (fun _ _ _ => rfl) (fun _ _ => rfl) (Gen.V m) (Gen.hmain m 𝒱₀) (fun _ _ => rfl)
    (fun c => phi_in m c) (fun c => phi_out m c _) _ (fun _ h => h)

/-- The arguments come back unchanged and no semaphore is left counting. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  θ_run_with_sems (Gen.frame_of m ρ (dats m) fun _ _ => rfl) (run_main m ρ)

end Launch

end Cert.Proof.KernelIdeal

end
-- ==== Proof.Frames.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run

/-! The frames: one run, for the two programs of the kernel (which have the same text), and the reference's own. -/

@[expose] public section

noncomputable section

namespace Cert.Proof

open Idealize.ShloMosaic Idealize.ShloMosaic.TcCoe Idealize.SL.Sem

section Same

variable {F : FTy → Type} [FloatOps F]

/-- The two programs have the same body. -/
theorem defs0_eq : Cert.Kernel.defs₀ (F := F) = Cert.KernelIdeal.defs₀ (F := F) := by
  unfold Cert.Kernel.defs₀ Cert.KernelIdeal.defs₀
  refine congrArg Defs.onTc (funext fun l => funext fun x => ?_)
  match l, x with
  | 0, (t, s) => rfl

/-- The two programs have the same pipeline. -/
theorem defs_eq : Cert.Kernel.defs (F := F) = Cert.KernelIdeal.defs (F := F) :=
  congrArg (Pipeline.defs Cert.KernelIdeal.pcfgs) defs0_eq

end Same

theorem frame_kernelIdeal : Cert.quiescent_KernelIdeal := fun m g _ => KernelIdeal.frame_main (F := Ideal) m g

theorem frame_kernel : Cert.quiescent_Kernel := fun m g _ => by
  rw [defs_eq]
  exact KernelIdeal.frame_main (F := Bits) m g

theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

end Cert.Proof

end
-- ==== Proof.Online.lean ====
module

public import Idealize.ShloMosaic.PureOps.Ideal.Laws

/-! Softmax over a causal row, on the extended reals: block by block with a running maximum and sums rescaled to it, as the
kernel takes it in base two, and all at once, as the reference does. Scores and values may be infinite. Where the largest
score is a real, both are the same weighted sum of the values; where it isn't, every weight is zero over zero. -/

@[expose] public section

noncomputable section

namespace Cert.Proof.Online

open Idealize.ShloMosaic
open Finset

/-- The scores of a query at position `P`: the keys after it are masked. -/
def msk (t : ℕ → EReal) (P k : ℕ) : EReal := if k ≤ P then t k else ⊥

/-- The largest score of the first `N` keys. -/
def mx (t : ℕ → EReal) (P N : ℕ) : EReal := (range N).sup (msk t P)

/-- The largest score up to position `P`. -/
def top (x : ℕ → EReal) (P : ℕ) : EReal := (range (P + 1)).sup x

/-- The sum of the exponentials of the scores up to position `P`. -/
def Z (x : ℕ → EReal) (P : ℕ) : EReal := ∑ k ∈ range (P + 1), Ideal.exp (x k - top x P)

/-- The attention of a query at position `P`: the values up to it, weighted by their scores' exponentials, over the sum of
these. -/
def att (x : ℕ → EReal) (P : ℕ) (v : ℕ → EReal) : EReal :=
  Ideal.div (∑ k ∈ range (P + 1), v k * Ideal.exp (x k - top x P)) (Z x P)

/-- The softmax as the reference has it: over all keys, the masked ones too, each weight divided by itself. -/
def soft (x : ℕ → EReal) (P : ℕ) (v : ℕ → EReal) : EReal :=
  ∑ k : Fin 8192, v k.val * Ideal.div (Ideal.exp (msk x P k.val - (Finset.univ : Finset (Fin 8192)).fold max ⊥ fun j => msk x P j.val))
    (∑ i : Fin 8192, Ideal.exp (msk x P i.val - (Finset.univ : Finset (Fin 8192)).fold max ⊥ fun j => msk x P j.val))

theorem coe_mul_sum {ι : Type} (c : ℝ) (hc : 0 ≤ c) (s : Finset ι) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (EReal.coe_nonneg.mpr hc) (EReal.coe_ne_top c), ih]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem exp2_coe (r : ℝ) : Ideal.exp2 (r : EReal) = (((2 : ℝ) ^ r : ℝ) : EReal) := rfl
theorem exp_coe (r : ℝ) : Ideal.exp (r : EReal) = ((Real.exp r : ℝ) : EReal) := rfl
theorem exp2_bot : Ideal.exp2 ⊥ = 0 := rfl
theorem exp_bot : Ideal.exp ⊥ = 0 := rfl

theorem sub_top' (a : EReal) : a - ⊤ = ⊥ := by rw [sub_eq_add_neg, EReal.neg_top, EReal.add_bot]

/-- A weight against a bound of its score is a real. -/
theorem exp2_real {a b : EReal} (h : a ≤ b) : ∃ c : ℝ, 0 ≤ c ∧ Ideal.exp2 (a - b) = (c : EReal) := by
  induction b with
  | bot => exact ⟨0, le_rfl, by rw [le_bot_iff.mp h, EReal.bot_sub]; rfl⟩
  | top => exact ⟨0, le_rfl, by rw [sub_top']; rfl⟩
  | coe r =>
    induction a with
    | bot => exact ⟨0, le_rfl, by rw [EReal.bot_sub]; rfl⟩
    | top => exact absurd h (not_le_of_gt (EReal.coe_lt_top r))
    | coe s => exact ⟨(2 : ℝ) ^ (s - r), Real.rpow_nonneg zero_le_two _, by rw [← EReal.coe_sub, exp2_coe]⟩

/-- A weight is rescaled from one bound to a larger one. -/
theorem exp2_chain {a b c : EReal} (hab : a ≤ b) (hbc : b ≤ c) : Ideal.exp2 (b - c) * Ideal.exp2 (a - b) = Ideal.exp2 (a - c) := by
  induction c with
  | bot =>
    obtain rfl := le_bot_iff.mp hbc
    obtain rfl := le_bot_iff.mp hab
    rw [EReal.bot_sub, exp2_bot, mul_zero]
  | top => rw [sub_top', sub_top', exp2_bot, zero_mul]
  | coe r =>
    induction b with
    | top => exact absurd hbc (not_le_of_gt (EReal.coe_lt_top r))
    | bot =>
      obtain rfl := le_bot_iff.mp hab
      rw [EReal.bot_sub, EReal.bot_sub, exp2_bot, mul_zero]
    | coe s =>
      induction a with
      | top => exact absurd hab (not_le_of_gt (EReal.coe_lt_top s))
      | bot => rw [EReal.bot_sub, EReal.bot_sub, exp2_bot, mul_zero]
      | coe u =>
        rw [← EReal.coe_sub, ← EReal.coe_sub, ← EReal.coe_sub, exp2_coe, exp2_coe, exp2_coe, ← EReal.coe_mul, ← Real.rpow_add two_pos]
        congr 2
        ring

/-- The state of a row after the first `N` keys: the maximum and the sum relative to it. -/
def Acc (t : ℕ → EReal) (P : ℕ) (v : ℕ → EReal) (N : ℕ) (m a : EReal) : Prop :=
  m = mx t P N ∧ a = ∑ k ∈ range N, v k * Ideal.exp2 (msk t P k - m)

theorem acc_zero (t : ℕ → EReal) (P : ℕ) (v : ℕ → EReal) : Acc t P v 0 ⊥ 0 := ⟨rfl, by simp⟩

theorem mx_add (t : ℕ → EReal) (P N n : ℕ) (s : Fin n → EReal) (hs : ∀ k, s k = msk t P (N + k.val)) :
    mx t P (N + n) = max (mx t P N) ((Finset.univ : Finset (Fin n)).fold max ⊥ s) := by
  have e : (Finset.univ : Finset (Fin n)).fold max ⊥ s = Finset.univ.sup s := rfl
  rw [e]
  refine le_antisymm (Finset.sup_le fun k hk => ?_) (max_le (Finset.sup_mono (Finset.range_subset_range.mpr (Nat.le_add_right N n)))
    (Finset.sup_le fun k _ => ?_))
  · rw [Finset.mem_range] at hk
    by_cases h : k < N
    · exact le_trans (Finset.le_sup (f := msk t P) (Finset.mem_range.mpr h)) (le_max_left _ _)
    · refine le_trans (le_of_eq ?_) (le_trans (Finset.le_sup (f := s) (Finset.mem_univ (⟨k - N, by omega⟩ : Fin n))) (le_max_right _ _))
      rw [hs]
      exact congrArg (msk t P) (by show k = N + (k - N); omega)
  · rw [hs k]
    exact Finset.le_sup (f := msk t P) (Finset.mem_range.mpr (by have := k.isLt; omega))

/-- One block of keys. -/
theorem step {n : ℕ} {t : ℕ → EReal} {P : ℕ} {v : ℕ → EReal} {N : ℕ} {m a : EReal} (h : Acc t P v N m a) {s : Fin n → EReal} {M : EReal}
    (hM : M = (Finset.univ : Finset (Fin n)).fold max ⊥ s) (hs : ∀ k, s k = msk t P (N + k.val))
    {u : Fin n → EReal} (hu : ∀ k, u k = v (N + k.val)) :
    Acc t P v (N + n) (max m M) (Ideal.exp2 (m - max m M) * a + ∑ k, u k * Ideal.exp2 (s k - max m M)) := by
  obtain ⟨hm, rfl⟩ := h
  have e : max m M = mx t P (N + n) := by rw [mx_add t P N n s hs, ← hm, hM]
  refine ⟨e, ?_⟩
  obtain ⟨c, hc, hce⟩ := exp2_real (le_max_left m M)
  rw [Finset.sum_range_add, hce, coe_mul_sum c hc]
  congr 1
  · refine Finset.sum_congr rfl fun k hk => ?_
    have hk' : msk t P k ≤ m := hm ▸ Finset.le_sup (f := msk t P) hk
    rw [mul_left_comm, ← hce, exp2_chain hk' (le_max_left m M)]
  · rw [Finset.sum_range]
    exact Finset.sum_congr rfl fun k _ => by rw [hs k, hu k]

theorem range_sub {P N : ℕ} (hN : P < N) (f : ℕ → EReal) (h : ∀ k, P < k → f k = 0) :
    ∑ k ∈ range N, f k = ∑ k ∈ range (P + 1), f k :=
  (Finset.sum_subset (Finset.range_subset_range.mpr hN) fun k _ hk => h k (by rw [Finset.mem_range] at hk; omega)).symm

theorem msk_le {P k : ℕ} (x : ℕ → EReal) (h : k ∈ range (P + 1)) : msk x P k = x k :=
  if_pos (by rw [Finset.mem_range] at h; omega)

theorem msk_gt {P k : ℕ} (x : ℕ → EReal) (h : P < k) : msk x P k = ⊥ := if_neg (by omega)

theorem mx_eq_top {P N : ℕ} (hN : P < N) (x : ℕ → EReal) : mx x P N = top x P := by
  refine le_antisymm (Finset.sup_le fun k _ => ?_) (Finset.sup_le fun k hk => ?_)
  · by_cases h : k ≤ P
    · have hk : k ∈ range (P + 1) := Finset.mem_range.mpr (by omega)
      rw [msk_le x hk]
      exact Finset.le_sup (f := x) hk
    · rw [msk_gt x (by omega)]
      exact bot_le
  · rw [← msk_le x hk]
    exact Finset.le_sup (f := msk x P) (Finset.mem_range.mpr (by rw [Finset.mem_range] at hk; omega))

/-- Base two against base e. -/
theorem exp2_scaled {κ : ℝ} (hκ : κ = 1 / Real.log 2) {a b : EReal} (h : a ≤ b) :
    Ideal.exp2 (a * (κ : EReal) - b * (κ : EReal)) = Ideal.exp (a - b) := by
  have hl : 0 < Real.log 2 := Real.log_pos one_lt_two
  have hp : 0 < κ := hκ ▸ one_div_pos.mpr hl
  induction b with
  | bot =>
    obtain rfl := le_bot_iff.mp h
    rw [EReal.bot_mul_coe_of_pos hp, EReal.bot_sub, exp2_bot, exp_bot]
  | top => rw [EReal.top_mul_coe_of_pos hp, sub_top', sub_top', exp2_bot, exp_bot]
  | coe r =>
    induction a with
    | top => exact absurd h (not_le_of_gt (EReal.coe_lt_top r))
    | bot => rw [EReal.bot_mul_coe_of_pos hp, EReal.bot_sub, EReal.bot_sub, exp2_bot, exp_bot]
    | coe s =>
      rw [← EReal.coe_mul, ← EReal.coe_mul, ← EReal.coe_sub, ← EReal.coe_sub, exp2_coe, exp_coe, Real.rpow_def_of_pos two_pos]
      congr 2
      rw [hκ]
      field_simp

theorem top_scaled {κ : ℝ} (hp : 0 < κ) (x : ℕ → EReal) (P : ℕ) : top (fun k => x k * (κ : EReal)) P = top x P * (κ : EReal) := by
  have hm : Monotone fun a : EReal => a * (κ : EReal) := fun a b h => mul_le_mul_of_nonneg_right h (EReal.coe_nonneg.mpr hp.le)
  exact (Finset.comp_sup_eq_sup_comp_of_is_total (s := range (P + 1)) (f := x) _ hm (EReal.bot_mul_coe_of_pos hp)).symm

theorem acc_val {x t : ℕ → EReal} {κ : ℝ} (hκ : κ = 1 / Real.log 2) (hx : ∀ k, t k = x k * (κ : EReal)) {P N : ℕ} {v : ℕ → EReal}
    {m a : EReal} (hN : P < N) (ha : Acc t P v N m a) : a = ∑ k ∈ range (P + 1), v k * Ideal.exp (x k - top x P) := by
  obtain rfl : t = fun k => x k * (κ : EReal) := funext hx
  obtain ⟨rfl, rfl⟩ := ha
  have hp : 0 < κ := hκ ▸ one_div_pos.mpr (Real.log_pos one_lt_two)
  rw [mx_eq_top hN, top_scaled hp, range_sub hN _ fun k hk => by rw [msk_gt _ hk, EReal.bot_sub, exp2_bot, mul_zero]]
  refine Finset.sum_congr rfl fun k hk => ?_
  have hk' : x k ≤ top x P := Finset.le_sup (f := x) hk
  rw [msk_le _ hk, exp2_scaled hκ hk']

/-- The rows' sum over the weights' sum, once every key up to `P` is in, is the attention. -/
theorem normalise {x t : ℕ → EReal} {κ : ℝ} (hκ : κ = 1 / Real.log 2) (hx : ∀ k, t k = x k * (κ : EReal)) {P N : ℕ} {v : ℕ → EReal}
    {m a l : EReal} (hN : P < N) (ha : Acc t P v N m a) (hl : Acc t P (fun _ => 1) N m l) : Ideal.div a l = att x P v := by
  rw [acc_val hκ hx hN ha, acc_val hκ hx hN hl]
  unfold att Z
  simp only [one_mul]

/-- The largest score isn't a real: a score is `⊤`, or all are `⊥`. -/
def Deg (x : ℕ → EReal) (P : ℕ) : Prop := top x P = ⊤ ∨ top x P = ⊥

theorem deg_exp {x : ℕ → EReal} {P : ℕ} (h : Deg x P) {a : EReal} (ha : a ≤ top x P) : Ideal.exp (a - top x P) = 0 := by
  rcases h with e | e
  · rw [e, sub_top', exp_bot]
  · rw [e] at ha ⊢
    rw [le_bot_iff.mp ha, EReal.bot_sub, exp_bot]

theorem msk_top (x : ℕ → EReal) (P k : ℕ) : msk x P k ≤ top x P := by
  by_cases h : k ≤ P
  · have hk : k ∈ range (P + 1) := Finset.mem_range.mpr (by omega)
    rw [msk_le x hk]
    exact Finset.le_sup (f := x) hk
  · rw [msk_gt x (by omega)]
    exact bot_le

theorem fold_top {P : ℕ} (hP : P < 8192) (x : ℕ → EReal) :
    ((Finset.univ : Finset (Fin 8192)).fold max ⊥ fun j => msk x P j.val) = top x P := by
  rw [← mx_eq_top hP x]
  have e := mx_add x P 0 8192 (fun j => msk x P j.val) fun k => by rw [zero_add]
  rw [zero_add] at e
  rw [e]
  exact (max_eq_right bot_le).symm

theorem div_zero_zero : Ideal.div 0 0 = ⊥ := by
  unfold Ideal.div
  rw [if_pos rfl, if_neg (lt_irrefl _)]

theorem att_deg {x : ℕ → EReal} {P : ℕ} (h : Deg x P) (v : ℕ → EReal) : att x P v = ⊥ := by
  unfold att Z
  rw [Finset.sum_eq_zero fun k hk => by rw [deg_exp h (Finset.le_sup (f := x) hk), mul_zero],
    Finset.sum_eq_zero fun k hk => deg_exp h (Finset.le_sup (f := x) hk), div_zero_zero]

theorem soft_deg {x : ℕ → EReal} {P : ℕ} (hP : P < 8192) (h : Deg x P) (v : ℕ → EReal) : soft x P v = ∑ k : Fin 8192, v k.val * ⊥ := by
  unfold soft
  rw [fold_top hP]
  refine Finset.sum_congr rfl fun k _ => ?_
  rw [deg_exp h (msk_top x P k.val), Finset.sum_eq_zero fun i _ => deg_exp h (msk_top x P i.val), div_zero_zero]

/-- Where the largest score is a real, the weights are reals of positive sum. -/
theorem reals {x : ℕ → EReal} {P : ℕ} (h : ¬ Deg x P) :
    ∃ w : ℕ → ℝ, (∀ k, Ideal.exp (msk x P k - top x P) = (w k : EReal)) ∧ (∀ k, P < k → w k = 0) ∧ 0 < ∑ k ∈ range (P + 1), w k := by
  obtain ⟨r, hr⟩ : ∃ r : ℝ, top x P = r := ⟨_, (EReal.coe_toReal (fun e => h (.inl e)) (fun e => h (.inr e))).symm⟩
  have key : ∀ a : EReal, a ≤ (r : EReal) → ∃ w : ℝ, 0 ≤ w ∧ Ideal.exp (a - (r : EReal)) = (w : EReal) := fun a ha => by
    induction a with
    | bot => exact ⟨0, le_rfl, by rw [EReal.bot_sub]; rfl⟩
    | top => exact absurd ha (not_le_of_gt (EReal.coe_lt_top r))
    | coe s => exact ⟨Real.exp (s - r), (Real.exp_pos _).le, by rw [← EReal.coe_sub, exp_coe]⟩
  choose w hw0 hw using fun k => key (msk x P k) (hr ▸ msk_top x P k)
  refine ⟨w, fun k => hr ▸ hw k, fun k hk => ?_, ?_⟩
  · have := hw k
    rw [msk_gt x hk, EReal.bot_sub, exp_bot] at this
    exact_mod_cast this.symm
  · obtain ⟨k, hk, e⟩ := Finset.exists_mem_eq_sup (range (P + 1)) ⟨0, Finset.mem_range.mpr (Nat.succ_pos P)⟩ x
    refine Finset.sum_pos' (fun k _ => hw0 k) ⟨k, hk, ?_⟩
    have hk' := hw k
    have e' : x k = (r : EReal) := e.symm.trans hr
    rw [msk_le x hk, e', ← EReal.coe_sub, sub_self, exp_coe, Real.exp_zero] at hk'
    have : w k = 1 := by exact_mod_cast hk'.symm
    rw [this]
    exact one_pos

/-- Dividing a weighted sum by a positive real divides the weights. -/
theorem div_sum {ι : Type} (s : Finset ι) (w : ι → ℝ) (v : ι → EReal) (l : ℝ) (hl : 0 < l) :
    Ideal.div (∑ k ∈ s, v k * (w k : EReal)) (l : EReal) = ∑ k ∈ s, v k * ((w k / l : ℝ) : EReal) := by
  unfold Ideal.div
  rw [if_neg (by exact_mod_cast hl.ne'), ← EReal.coe_inv, mul_comm, coe_mul_sum _ (inv_nonneg.mpr hl.le)]
  exact Finset.sum_congr rfl fun k _ => by rw [mul_left_comm, ← EReal.coe_mul, mul_comm (l⁻¹), ← div_eq_mul_inv]

theorem soft_reg {x : ℕ → EReal} {P : ℕ} (hP : P < 8192) (h : ¬ Deg x P) (v : ℕ → EReal) : soft x P v = att x P v := by
  obtain ⟨w, hw, h0, hpos⟩ := reals h
  have hs : ∀ k ∈ range (P + 1), Ideal.exp (x k - top x P) = (w k : EReal) := fun k hk => by rw [← hw k, msk_le x hk]
  have hz : ∑ i : Fin 8192, Ideal.exp (msk x P i.val - top x P) = ((∑ k ∈ range (P + 1), w k : ℝ) : EReal) := by
    rw [Finset.sum_congr rfl fun i _ => hw i.val, ← Finset.sum_range fun k => (w k : EReal),
      range_sub hP _ fun k hk => by rw [h0 k hk, EReal.coe_zero], coe_sum]
  unfold soft att Z
  rw [fold_top hP, hz, Finset.sum_congr rfl fun k hk => congrArg (v k * ·) (hs k hk), Finset.sum_congr rfl hs, ← coe_sum, div_sum _ _ _ _ hpos]
  have hd : ∀ k : Fin 8192, v k.val * Ideal.div (Ideal.exp (msk x P k.val - top x P)) ((∑ k ∈ range (P + 1), w k : ℝ) : EReal)
      = v k.val * ((w k.val / ∑ k ∈ range (P + 1), w k : ℝ) : EReal) := fun k => by
    rw [hw, Ideal.div, if_neg (by exact_mod_cast hpos.ne'), ← EReal.coe_inv, ← EReal.coe_mul, ← div_eq_mul_inv]
  rw [Finset.sum_congr rfl fun k _ => hd k, ← Finset.sum_range fun k => v k * ((w k / ∑ k ∈ range (P + 1), w k : ℝ) : EReal)]
  exact range_sub hP _ fun k hk => by rw [h0 k hk, zero_div, EReal.coe_zero, mul_zero]

/-- Values that are all zero have the attention zero. -/
theorem att_zero {x : ℕ → EReal} {P : ℕ} (h : ¬ Deg x P) {v : ℕ → EReal} (hv : ∀ k, v k = 0) : att x P v = 0 := by
  obtain ⟨w, hw, -, hpos⟩ := reals h
  have hs : ∀ k ∈ range (P + 1), Ideal.exp (x k - top x P) = (w k : EReal) := fun k hk => by rw [← hw k, msk_le x hk]
  unfold att Z
  rw [Finset.sum_eq_zero fun k _ => by rw [hv k, zero_mul], Finset.sum_congr rfl hs, ← coe_sum, Ideal.div,
    if_neg (by exact_mod_cast hpos.ne'), zero_mul]

end Cert.Proof.Online

end
-- ==== Proof.Spec.lean ====
module

public import proofs.«01_k».proof.Proof.Online
public import Idealize.ShloMosaic.Lib.ValueIdx

/-! Differential attention in closed form, on the extended reals: what both programs compute at an element. -/

@[expose] public section

noncomputable section

namespace Cert.Proof.Spec

open Idealize.ShloMosaic Idealize.ShloMosaic.ValueIdx
open Cert.Proof.Online (att soft Deg)

/-- Queries and keys: batch, position, head, component, feature. -/
abbrev QK := (⟨5, ![2, 8192, 4, 2, 64]⟩ : Shape).Idx → EReal
/-- Values: batch, position, head, feature. -/
abbrev VV := (⟨4, ![2, 8192, 4, 128]⟩ : Shape).Idx → EReal

/-- The scaled score of a query against a key, of one component of one head. -/
def score (xq xk : QK) (b : Fin 2) (h : Fin 4) (w : Fin 2) (P : Fin 8192) (key : ℕ) : EReal :=
  (∑ f : Fin 64, xq (ix5 b P h w f) * xk (ix5 b ⟨key % 8192, by omega⟩ h w f)) * ((1 / 8 : ℝ) : EReal)

/-- A feature of the values, by key. -/
def vals (xv : VV) (b : Fin 2) (h : Fin 4) (d : Fin 128) (key : ℕ) : EReal := xv (ix4 b ⟨key % 8192, by omega⟩ h d)

/-- One component's attention. -/
def comp (xq xk : QK) (xv : VV) (b : Fin 2) (h : Fin 4) (w : Fin 2) (P : Fin 8192) (d : Fin 128) : EReal :=
  att (score xq xk b h w P) P.val (vals xv b h d)

/-- One component's attention with the softmax taken over all keys. -/
def scomp (xq xk : QK) (xv : VV) (b : Fin 2) (h : Fin 4) (w : Fin 2) (P : Fin 8192) (d : Fin 128) : EReal :=
  soft (score xq xk b h w P) P.val (vals xv b h d)

/-- The weight of the second component. -/
def lam (l0 l1 l2 l3 : Fin 64 → EReal) : EReal :=
  Ideal.exp (∑ f, l0 f * l1 f) - Ideal.exp (∑ f, l2 f * l3 f) + Ideal.ofBits .f32 0x3E4CCCCD#32

/-- The normalised difference of the components. -/
def out (l : EReal) (A1 A2 g : Fin 128 → EReal) (d : Fin 128) : EReal :=
  (A1 d - l * A2 d) * Ideal.rsqrt (Ideal.div (∑ e, (A1 e - l * A2 e) * (A1 e - l * A2 e)) (Ideal.ofBits .f32 0x43000000#32)
    + Ideal.ofBits .f32 0x358637BD#32) * g d * Ideal.ofBits .f32 0x3F4CCCCD#32

/-- An element of the result. -/
def diff (l0 l1 l2 l3 : Fin 64 → EReal) (g : Fin 128 → EReal) (xq xk : QK) (xv : VV) (b : Fin 2) (P : Fin 8192) (h : Fin 4)
    (d : Fin 128) : EReal :=
  out (lam l0 l1 l2 l3) (comp xq xk xv b h 0 P) (comp xq xk xv b h 1 P) g d

/-- An element of the result, with the softmaxes taken over all keys. -/
def sdiff (l0 l1 l2 l3 : Fin 64 → EReal) (g : Fin 128 → EReal) (xq xk : QK) (xv : VV) (b : Fin 2) (P : Fin 8192) (h : Fin 4)
    (d : Fin 128) : EReal :=
  out (lam l0 l1 l2 l3) (scomp xq xk xv b h 0 P) (scomp xq xk xv b h 1 P) g d

theorem ofBits_eighth : Ideal.ofBits .f32 0x3E000000#32 = ((1 / 8 : ℝ) : EReal) := by
  simp [Ideal.ofBits, Ideal.ieee, -EReal.coe_mul]; norm_num
theorem ofBits_ninf : Ideal.ofBits .f32 0xFF800000#32 = ⊥ := by simp [Ideal.ofBits, Ideal.ieee]

theorem ofBits_128 : Ideal.ofBits .f32 0x43000000#32 = ((128 : ℝ) : EReal) := by
  simp [Ideal.ofBits, Ideal.ieee, -EReal.coe_mul]; norm_num
theorem ofBits_eps : Ideal.ofBits .f32 0x358637BD#32 ≠ ⊥ := by
  simp [Ideal.ofBits, Ideal.ieee, -EReal.coe_mul]

theorem sq_nonneg' (a : EReal) : 0 ≤ a * a := by
  rcases le_total 0 a with h | h
  · exact mul_nonneg h h
  · rw [← neg_mul_neg]
    have : 0 ≤ -a := by have := EReal.neg_le_neg_iff.mpr h; rwa [neg_zero] at this
    exact mul_nonneg this this

/-- An infinite feature of the difference makes the whole row zero. -/
theorem out_inf (l : EReal) (A1 A2 g : Fin 128 → EReal) (d e : Fin 128) (h : A1 e - l * A2 e = ⊤ ∨ A1 e - l * A2 e = ⊥) :
    out l A1 A2 g d = 0 := by
  have hs : ∑ e, (A1 e - l * A2 e) * (A1 e - l * A2 e) = ⊤ := by
    refine top_le_iff.mp (le_trans (le_of_eq ?_) (Finset.single_le_sum (f := fun e => (A1 e - l * A2 e) * (A1 e - l * A2 e))
      (fun e _ => sq_nonneg' _) (Finset.mem_univ e)))
    rcases h with h | h
    · show ⊤ = _ * _; rw [h]; rfl
    · show ⊤ = _ * _; rw [h]; rfl
  have hd : Ideal.div ⊤ ((128 : ℝ) : EReal) = ⊤ := by
    unfold Ideal.div
    rw [if_neg (by norm_num), ← EReal.coe_inv, EReal.top_mul_coe_of_pos (by norm_num)]
  have hq : Ideal.rsqrt ⊤ = 0 := rfl
  unfold out
  rw [hs, ofBits_128, hd, EReal.top_add_of_ne_bot ofBits_eps, hq, mul_zero, zero_mul, zero_mul]

theorem out_zero (l : EReal) (A1 A2 g : Fin 128 → EReal) (d : Fin 128) (h1 : A1 d = 0) (h2 : A2 d = 0) : out l A1 A2 g d = 0 := by
  unfold out
  rw [h1, h2, mul_zero, sub_zero, zero_mul, zero_mul, zero_mul]

theorem sub_inf (a : EReal) {b : EReal} (h : b = ⊤ ∨ b = ⊥) : a - b = ⊤ ∨ a - b = ⊥ := by
  rcases h with rfl | rfl
  · exact .inr (Online.sub_top' a)
  · rw [sub_eq_add_neg, EReal.neg_bot]
    by_cases h : a = ⊥
    · rw [h]; exact .inr rfl
    · exact .inl (EReal.add_top_of_ne_bot h)

theorem inf_sub {a : EReal} (b : EReal) (h : a = ⊤ ∨ a = ⊥) : a - b = ⊤ ∨ a - b = ⊥ := by
  rcases h with rfl | rfl
  · by_cases hb : b = ⊤
    · rw [hb]; exact .inr rfl
    · rw [sub_eq_add_neg]
      exact .inl (EReal.top_add_of_ne_bot fun e => hb (by rw [← neg_neg b, e]; rfl))
  · exact .inr (EReal.bot_sub _)

theorem mul_inf {l a : EReal} (hl : l ≠ 0) (h : a = ⊤ ∨ a = ⊥) : l * a = ⊤ ∨ l * a = ⊥ := by
  rcases lt_or_gt_of_ne hl with hn | hp
  · rcases h with rfl | rfl
    · exact .inr (EReal.mul_top_of_neg hn)
    · exact .inl (EReal.mul_bot_of_neg hn)
  · rcases h with rfl | rfl
    · exact .inl (EReal.mul_top_of_pos hp)
    · exact .inr (EReal.mul_bot_of_pos hp)

/-- A sum of multiples of `⊥` is infinite, if one of them isn't zero times it. -/
theorem sum_inf {n : ℕ} (v : Fin n → EReal) (k : Fin n) (hk : v k ≠ 0) : (∑ k, v k * ⊥) = ⊤ ∨ (∑ k, v k * ⊥) = ⊥ := by
  classical
  rw [← Finset.add_sum_erase _ _ (Finset.mem_univ k)]
  have h := inf_sub (a := v k * ⊥) (-∑ k ∈ Finset.univ.erase k, v k * ⊥) (mul_inf hk (.inr rfl))
  rwa [sub_eq_add_neg, neg_neg] at h

/-- The two ways to take a softmax differ where its largest score is infinite, but not after the normalisation: there the whole
row is zero in both. -/
theorem sdiff_eq (l0 l1 l2 l3 : Fin 64 → EReal) (g : Fin 128 → EReal) (xq xk : QK) (xv : VV) (b : Fin 2) (P : Fin 8192) (h : Fin 4)
    (d : Fin 128) : sdiff l0 l1 l2 l3 g xq xk xv b P h d = diff l0 l1 l2 l3 g xq xk xv b P h d := by
  unfold sdiff diff
  generalize lam l0 l1 l2 l3 = l
  have reg : ∀ w, ¬ Deg (score xq xk b h w P) P.val → scomp xq xk xv b h w P = comp xq xk xv b h w P := fun w hw =>
    funext fun d => Online.soft_reg P.isLt hw _
  have deg : ∀ w, Deg (score xq xk b h w P) P.val → comp xq xk xv b h w P = fun _ => ⊥ := fun w hw => funext fun d => Online.att_deg hw _
  have sdeg : ∀ w, Deg (score xq xk b h w P) P.val → ∀ d, scomp xq xk xv b h w P d = ∑ k : Fin 8192, vals xv b h d k.val * ⊥ :=
    fun w hw d => Online.soft_deg P.isLt hw _
  by_cases hv : ∃ (e : Fin 128) (k : Fin 8192), vals xv b h e k.val ≠ 0
  · obtain ⟨e, k, hk⟩ := hv
    by_cases h1 : Deg (score xq xk b h 0 P) P.val
    · rw [out_inf l _ _ g d e (inf_sub _ (by rw [sdeg 0 h1]; exact sum_inf (fun k : Fin 8192 => vals xv b h e k.val) k hk)),
        out_inf l _ _ g d e (inf_sub _ (by rw [deg 0 h1]; exact .inr rfl))]
    · rw [reg 0 h1]
      by_cases h2 : Deg (score xq xk b h 1 P) P.val
      · by_cases hl : l = 0
        · subst hl
          unfold out
          simp only [zero_mul]
        · rw [out_inf l _ _ g d e (sub_inf _ (mul_inf hl (by rw [sdeg 1 h2]; exact sum_inf (fun k : Fin 8192 => vals xv b h e k.val) k hk))),
            out_inf l _ _ g d e (sub_inf _ (mul_inf hl (by rw [deg 1 h2]; exact .inr rfl)))]
      · rw [reg 1 h2]
  · have h0 : ∀ (e : Fin 128) (k : ℕ), vals xv b h e k = 0 := fun e k => by
      by_contra hne
      refine hv ⟨e, ⟨k % 8192, by omega⟩, fun h' => hne ?_⟩
      rw [← h']
      unfold vals
      refine congrArg xv (congrArg (fun k => ix4 b k h e) (Fin.ext ?_))
      show k % 8192 = k % 8192 % 8192
      omega
    have hz : ∀ w d, scomp xq xk xv b h w P d = 0 := fun w d => by
      by_cases hw : Deg (score xq xk b h w P) P.val
      · rw [sdeg w hw]
        exact Finset.sum_eq_zero fun k _ => by rw [h0, zero_mul]
      · rw [reg w hw]
        exact Online.att_zero hw fun k => h0 d k
    rw [out_zero l _ _ g d (hz 0 d) (hz 1 d)]
    by_cases h1 : Deg (score xq xk b h 0 P) P.val
    · rw [out_inf l _ _ g d d (inf_sub _ (by rw [deg 0 h1]; exact .inr rfl))]
    · by_cases h2 : Deg (score xq xk b h 1 P) P.val
      · by_cases hl : l = 0
        · subst hl
          have e1 : comp xq xk xv b h 0 P d = 0 := Online.att_zero h1 fun k => h0 d k
          unfold out
          rw [e1, zero_mul, sub_zero, zero_mul, zero_mul, zero_mul]
        · rw [out_inf l _ _ g d d (sub_inf _ (mul_inf hl (by rw [deg 1 h2]; exact .inr rfl)))]
      · rw [out_zero l _ _ g d (Online.att_zero h1 fun k => h0 d k) (Online.att_zero h2 fun k => h0 d k)]

end Cert.Proof.Spec

end
-- ==== Proof.RefVal.lean ====
module

public import proofs.«01_k».proof.Proof.Spec
public import proofs.«01_k».proof.Proof.Gen.ReferenceIdeal.Read
public import Idealize.ShloMosaic.Lib.KernelVsHost
public import Idealize.ShloMosaic.Lib.WordCmp

/-! The reference at an element. -/

@[expose] public section

set_option maxRecDepth 16384

noncomputable section

namespace Cert.Proof.Reference

open Cert.ReferenceIdeal Cert.ReferenceIdeal.Gen Cert.ReferenceIdeal.Read
open Idealize.ShloMosaic Idealize.ShloMosaic.TcCoe
open Idealize.ShloMosaic.ValueIdx
open Cert.Proof.Spec
open Cert.Proof.Online (msk)

theorem red3 : S2x4x8192x8192.Reduces [3] S2x4x8192 := by decide

theorem hostMax_apply (y : FVec Ideal S2x4x8192x8192 .f32) (b : Fin 2) (h : Fin 4) (P : Fin 8192) :
    Host.reduce FloatOps.maximumf y (constant S_ .f32 0xFF800000#32) reducesTo_S2x4x8192x8192_S2x4x8192_d3 h_S_ (ix3 b h P)
      = (Finset.univ : Finset (Fin 8192)).fold max ⊥ fun k => y (ix4 b h P k) := by
  have e := hostReduce_maximumf_eq_multiReduction y 0xFF800000#32 reducesTo_S2x4x8192x8192_S2x4x8192_d3 h_S_ red3 (.inl rfl) rfl
  rw [e]
  refine (Ideal.multiReduction_maximumf_single y 0xFF800000#32 red3 (.inl rfl) rfl _).trans ?_
  rw [show (FloatOps.ofBits .f32 0xFF800000#32 : Ideal .f32) = (⊥ : EReal) from ofBits_ninf]
  refine congrArg (fun g => Finset.fold max ⊥ g Finset.univ) (funext fun k => congrArg y (funext fun a => Fin.ext ?_))
  match a with
  | ⟨0, _⟩ => rfl
  | ⟨1, _⟩ => rfl
  | ⟨2, _⟩ => rfl
  | ⟨3, _⟩ => rfl

theorem score_eq (x5 x6 : QK) (b : Fin 2) (h : Fin 4) (w : Fin 2) (P k : Fin 8192) :
    (∑ f : Fin 64, x5 (ix5 b P h w f) * x6 (ix5 b k h w f)) * ((1 / 8 : ℝ) : EReal) = score x5 x6 b h w P k.val := by
  have hk : (⟨k.val % 8192, by omega⟩ : Fin 8192) = k := Fin.ext (Nat.mod_eq_of_lt k.isLt)
  unfold score
  rw [hk]

theorem dot0_apply (x5 x6 : QK) (b : Fin 2) (h : Fin 4) (P k : Fin 8192) :
    val_main_v4 (F := Ideal) x5 x6 (ix4 b h P k) = ∑ f : Fin 64, x5 (ix5 b P h 0 f) * x6 (ix5 b k h 0 f) := by
  rw [val_main_v4_apply]
  refine Finset.sum_congr rfl fun f _ => ?_
  have hb := b.isLt; have hh := h.isLt; have hP := P.isLt; have hk := k.isLt; have hf := f.isLt
  rw [val_main_v1_apply, val_main_v0_apply, val_main_v3_apply, val_main_v2_apply]
  refine congrArg₂ (· * ·) (congrArg x5 (funext fun a => Fin.ext ?_)) (congrArg x6 (funext fun a => Fin.ext ?_))
  · match a with
    | ⟨0, _⟩ => show (((b.val * 8192 + P.val) * 4 + h.val) * 64 + f.val) / 2097152 = b.val; omega
    | ⟨1, _⟩ => show (((b.val * 8192 + P.val) * 4 + h.val) * 64 + f.val) / 256 % 8192 = P.val; omega
    | ⟨2, _⟩ => show (((b.val * 8192 + P.val) * 4 + h.val) * 64 + f.val) / 64 % 4 = h.val; omega
    | ⟨3, _⟩ => rfl
    | ⟨4, _⟩ => show (((b.val * 8192 + P.val) * 4 + h.val) * 64 + f.val) % 64 = f.val; omega
  · match a with
    | ⟨0, _⟩ => show (((b.val * 8192 + k.val) * 4 + h.val) * 64 + f.val) / 2097152 = b.val; omega
    | ⟨1, _⟩ => show (((b.val * 8192 + k.val) * 4 + h.val) * 64 + f.val) / 256 % 8192 = k.val; omega
    | ⟨2, _⟩ => show (((b.val * 8192 + k.val) * 4 + h.val) * 64 + f.val) / 64 % 4 = h.val; omega
    | ⟨3, _⟩ => rfl
    | ⟨4, _⟩ => show (((b.val * 8192 + k.val) * 4 + h.val) * 64 + f.val) % 64 = f.val; omega

theorem mask0_apply (b : Fin 2) (h : Fin 4) (P k : Fin 8192) :
    val_main_call0_v1 (F := Ideal) (ix4 b h P k) = BitVec.ofBool (decide (k.val ≤ P.val)) := by
  have hP := P.isLt; have hk := k.isLt
  rw [val_main_call0_v1_apply, val_main_v12_apply, val_main_v10_apply, val_main_v8_apply, val_main_v7_apply,
    val_main_v11_apply, val_main_v9_apply, val_main_v7_apply]
  exact WordCmp.cmpi_sle_ofNat (w := 32) (a := k.val) (b := P.val) (by omega) (by omega)

theorem masked0_apply (x5 x6 : QK) (b : Fin 2) (h : Fin 4) (P k : Fin 8192) :
    val_main_v13 (F := Ideal) x5 x6 (ix4 b h P k) = msk (score x5 x6 b h 0 P) P.val k.val := by
  have e : val_main_v6 (F := Ideal) x5 x6 (ix4 b h P k) = score x5 x6 b h 0 P k.val := by
    rw [val_main_v6_apply, val_main_v5_apply, val_main_cst_apply, dot0_apply]
    show (∑ f : Fin 64, x5 (ix5 b P h 0 f) * x6 (ix5 b k h 0 f)) * Ideal.ofBits .f32 0x3E000000#32 = _
    rw [ofBits_eighth, score_eq x5 x6]
  have e2 : val_main_call0_v2 (F := Ideal) (ix4 b h P k) = (⊥ : EReal) := by
    rw [val_main_call0_v2_apply, val_main_call0_v0_apply, val_main_cst_0_apply]
    exact ofBits_ninf
  rw [val_main_v13_apply, mask0_apply, e, e2, msk]
  by_cases hkP : k.val ≤ P.val
  · rw [if_pos hkP, decide_eq_true hkP]; rfl
  · rw [if_neg hkP, decide_eq_false hkP]; rfl

theorem max0_apply (x5 x6 : QK) (b : Fin 2) (h : Fin 4) (P : Fin 8192) :
    val_main_v16 (F := Ideal) x5 x6 (ix3 b h P)
      = (Finset.univ : Finset (Fin 8192)).fold max ⊥ fun k => msk (score x5 x6 b h 0 P) P.val k.val := by
  have e : val_main_v14 (F := Ideal) x5 x6 (ix3 b h P)
      = (Finset.univ : Finset (Fin 8192)).fold max ⊥ fun k => val_main_v13 (F := Ideal) x5 x6 (ix4 b h P k) := by
    unfold val_main_v14 val_main_cst_1
    exact hostMax_apply _ b h P
  rw [val_main_v16_apply, val_main_v15_apply, val_main_cst_2_apply, e]
  show max (Ideal.ofBits .f32 0xFF800000#32) _ = _
  rw [ofBits_ninf]
  refine (max_eq_right bot_le).trans ?_
  exact congrArg (fun g => Finset.fold max ⊥ g Finset.univ) (funext fun k => masked0_apply x5 x6 b h P k)

theorem exp0_apply (x5 x6 : QK) (b : Fin 2) (h : Fin 4) (P k : Fin 8192) :
    val_main_v20 (F := Ideal) x5 x6 (ix4 b h P k)
      = Ideal.exp ((val_main_v13 (F := Ideal) x5 x6 (ix4 b h P k) : EReal) - val_main_v16 (F := Ideal) x5 x6 (ix3 b h P)) := by
  rw [val_main_v20_apply, val_main_v19_apply, val_main_v18_apply, val_main_v17_apply]
  show Ideal.exp (_ - _) = _
  refine congrArg (fun z => Ideal.exp (val_main_v13 (F := Ideal) x5 x6 (ix4 b h P k) - z)) (congrArg (val_main_v16 (F := Ideal) x5 x6) (funext fun a => Fin.ext ?_))
  match a with
  | ⟨0, _⟩ => rfl
  | ⟨1, _⟩ => rfl
  | ⟨2, _⟩ => rfl

theorem comp0_apply (x5 x6 : QK) (x7 : VV) (b : Fin 2) (h : Fin 4) (P : Fin 8192) (d : Fin 128) :
    val_main_v26 (F := Ideal) x5 x6 x7 (ix4 b P h d) = scomp x5 x6 x7 b h 0 P d := by
  rw [val_main_v26_apply, val_main_v25_apply]
  unfold scomp Online.soft
  have hE : ∀ j : Fin 8192, val_main_v20 (F := Ideal) x5 x6 (ix4 b h P j) = Ideal.exp (msk (score x5 x6 b h 0 P) P.val j.val
      - (Finset.univ : Finset (Fin 8192)).fold max ⊥ fun j => msk (score x5 x6 b h 0 P) P.val j.val) := fun j => by
    rw [exp0_apply, masked0_apply, max0_apply]
  refine Finset.sum_congr rfl fun k _ => ?_
  · refine congrArg₂ (· * ·) (congrArg x7 (funext fun a => Fin.ext ?_)) ?_
    · match a with
      | ⟨0, _⟩ => rfl
      | ⟨1, _⟩ => show k.val = k.val % 8192; omega
      | ⟨2, _⟩ => rfl
      | ⟨3, _⟩ => rfl
    · have ei : ridx_main_v25 (idx_main_v26 (ix4 b P h d)) k = ix4 b h P k := funext fun a => Fin.ext (by
        match a with
        | ⟨0, _⟩ => rfl
        | ⟨1, _⟩ => rfl
        | ⟨2, _⟩ => rfl
        | ⟨3, _⟩ => rfl)
      rw [ei, val_main_v24_apply, val_main_v23_apply, val_main_v22_apply, val_main_v21_apply, val_main_cst_3_apply]
      show Ideal.div _ (Ideal.ofBits .f32 0x00000000#32 + _) = _
      rw [Ideal.ofBits_zero_f32, zero_add]
      refine congrArg₂ Ideal.div (hE k) (Finset.sum_congr rfl fun j _ => ?_)
      have ej : idx_main_v21 (idx_main_v22 (idx_main_v23 (ix4 b h P k))) j = ix4 b h P j := funext fun a => Fin.ext (by
        match a with
        | ⟨0, _⟩ => rfl
        | ⟨1, _⟩ => rfl
        | ⟨2, _⟩ => rfl
        | ⟨3, _⟩ => rfl)
      rw [ej, hE]

theorem dot1_apply (x5 x6 : QK) (b : Fin 2) (h : Fin 4) (P k : Fin 8192) :
    val_main_v31 (F := Ideal) x5 x6 (ix4 b h P k) = ∑ f : Fin 64, x5 (ix5 b P h 1 f) * x6 (ix5 b k h 1 f) := by
  rw [val_main_v31_apply]
  refine Finset.sum_congr rfl fun f _ => ?_
  have hb := b.isLt; have hh := h.isLt; have hP := P.isLt; have hk := k.isLt; have hf := f.isLt
  rw [val_main_v28_apply, val_main_v27_apply, val_main_v30_apply, val_main_v29_apply]
  refine congrArg₂ (· * ·) (congrArg x5 (funext fun a => Fin.ext ?_)) (congrArg x6 (funext fun a => Fin.ext ?_))
  · match a with
    | ⟨0, _⟩ => show (((b.val * 8192 + P.val) * 4 + h.val) * 64 + f.val) / 2097152 = b.val; omega
    | ⟨1, _⟩ => show (((b.val * 8192 + P.val) * 4 + h.val) * 64 + f.val) / 256 % 8192 = P.val; omega
    | ⟨2, _⟩ => show (((b.val * 8192 + P.val) * 4 + h.val) * 64 + f.val) / 64 % 4 = h.val; omega
    | ⟨3, _⟩ => rfl
    | ⟨4, _⟩ => show (((b.val * 8192 + P.val) * 4 + h.val) * 64 + f.val) % 64 = f.val; omega
  · match a with
    | ⟨0, _⟩ => show (((b.val * 8192 + k.val) * 4 + h.val) * 64 + f.val) / 2097152 = b.val; omega
    | ⟨1, _⟩ => show (((b.val * 8192 + k.val) * 4 + h.val) * 64 + f.val) / 256 % 8192 = k.val; omega
    | ⟨2, _⟩ => show (((b.val * 8192 + k.val) * 4 + h.val) * 64 + f.val) / 64 % 4 = h.val; omega
    | ⟨3, _⟩ => rfl
    | ⟨4, _⟩ => show (((b.val * 8192 + k.val) * 4 + h.val) * 64 + f.val) % 64 = f.val; omega

theorem mask1_apply (b : Fin 2) (h : Fin 4) (P k : Fin 8192) :
    val_main_call1_v1 (F := Ideal) (ix4 b h P k) = BitVec.ofBool (decide (k.val ≤ P.val)) := by
  have hP := P.isLt; have hk := k.isLt
  rw [val_main_call1_v1_apply, val_main_v39_apply, val_main_v37_apply, val_main_v35_apply, val_main_v34_apply,
    val_main_v38_apply, val_main_v36_apply, val_main_v34_apply]
  exact WordCmp.cmpi_sle_ofNat (w := 32) (a := k.val) (b := P.val) (by omega) (by omega)

theorem masked1_apply (x5 x6 : QK) (b : Fin 2) (h : Fin 4) (P k : Fin 8192) :
    val_main_v40 (F := Ideal) x5 x6 (ix4 b h P k) = msk (score x5 x6 b h 1 P) P.val k.val := by
  have e : val_main_v33 (F := Ideal) x5 x6 (ix4 b h P k) = score x5 x6 b h 1 P k.val := by
    rw [val_main_v33_apply, val_main_v32_apply, val_main_cst_4_apply, dot1_apply]
    show (∑ f : Fin 64, x5 (ix5 b P h 1 f) * x6 (ix5 b k h 1 f)) * Ideal.ofBits .f32 0x3E000000#32 = _
    rw [ofBits_eighth, score_eq x5 x6]
  have e2 : val_main_call1_v2 (F := Ideal) (ix4 b h P k) = (⊥ : EReal) := by
    rw [val_main_call1_v2_apply, val_main_call1_v0_apply, val_main_cst_5_apply]
    exact ofBits_ninf
  rw [val_main_v40_apply, mask1_apply, e, e2, msk]
  by_cases hkP : k.val ≤ P.val
  · rw [if_pos hkP, decide_eq_true hkP]; rfl
  · rw [if_neg hkP, decide_eq_false hkP]; rfl

theorem max1_apply (x5 x6 : QK) (b : Fin 2) (h : Fin 4) (P : Fin 8192) :
    val_main_v43 (F := Ideal) x5 x6 (ix3 b h P)
      = (Finset.univ : Finset (Fin 8192)).fold max ⊥ fun k => msk (score x5 x6 b h 1 P) P.val k.val := by
  have e : val_main_v41 (F := Ideal) x5 x6 (ix3 b h P)
      = (Finset.univ : Finset (Fin 8192)).fold max ⊥ fun k => val_main_v40 (F := Ideal) x5 x6 (ix4 b h P k) := by
    unfold val_main_v41 val_main_cst_6
    exact hostMax_apply _ b h P
  rw [val_main_v43_apply, val_main_v42_apply, val_main_cst_7_apply, e]
  show max (Ideal.ofBits .f32 0xFF800000#32) _ = _
  rw [ofBits_ninf]
  refine (max_eq_right bot_le).trans ?_
  exact congrArg (fun g => Finset.fold max ⊥ g Finset.univ) (funext fun k => masked1_apply x5 x6 b h P k)

theorem exp1_apply (x5 x6 : QK) (b : Fin 2) (h : Fin 4) (P k : Fin 8192) :
    val_main_v47 (F := Ideal) x5 x6 (ix4 b h P k)
      = Ideal.exp ((val_main_v40 (F := Ideal) x5 x6 (ix4 b h P k) : EReal) - val_main_v43 (F := Ideal) x5 x6 (ix3 b h P)) := by
  rw [val_main_v47_apply, val_main_v46_apply, val_main_v45_apply, val_main_v44_apply]
  show Ideal.exp (_ - _) = _
  refine congrArg (fun z => Ideal.exp (val_main_v40 (F := Ideal) x5 x6 (ix4 b h P k) - z)) (congrArg (val_main_v43 (F := Ideal) x5 x6) (funext fun a => Fin.ext ?_))
  match a with
  | ⟨0, _⟩ => rfl
  | ⟨1, _⟩ => rfl
  | ⟨2, _⟩ => rfl

theorem comp1_apply (x5 x6 : QK) (x7 : VV) (b : Fin 2) (h : Fin 4) (P : Fin 8192) (d : Fin 128) :
    val_main_v53 (F := Ideal) x5 x6 x7 (ix4 b P h d) = scomp x5 x6 x7 b h 1 P d := by
  rw [val_main_v53_apply, val_main_v52_apply]
  unfold scomp Online.soft
  have hE : ∀ j : Fin 8192, val_main_v47 (F := Ideal) x5 x6 (ix4 b h P j) = Ideal.exp (msk (score x5 x6 b h 1 P) P.val j.val
      - (Finset.univ : Finset (Fin 8192)).fold max ⊥ fun j => msk (score x5 x6 b h 1 P) P.val j.val) := fun j => by
    rw [exp1_apply, masked1_apply, max1_apply]
  refine Finset.sum_congr rfl fun k _ => ?_
  · refine congrArg₂ (· * ·) (congrArg x7 (funext fun a => Fin.ext ?_)) ?_
    · match a with
      | ⟨0, _⟩ => rfl
      | ⟨1, _⟩ => show k.val = k.val % 8192; omega
      | ⟨2, _⟩ => rfl
      | ⟨3, _⟩ => rfl
    · have ei : ridx_main_v52 (idx_main_v53 (ix4 b P h d)) k = ix4 b h P k := funext fun a => Fin.ext (by
        match a with
        | ⟨0, _⟩ => rfl
        | ⟨1, _⟩ => rfl
        | ⟨2, _⟩ => rfl
        | ⟨3, _⟩ => rfl)
      rw [ei, val_main_v51_apply, val_main_v50_apply, val_main_v49_apply, val_main_v48_apply, val_main_cst_8_apply]
      show Ideal.div _ (Ideal.ofBits .f32 0x00000000#32 + _) = _
      rw [Ideal.ofBits_zero_f32, zero_add]
      refine congrArg₂ Ideal.div (hE k) (Finset.sum_congr rfl fun j _ => ?_)
      have ej : idx_main_v48 (idx_main_v49 (idx_main_v50 (ix4 b h P k))) j = ix4 b h P j := funext fun a => Fin.ext (by
        match a with
        | ⟨0, _⟩ => rfl
        | ⟨1, _⟩ => rfl
        | ⟨2, _⟩ => rfl
        | ⟨3, _⟩ => rfl)
      rw [ej, hE]

theorem sum64 (y : S64.Idx → EReal) : ∑ j : S64.Idx, y j = ∑ f : Fin 64, y (ix1 f) :=
  Fintype.sum_equiv ⟨fun j => j 0, fun f => ix1 f, fun j => funext fun a => by
    match a with
    | ⟨0, _⟩ => rfl, fun _ => rfl⟩ _ _ fun j => congrArg y (funext fun a => by
    match a with
    | ⟨0, _⟩ => rfl)

theorem lam_apply (x0 x1 x2 x3 : (⟨2, ![1, 64]⟩ : Shape).Idx → EReal) (i : S_.Idx) :
    val_main_v65 (F := Ideal) x0 x1 x2 x3 i
      = lam (fun f => x0 (ix2 0 f)) (fun f => x1 (ix2 0 f)) (fun f => x2 (ix2 0 f)) fun f => x3 (ix2 0 f) := by
  have e : ∀ f : Fin 64, idx_main_v54 (ix1 f) = ix2 0 f := fun f => funext fun a => Fin.ext (by
    match a with
    | ⟨0, _⟩ => rfl
    | ⟨1, _⟩ => exact Nat.mod_eq_of_lt f.isLt)
  have e57 : val_main_v57 (F := Ideal) x0 x1 i = ∑ f : Fin 64, x0 (ix2 0 f) * x1 (ix2 0 f) := by
    rw [val_main_v57_apply, val_main_cst_9_apply]
    refine (congrArg (· + _) Ideal.ofBits_zero_f32).trans ((zero_add _).trans ?_)
    refine (sum64 _).trans (Finset.sum_congr rfl fun f _ => ?_)
    rw [val_main_v56_apply, val_main_v54_apply, val_main_v55_apply]
    exact congrArg₂ (fun u v => x0 u * x1 v) (e f) (e f)
  have e62 : val_main_v62 (F := Ideal) x2 x3 i = ∑ f : Fin 64, x2 (ix2 0 f) * x3 (ix2 0 f) := by
    rw [val_main_v62_apply, val_main_cst_10_apply]
    refine (congrArg (· + _) Ideal.ofBits_zero_f32).trans ((zero_add _).trans ?_)
    refine (sum64 _).trans (Finset.sum_congr rfl fun f _ => ?_)
    rw [val_main_v61_apply, val_main_v59_apply, val_main_v60_apply]
    exact congrArg₂ (fun u v => x2 u * x3 v) (e f) (e f)
  rw [val_main_v65_apply, val_main_v64_apply, val_main_v58_apply, val_main_v63_apply, val_main_cst_11_apply, e57, e62]
  rfl

theorem sub_apply (x0 x1 x2 x3 : (⟨2, ![1, 64]⟩ : Shape).Idx → EReal) (x5 x6 : QK) (x7 : VV) (b : Fin 2)
    (P : Fin 8192) (h : Fin 4) (d : Fin 128) :
    val_main_v68 (F := Ideal) x0 x1 x2 x3 x5 x6 x7 (ix4 b P h d)
      = scomp x5 x6 x7 b h 0 P d - lam (fun f => x0 (ix2 0 f)) (fun f => x1 (ix2 0 f)) (fun f => x2 (ix2 0 f)) (fun f => x3 (ix2 0 f))
        * scomp x5 x6 x7 b h 1 P d := by
  rw [val_main_v68_apply, val_main_v67_apply, val_main_v66_apply, lam_apply, comp0_apply x5 x6 x7, comp1_apply x5 x6 x7]
  rfl

/-- The reference's result. -/
theorem result_apply (x0 x1 x2 x3 : (⟨2, ![1, 64]⟩ : Shape).Idx → EReal) (x4 : (⟨2, ![1, 128]⟩ : Shape).Idx → EReal) (x5 x6 : QK) (x7 : VV)
    (b : Fin 2) (P : Fin 8192) (h : Fin 4) (d : Fin 128) (j : Fin 512) (hj : j.val = 128 * h.val + d.val) :
    val_main_v86 (F := Ideal) x0 x1 x2 x3 x4 x5 x6 x7 (ix3 b P j)
      = sdiff (fun f => x0 (ix2 0 f)) (fun f => x1 (ix2 0 f)) (fun f => x2 (ix2 0 f)) (fun f => x3 (ix2 0 f)) (fun e => x4 (ix2 0 e))
        x5 x6 x7 b P h d := by
  have hb := b.isLt; have hh := h.isLt; have hP := P.isLt; have hd := d.isLt
  have ei : idx_main_v85 (ix3 b P j) = ix4 b P h d := funext fun a => Fin.ext (by
    match a with
    | ⟨0, _⟩ => show ((b.val * 8192 + P.val) * 512 + j.val) / 4194304 = b.val; omega
    | ⟨1, _⟩ => show ((b.val * 8192 + P.val) * 512 + j.val) / 512 % 8192 = P.val; omega
    | ⟨2, _⟩ => show ((b.val * 8192 + P.val) * 512 + j.val) / 128 % 4 = h.val; omega
    | ⟨3, _⟩ => show ((b.val * 8192 + P.val) * 512 + j.val) % 128 = d.val; omega)
  have e4 : val_main_v81 (F := Ideal) x4 (ix4 b P h d) = x4 (ix2 0 d) := by
    rw [val_main_v81_apply, val_main_v80_apply, val_main_v69_apply]
    refine congrArg x4 (funext fun a => Fin.ext ?_)
    match a with
    | ⟨0, _⟩ => rfl
    | ⟨1, _⟩ => exact Nat.mod_eq_of_lt d.isLt
  have e71 : ∀ i : S2x8192x4.Idx, i = ix3 b P h → val_main_v71 (F := Ideal) x0 x1 x2 x3 x5 x6 x7 i
      = ∑ e : Fin 128, (scomp x5 x6 x7 b h 0 P e - lam (fun f => x0 (ix2 0 f)) (fun f => x1 (ix2 0 f)) (fun f => x2 (ix2 0 f)) (fun f => x3 (ix2 0 f)) * scomp x5 x6 x7 b h 1 P e)
        * (scomp x5 x6 x7 b h 0 P e - lam (fun f => x0 (ix2 0 f)) (fun f => x1 (ix2 0 f)) (fun f => x2 (ix2 0 f)) (fun f => x3 (ix2 0 f)) * scomp x5 x6 x7 b h 1 P e) := by
    rintro _ rfl
    rw [val_main_v71_apply, val_main_cst_12_apply]
    refine (congrArg (· + _) Ideal.ofBits_zero_f32).trans ((zero_add _).trans (Finset.sum_congr rfl fun e _ => ?_))
    have ee : idx_main_v71 (ix3 b P h) e = ix4 b P h e := funext fun a => Fin.ext (by
      match a with
      | ⟨0, _⟩ => rfl
      | ⟨1, _⟩ => rfl
      | ⟨2, _⟩ => rfl
      | ⟨3, _⟩ => rfl)
    rw [ee, val_main_v70_apply, sub_apply x0 x1 x2 x3 x5 x6 x7]
    rfl
  rw [val_main_v86_apply, val_main_v85_apply, ei, val_main_v84_apply, val_main_v83_apply, val_main_cst_15_apply, val_main_v82_apply, e4,
    val_main_v79_apply, sub_apply x0 x1 x2 x3 x5 x6 x7, val_main_v78_apply, val_main_v77_apply, val_main_v76_apply,
    val_main_v75_apply, val_main_cst_14_apply, val_main_v74_apply, val_main_v73_apply, val_main_cst_13_apply, val_main_v72_apply,
    e71 _ (funext fun a => Fin.ext (by
      match a with
      | ⟨0, _⟩ => rfl
      | ⟨1, _⟩ => rfl
      | ⟨2, _⟩ => rfl))]
  rfl

end Cert.Proof.Reference

end
-- ==== Proof.Pay.lean ====
module

public import proofs.«01_k».proof.Proof.Vals
public import proofs.«01_k».proof.Proof.Online
public import Idealize.ShloMosaic.Lib.MatmulPlain
public import Idealize.ShloMosaic.Lib.WordCmp

/-! The kernel's block operations read at an element, on the extended reals. -/

@[expose] public section

set_option maxRecDepth 16384

noncomputable section

namespace Cert.Proof.KernelIdeal

open Cert.KernelIdeal
open Idealize.ShloMosaic Idealize.ShloMosaic.TcCoe
open Idealize.ShloMosaic.ValueIdx

theorem ofBits_ninf : Ideal.ofBits .f32 0xFF800000#32 = ⊥ := by simp [Ideal.ofBits, Ideal.ieee]
theorem ofBits_one_bf16 : Ideal.ofBits .bf16 0x3F80#16 = 1 := by simp [Ideal.ofBits, Ideal.ieee, -EReal.coe_mul]; norm_num
theorem ofBits_zero_bf16 : Ideal.ofBits .bf16 0x0000#16 = 0 := by simp [Ideal.ofBits, Ideal.ieee]

theorem select_ofBool {α : Type} (b : Bool) (x y : α) : Scalar.select (BitVec.ofBool b) x y = if b then x else y := by
  cases b <;> rfl

theorem cast3_apply {e : EltTy} (kb : S1x512x128.Idx → Elt Ideal e) (h : S1x512x128.ShapeCasts S512x128) (k : Fin 512) (f : Fin 128) :
    shapeCast S512x128 kb h (ix2 k f) = kb (ix3 0 k f) := by
  refine (shapeCast_dropUnit_apply ![512, 128] kb h (ix2 k f)).trans (congrArg kb (funext fun a => Fin.ext ?_))
  match a with
  | ⟨0, _⟩ => rfl
  | ⟨1, _⟩ => rfl
  | ⟨2, _⟩ => rfl

/-- A block's scores. -/
theorem pay1_apply (q : FVec Ideal S128x1024 .bf16) (kb : Vec Ideal S1x512x128 .bf16) (k : Fin 512) (c : Fin 1024) :
    Gen.k0_pay1 q kb (ix2 k c) = ∑ f : Fin 128, kb (ix3 0 k f) * q (ix2 f c) := by
  refine (Ideal.matmul_plain_apply (M := 512) (K := 128) (N := 1024) none
    (shapeCast S512x128 kb Gen.shapeCasts_S1x512x128_S512x128) q (constant S512x1024 .f32 0x00000000#32) k c).trans ?_
  rw [constant_apply, Ideal.ofBits_zero_f32, zero_add]
  exact Finset.sum_congr rfl fun f _ => congrArg (· * q (ix2 f c)) (cast3_apply kb _ k f)

/-- The right half's scores. -/
theorem pay197_apply (q : FVec Ideal S128x1024 .bf16) (kb : Vec Ideal S1x512x128 .bf16) (k : Fin 512) (c : Fin 512) :
    Gen.k0_pay197 q kb (ix2 k c) = ∑ f : Fin 128, kb (ix3 0 k f) * q (ix2 f ⟨c.val + 512, by omega⟩) := by
  refine (Ideal.matmul_plain_apply (M := 512) (K := 128) (N := 512) none
    (shapeCast S512x128 kb Gen.shapeCasts_S1x512x128_S512x128)
    (extractStridedSlice S128x512 ![0, 512] q Gen.slices_S128x1024_o0_512_S128x512) (constant S512x512 .f32 0x00000000#32) k c).trans ?_
  rw [constant_apply, Ideal.ofBits_zero_f32, zero_add]
  refine Finset.sum_congr rfl fun f _ => congrArg₂ (· * ·) (cast3_apply kb _ k f) ?_
  refine extractStridedSlice_apply ![0, 512] q _ (ix2 f c) _ fun a => ?_
  match a with
  | ⟨0, _⟩ => show f.val = 0 + f.val; omega
  | ⟨1, _⟩ => show c.val + 512 = 512 + c.val; omega

/-- The maximum down a column. -/
def colmax {n m : ℕ} (s : (⟨2, ![n, m]⟩ : Shape).Idx → EReal) (c : Fin m) : EReal :=
  (Finset.univ : Finset (Fin n)).fold max ⊥ fun k => s (ix2 k c)

theorem pay53_apply (s : FVec Ideal S512x1024 .f32) (c : Fin 1024) : Gen.k0_pay53 s (ix2 0 c) = colmax (n := 512) (m := 1024) s c := by
  unfold Gen.k0_pay53
  refine (shapeCast_addUnit_apply ![1024] _ Gen.shapeCasts_S1024_S1x1024 (ix2 0 c)).trans ?_
  refine (Ideal.multiReduction_maximumf_single s 0xFF800000#32 Gen.reduces_S512x1024_S1024 (.inl rfl) rfl _).trans ?_
  rw [show (FloatOps.ofBits .f32 0xFF800000#32 : Ideal .f32) = (⊥ : EReal) from ofBits_ninf]
  refine congrArg (fun g => Finset.fold max ⊥ g Finset.univ) (funext fun k => congrArg s (funext fun a => Fin.ext ?_))
  match a with
  | ⟨0, _⟩ => rfl
  | ⟨1, _⟩ => rfl

theorem bcRow_apply {n m : ℕ} (x : (⟨2, ![1, m]⟩ : Shape).Idx → EReal) (h : (⟨2, ![1, m]⟩ : Shape).Broadcasts ⟨2, ![n, m]⟩) (hm : m ≠ 1)
    (r : Fin n) (c : Fin m) : broadcastTo ⟨2, ![n, m]⟩ x h (ix2 r c) = x (ix2 0 c) := by
  refine broadcastTo_apply x h (ix2 r c) (ix2 0 c) fun a => ?_
  match a with
  | ⟨0, _⟩ => rfl
  | ⟨1, _⟩ => show c.val = if m = 1 then 0 else c.val; rw [if_neg hm]

/-- Row `r` of a value block with its sixteen rows of ones. -/
def vrow (vb : Vec Ideal S1x1x128x512 .bf16) (r : Fin 144) (k : Fin 512) : EReal :=
  if h : r.val < 128 then vb (ix4 0 0 ⟨r.val, h⟩ k) else 1

theorem cat_apply (vb : Vec Ideal S1x1x128x512 .bf16) (r : Fin 144) (k : Fin 512) :
    concatenate S144x512 0 [⟨S128x512, shapeCast S128x512 vb Gen.shapeCasts_S1x1x128x512_S128x512⟩, ⟨S16x512, Gen.k0_pay324 (F := Ideal)⟩]
      Gen.concatenates_S128x512_S16x512_S144x512_d0 (ix2 r k) = vrow vb r k := by
  unfold vrow
  by_cases h : r.val < 128
  · rw [dif_pos h]
    refine (concatenate_pair_apply_left (t := S144x512) (s₁ := S128x512) (s₂ := S16x512) 0 _ _ Gen.concatenates_S128x512_S16x512_S144x512_d0 (ix2 r k) rfl
      (ix2 ⟨r.val, h⟩ k) (fun b => ?_)).trans ?_
    · match b with
      | ⟨0, _⟩ => rfl
      | ⟨1, _⟩ => rfl
    · refine shapeCast_apply vb _ (ix2 ⟨r.val, h⟩ k) (ix4 0 0 ⟨r.val, h⟩ k) ?_
      rw [Shape.rowMajor_val_four, Shape.rowMajor_val_two]
      show ((0 * 1 + 0) * 128 + r.val) * 512 + k.val = r.val * 512 + k.val
      omega
  · rw [dif_neg h]
    refine (concatenate_pair_apply_right (t := S144x512) (s₁ := S128x512) (s₂ := S16x512) 0 _ _ Gen.concatenates_S128x512_S16x512_S144x512_d0 (ix2 r k) rfl rfl
      (ix2 ⟨r.val - 128, by omega⟩ k) (fun b hb => ?_) ?_).trans ?_
    · match b with
      | ⟨0, _⟩ => exact absurd rfl hb
      | ⟨1, _⟩ => rfl
    · show r.val - 128 + 128 = r.val; omega
    · exact ofBits_one_bf16

/-- The running maximum after a block. -/
theorem upd_fst (p : St Ideal) (s : FVec Ideal S512x1024 .f32) (vb : Vec Ideal S1x1x128x512 .bf16) (c : Fin 1024) :
    (upd p s vb).1 (ix2 0 c) = max (p.1 (ix2 0 c)) (colmax (n := 512) (m := 1024) s c) :=
  congrArg (max (p.1 (ix2 0 c))) (pay53_apply s c)

/-- The accumulator after a block. -/
theorem upd_snd (p : St Ideal) (s : FVec Ideal S512x1024 .f32) (vb : Vec Ideal S1x1x128x512 .bf16) (r : Fin 144) (c : Fin 1024) :
    (upd p s vb).2 (ix2 r c)
      = Ideal.exp2 (p.1 (ix2 0 c) - max (p.1 (ix2 0 c)) (colmax (n := 512) (m := 1024) s c)) * p.2 (ix2 r c)
        + ∑ k : Fin 512, vrow vb r k * Ideal.exp2 (s (ix2 k c) - max (p.1 (ix2 0 c)) (colmax (n := 512) (m := 1024) s c)) := by
  have hm : maximumf p.1 (Gen.k0_pay53 s) (ix2 0 c) = max (p.1 (ix2 0 c)) (colmax (n := 512) (m := 1024) s c) := upd_fst p s vb c
  rw [← hm]
  show Gen.k0_pay54 _ _ _ _ _ _ = _
  unfold Gen.k0_pay54
  rw [shapeCast_self, addf_apply, mulf_apply, bcRow_apply (n := 144) (m := 1024) _ _ (by decide)]
  refine congrArg₂ (· + ·) rfl ?_
  refine (Ideal.matmul_plain_apply (M := 144) (K := 512) (N := 1024) none _ _ (constant S144x1024 .f32 0x00000000#32) r c).trans ?_
  rw [constant_apply, Ideal.ofBits_zero_f32, zero_add]
  refine Finset.sum_congr rfl fun k _ => congrArg₂ (· * ·) (cat_apply vb r k) ?_
  show Ideal.exp2 (s (ix2 k c) - broadcastTo S512x1024 _ _ (ix2 k c)) = _
  rw [bcRow_apply (n := 512) (m := 1024) _ _ (by decide)]

theorem accR_apply (a : FVec Ideal S144x1024 .f32) (r : Fin 144) (c : Fin 512) : accR a (ix2 r c) = a (ix2 r ⟨c.val + 512, by omega⟩) := by
  refine congrArg a (funext fun d => Fin.ext ?_)
  match d with
  | ⟨0, _⟩ => show 0 + 1 * r.val = r.val; omega
  | ⟨1, _⟩ => show 512 + 1 * c.val = c.val + 512; omega

theorem pay260_apply (m : FVec Ideal S1x1024 .f32) (c : Fin 512) : Gen.k0_pay260 m (ix2 0 c) = m (ix2 0 ⟨c.val + 512, by omega⟩) := by
  refine extractStridedSlice_apply ![0, 512] m Gen.slices_S1x1024_o0_512_S1x512 (ix2 0 c) _ fun a => ?_
  match a with
  | ⟨0, _⟩ => rfl
  | ⟨1, _⟩ => show c.val + 512 = 512 + c.val; omega

theorem pay261_apply (m : FVec Ideal S1x1024 .f32) (s : FVec Ideal S512x512 .f32) (c : Fin 512) :
    Gen.k0_pay261 m s (ix2 0 c) = max (m (ix2 0 ⟨c.val + 512, by omega⟩)) (colmax (n := 512) (m := 512) s c) := by
  unfold Gen.k0_pay261
  rw [maximumf_apply, pay260_apply]
  refine congrArg (max _) ?_
  refine (shapeCast_addUnit_apply ![512] _ Gen.shapeCasts_S512_S1x512 (ix2 0 c)).trans ?_
  refine (Ideal.multiReduction_maximumf_single s 0xFF800000#32 Gen.reduces_S512x512_S512 (.inl rfl) rfl _).trans ?_
  rw [show (FloatOps.ofBits .f32 0xFF800000#32 : Ideal .f32) = (⊥ : EReal) from ofBits_ninf]
  refine congrArg (fun g => Finset.fold max ⊥ g Finset.univ) (funext fun k => congrArg s (funext fun a => Fin.ext ?_))
  match a with
  | ⟨0, _⟩ => rfl
  | ⟨1, _⟩ => rfl

/-- The right half after the last block. -/
theorem updr_apply (p : St Ideal) (s : FVec Ideal S512x512 .f32) (vb : Vec Ideal S1x1x128x512 .bf16) (r : Fin 144) (c : Fin 512) :
    updr p s vb (ix2 r c)
      = Ideal.exp2 (p.1 (ix2 0 ⟨c.val + 512, by omega⟩) - max (p.1 (ix2 0 ⟨c.val + 512, by omega⟩)) (colmax (n := 512) (m := 512) (dmaskr s) c))
          * p.2 (ix2 r ⟨c.val + 512, by omega⟩)
        + ∑ k : Fin 512, vrow vb r k
          * Ideal.exp2 (dmaskr s (ix2 k c) - max (p.1 (ix2 0 ⟨c.val + 512, by omega⟩)) (colmax (n := 512) (m := 512) (dmaskr s) c)) := by
  rw [← pay261_apply p.1 (dmaskr s) c, ← pay260_apply p.1 c, ← accR_apply p.2 r c]
  unfold updr Gen.k0_pay305
  rw [shapeCast_self, addf_apply, mulf_apply, bcRow_apply (n := 144) (m := 512) _ _ (by decide)]
  refine congrArg₂ (· + ·) rfl ?_
  refine (Ideal.matmul_plain_apply (M := 144) (K := 512) (N := 512) none _ _ (constant S144x512 .f32 0x00000000#32) r c).trans ?_
  rw [constant_apply, Ideal.ofBits_zero_f32, zero_add]
  refine Finset.sum_congr rfl fun k _ => congrArg₂ (· * ·) (cat_apply vb r k) ?_
  show Ideal.exp2 (dmaskr s (ix2 k c) - broadcastTo S512x512 _ _ (ix2 k c)) = _
  rw [bcRow_apply (n := 512) (m := 512) _ _ (by decide)]

theorem dmask_apply (s : FVec Ideal S512x1024 .f32) (k : Fin 512) (c : Fin 1024) :
    dmask s (ix2 k c) = if k.val ≤ c.val then s (ix2 k c) else ⊥ := by
  have h : Gen.k0_pay265 (ix2 k c) = BitVec.ofBool (decide (k.val ≤ c.val)) := by
    show IntOp.cmpi .sle (iota .tc S512x1024 32 [0] Gen.iota_S512x1024_d0_w32 (ix2 k c)) (iota .tc S512x1024 32 [1] Gen.iota_S512x1024_d1_w32 (ix2 k c)) = _
    rw [iota_single_apply, iota_single_apply]
    exact WordCmp.cmpi_sle_ofNat (by show k.val < 2 ^ 31; omega) (by show c.val < 2 ^ 31; omega)
  show Scalar.select (Gen.k0_pay265 (ix2 k c)) (s (ix2 k c)) (Ideal.ofBits .f32 0xFF800000#32) = _
  rw [h, select_ofBool, ofBits_ninf]
  simp only [decide_eq_true_eq]

theorem dmaskr_apply (s : FVec Ideal S512x512 .f32) (k : Fin 512) (c : Fin 512) :
    dmaskr s (ix2 k c) = if k.val ≤ c.val then s (ix2 k c) else ⊥ := by
  have h : Gen.k0_pay245 (ix2 k c) = BitVec.ofBool (decide (k.val ≤ c.val)) := by
    show IntOp.cmpi .sle (iota .tc S512x512 32 [0] Gen.iota_S512x512_d0_w32 (ix2 k c)) (iota .tc S512x512 32 [1] Gen.iota_S512x512_d1_w32 (ix2 k c)) = _
    rw [iota_single_apply, iota_single_apply]
    exact WordCmp.cmpi_sle_ofNat (by show k.val < 2 ^ 31; omega) (by show c.val < 2 ^ 31; omega)
  show Scalar.select (Gen.k0_pay245 (ix2 k c)) (s (ix2 k c)) (Ideal.ofBits .f32 0xFF800000#32) = _
  rw [h, select_ofBool, ofBits_ninf]
  simp only [decide_eq_true_eq]

/-! ## A component's queries -/

theorem castQ_apply (Q : Vec Ideal S1x128x1024 .bf16) (h : S1x128x1024.ShapeCasts S128x1024) (f : Fin 128) (c : Fin 1024) :
    shapeCast S128x1024 Q h (ix2 f c) = Q (ix3 0 f c) := by
  refine (shapeCast_dropUnit_apply ![128, 1024] Q h (ix2 f c)).trans (congrArg Q (funext fun a => Fin.ext ?_))
  match a with
  | ⟨0, _⟩ => rfl
  | ⟨1, _⟩ => rfl
  | ⟨2, _⟩ => rfl

theorem cmp64 (f : Fin 128) (c : Fin 1024) :
    IntOp.cmpi .sge (iota .tc S128x1024 32 [0] Gen.iota_S128x1024_d0_w32 (ix2 f c)) 64#32 = BitVec.ofBool (decide (64 ≤ f.val)) := by
  rw [iota_single_apply]
  exact WordCmp.cmpi_sge_ofNat (b := 64) (by show f.val < 2 ^ 31; omega) (by decide)

theorem xor0 (b : Bool) : (BitVec.ofBool b ^^^ 0#1) ^^^ 1#1 = BitVec.ofBool (!b) := by cases b <;> rfl
theorem xor1 (b : Bool) : (BitVec.ofBool b ^^^ 1#1) ^^^ 1#1 = BitVec.ofBool b := by cases b <;> rfl

/-- The first component's: the features from 64 on are zero. -/
theorem pay319_apply (Q : Vec Ideal S1x128x1024 .bf16) (f : Fin 128) (c : Fin 1024) :
    Gen.k0_pay319 Q (ix2 f c) = if f.val < 64 then Q (ix3 0 f c) else 0 := by
  show Scalar.select ((IntOp.cmpi .sge (iota .tc S128x1024 32 [0] Gen.iota_S128x1024_d0_w32 (ix2 f c)) 64#32 ^^^ 0#1) ^^^ 1#1)
    (shapeCast S128x1024 Q Gen.shapeCasts_S1x128x1024_S128x1024 (ix2 f c)) (Ideal.ofBits .bf16 0x0000#16) = _
  rw [cmp64, xor0, select_ofBool, castQ_apply, ofBits_zero_bf16]
  simp only [Bool.not_eq_true', decide_eq_false_iff_not, not_le]

/-- The second component's: the features below 64 are zero. -/
theorem pay321_apply (Q : Vec Ideal S1x128x1024 .bf16) (f : Fin 128) (c : Fin 1024) :
    Gen.k0_pay321 Q (ix2 f c) = if 64 ≤ f.val then Q (ix3 0 f c) else 0 := by
  show Scalar.select ((IntOp.cmpi .sge (iota .tc S128x1024 32 [0] Gen.iota_S128x1024_d0_w32 (ix2 f c)) 64#32 ^^^ 1#1) ^^^ 1#1)
    (shapeCast S128x1024 Q Gen.shapeCasts_S1x128x1024_S128x1024 (ix2 f c)) (Ideal.ofBits .bf16 0x0000#16) = _
  rw [cmp64, xor1, select_ofBool, castQ_apply, ofBits_zero_bf16]
  simp only [decide_eq_true_eq]

end Cert.Proof.KernelIdeal

end
-- ==== Proof.Stream.lean ====
module

public import proofs.«01_k».proof.Proof.Pay

/-! One component's accumulator at the end of a query tile: a query's row of weighted values over the sum of its weights is
the attention of its scores. -/

@[expose] public section

set_option maxRecDepth 16384

noncomputable section

namespace Cert.Proof.KernelIdeal

open Cert.KernelIdeal
open Idealize.ShloMosaic Idealize.ShloMosaic.TcCoe
open Idealize.ShloMosaic.ValueIdx
open Cert.Proof.Online (Acc att msk)

/-- Row `r` of the values, by key; the rows from 128 on are ones. -/
def vcol (V : Vec Ideal S1x16x128x512 .bf16) (r : Fin 144) (key : ℕ) : EReal :=
  if h : r.val < 128 then V (ix4 0 ⟨key / 512 % 16, by omega⟩ ⟨r.val, h⟩ ⟨key % 512, by omega⟩) else 1

theorem vrow_vblk (V : Vec Ideal S1x16x128x512 .bf16) (r : Fin 144) (j : ℕ) (hj : j < 16) (k : Fin 512) :
    vrow (vblk V j) r k = vcol V r (512 * j + k.val) := by
  unfold vrow vcol
  by_cases h : r.val < 128
  · rw [dif_pos h, dif_pos h]
    refine congrArg V (funext fun a => Fin.ext ?_)
    match a with
    | ⟨0, _⟩ => rfl
    | ⟨1, _⟩ => show (j + 0) % 16 = (512 * j + k.val) / 512 % 16; omega
    | ⟨2, _⟩ => rfl
    | ⟨3, _⟩ => show k.val = (512 * j + k.val) % 512; omega
  · rw [dif_neg h, dif_neg h]

section Column
variable (q : FVec Ideal S128x1024 .bf16) (K : Vec Ideal S1x8192x128 .bf16) (V : Vec Ideal S1x16x128x512 .bf16)
  (c : Fin 1024) (t : ℕ → EReal)
  (ht : ∀ k : Fin 8192, ∑ f : Fin 128, K (ix3 0 k f) * q (ix2 f c) = t k.val)
include ht

theorem score_block (j : ℕ) (hj : j < 16) (k : Fin 512) :
    ∑ f : Fin 128, kblk K j (ix3 0 k f) * q (ix2 f c) = t (512 * j + k.val) := by
  have hk := k.isLt
  rw [← ht ⟨512 * j + k.val, by omega⟩]
  refine Finset.sum_congr rfl fun f _ => congrArg (· * q (ix2 f c)) (congrArg K (funext fun a => Fin.ext ?_))
  match a with
  | ⟨0, _⟩ => rfl
  | ⟨1, _⟩ => show (512 * j + k.val) % 8192 = 512 * j + k.val; omega
  | ⟨2, _⟩ => rfl

/-- The blocks before the tile's own: every key is before the query. -/
theorem FL_acc (n : ℕ) (hn : n < 8) (r : Fin 144) : ∀ j, j ≤ 2 * n →
    Acc t (1024 * n + c.val) (vcol V r) (512 * j) ((FL q K V j).1 (ix2 0 c)) ((FL q K V j).2 (ix2 r c))
  | 0, _ => by
    have e1 : (FL q K V 0).1 (ix2 0 c) = (⊥ : EReal) := ofBits_ninf
    have e2 : (FL q K V 0).2 (ix2 r c) = (0 : EReal) := by
      show Gen.k0_pay330 (F := Ideal) (ix2 r c) = _
      unfold Gen.k0_pay330
      rw [shapeCast_self]
      exact Ideal.ofBits_zero_f32
    rw [e1, e2]
    exact Online.acc_zero _ _ _
  | j + 1, hj => by
    have ih := FL_acc n hn r j (by omega)
    have hs : ∀ k : Fin 512, Gen.k0_pay1 q (kblk K j) (ix2 k c)
        = msk t (1024 * n + c.val) (512 * j + k.val) := fun k => by
      have hk := k.isLt
      rw [pay1_apply, score_block q K c t ht j (by omega) k, msk, if_pos (by omega)]
    show Acc _ _ _ _ ((upd (FL q K V j) (Gen.k0_pay1 q (kblk K j)) (vblk V j)).1 (ix2 0 c)) ((upd (FL q K V j) (Gen.k0_pay1 q (kblk K j)) (vblk V j)).2 (ix2 r c))
    rw [upd_fst, upd_snd]
    exact Online.step ih rfl hs fun k => vrow_vblk V r j (by omega) k

/-- The tile's first own block, masked above the diagonal. -/
theorem diag_acc (n : ℕ) (hn : n < 8) (r : Fin 144) :
    Acc t (1024 * n + c.val) (vcol V r) (512 * (2 * n) + 512)
      ((upd (FL q K V (2 * n)) (dmask (Gen.k0_pay1 q (kblk K (2 * n)))) (vblk V (2 * n))).1 (ix2 0 c))
      ((upd (FL q K V (2 * n)) (dmask (Gen.k0_pay1 q (kblk K (2 * n)))) (vblk V (2 * n))).2 (ix2 r c)) := by
  have hs : ∀ k : Fin 512, dmask (Gen.k0_pay1 q (kblk K (2 * n))) (ix2 k c)
      = msk t (1024 * n + c.val) (512 * (2 * n) + k.val) := fun k => by
    rw [dmask_apply, pay1_apply, score_block q K c t ht (2 * n) (by omega) k, msk]
    by_cases h : k.val ≤ c.val
    · rw [if_pos h, if_pos (by omega)]
    · rw [if_neg h, if_neg (by omega)]
  rw [upd_fst, upd_snd]
  exact Online.step (FL_acc q K V c t ht n hn r (2 * n) le_rfl) rfl hs
    fun k => vrow_vblk V r (2 * n) (by omega) k

/-- The query's accumulator column at the end of the tile: every key up to the query is in. -/
theorem accN_acc (n : ℕ) (hn : n < 8) :
    ∃ (N : ℕ) (m : EReal), 1024 * n + c.val < N ∧ ∀ r : Fin 144, Acc t (1024 * n + c.val) (vcol V r) N m (accN q K V n (ix2 r c)) := by
  have hc := c.isLt
  by_cases hh : c.val < 512
  · refine ⟨512 * (2 * n) + 512, (upd (FL q K V (2 * n)) (dmask (Gen.k0_pay1 q (kblk K (2 * n)))) (vblk V (2 * n))).1 (ix2 0 c), by omega, fun r => ?_⟩
    have e : accN q K V n (ix2 r c)
        = (upd (FL q K V (2 * n)) (dmask (Gen.k0_pay1 q (kblk K (2 * n)))) (vblk V (2 * n))).2 (ix2 r c) :=
      dif_neg fun h => by
        have h1 : 512 ≤ c.val := (h 1).1
        omega
    rw [e]
    exact diag_acc q K V c t ht n hn r
  · let p := upd (FL q K V (2 * n)) (dmask (Gen.k0_pay1 q (kblk K (2 * n)))) (vblk V (2 * n))
    let s' : FVec Ideal S512x512 .f32 := if n = 0 then rightHalf (Gen.k0_pay1 q (kblk K 1)) else Gen.k0_pay197 q (kblk K (2 * n + 1))
    let c' : Fin 512 := ⟨c.val - 512, by omega⟩
    have hcc : (⟨c'.val + 512, by omega⟩ : Fin 1024) = c := Fin.ext (by show c.val - 512 + 512 = c.val; omega)
    have hs' : ∀ k : Fin 512, s' (ix2 k c') = t (512 * (2 * n) + 512 + k.val) := fun k => by
      have hb := score_block q K c t ht (2 * n + 1) (by omega) k
      rw [show 512 * (2 * n + 1) + k.val = 512 * (2 * n) + 512 + k.val by ring] at hb
      rw [← hb]
      show (if n = 0 then rightHalf (Gen.k0_pay1 q (kblk K 1)) else Gen.k0_pay197 q (kblk K (2 * n + 1))) (ix2 k c') = _
      by_cases h0 : n = 0
      · rw [if_pos h0]
        subst h0
        show Gen.k0_pay1 q (kblk K 1) (ix2 k ⟨c'.val + 512, _⟩) = _
        rw [pay1_apply, hcc]
      · rw [if_neg h0, pay197_apply, hcc]
    have hs : ∀ k : Fin 512, dmaskr s' (ix2 k c')
        = msk t (1024 * n + c.val) (512 * (2 * n) + 512 + k.val) := fun k => by
      rw [dmaskr_apply, hs' k, msk]
      by_cases h : k.val ≤ c'.val
      · have h' : k.val ≤ c.val - 512 := h
        rw [if_pos h, if_pos (by omega)]
      · have h' : ¬ k.val ≤ c.val - 512 := h
        rw [if_neg h, if_neg (by omega)]
    refine ⟨512 * (2 * n) + 512 + 512, max (p.1 (ix2 0 c)) (colmax (n := 512) (m := 512) (dmaskr s') c'), by omega, fun r => ?_⟩
    have e : accN q K V n (ix2 r c) = updr p s' (vblk V (2 * n + 1)) (ix2 r c') := by
      refine (dif_pos fun a => ?_).trans (congrArg (updr p s' (vblk V (2 * n + 1))) (funext fun a => Fin.ext ?_))
      · match a with
        | ⟨0, _⟩ => exact ⟨Nat.zero_le _, by show r.val < 0 + 144; omega⟩
        | ⟨1, _⟩ => exact ⟨by show 512 ≤ c.val; omega, by show c.val < 512 + 512; omega⟩
      · match a with
        | ⟨0, _⟩ => rfl
        | ⟨1, _⟩ => rfl
    rw [e, updr_apply, hcc]
    refine Online.step (diag_acc q K V c t ht n hn r) rfl hs fun k => ?_
    rw [vrow_vblk V r (2 * n + 1) (by omega) k]
    exact congrArg (vcol V r) (by ring)

/-- The normalised output of a query. -/
theorem stream_att {x : ℕ → EReal} (hx : ∀ k, t k = x k * ((1 / Real.log 2 : ℝ) : EReal)) (n : ℕ) (hn : n < 8) (d : Fin 128) :
    Ideal.div (accO (accN q K V n) (ix2 d c)) (accL (accN q K V n) (ix2 0 c))
      = att x (1024 * n + c.val) (vcol V ⟨d.val, by omega⟩) := by
  obtain ⟨N, m, hN, h⟩ := accN_acc q K V c t ht n hn
  have eO : accO (accN q K V n) (ix2 d c) = accN q K V n (ix2 ⟨d.val, by omega⟩ c) := by
    refine congrArg (accN q K V n) (funext fun a => Fin.ext ?_)
    match a with
    | ⟨0, _⟩ => show 0 + 1 * d.val = d.val; omega
    | ⟨1, _⟩ => show 0 + 1 * c.val = c.val; omega
  have eL : accL (accN q K V n) (ix2 0 c) = accN q K V n (ix2 128 c) := by
    refine congrArg (accN q K V n) (funext fun a => Fin.ext ?_)
    match a with
    | ⟨0, _⟩ => rfl
    | ⟨1, _⟩ => show 0 + 1 * c.val = c.val; omega
  have e1 : vcol V 128 = fun _ => 1 := funext fun k => dif_neg (by decide)
  rw [eO, eL]
  exact Online.normalise rfl hx hN (h _) (by have := h 128; rwa [e1] at this)

end Column

end Cert.Proof.KernelIdeal

end
-- ==== Proof.OutVal.lean ====
module

public import proofs.«01_k».proof.Proof.Stream
public import proofs.«01_k».proof.Proof.Spec

/-! The block one grid point writes, at an element. -/

@[expose] public section

set_option maxRecDepth 16384

noncomputable section

namespace Cert.Proof.KernelIdeal

open Cert.KernelIdeal
open Idealize.ShloMosaic Idealize.ShloMosaic.TcCoe
open Idealize.ShloMosaic.ValueIdx
open Cert.Proof.Spec (QK VV score vals comp lam out diff)

theorem total_apply (u : FVec Ideal S1x64 .f32) (h : S1x64.Reduces [1] S1) (hs : S1.ShapeCasts S1x1) :
    shapeCast S1x1 (multiReduction .add [1] S1 u 0x00000000#32 h (.inl rfl) rfl) hs (ix2 0 0) = ∑ f : Fin 64, u (ix2 0 f) := by
  refine (shapeCast_addUnit_apply ![1] _ hs (ix2 0 0)).trans ?_
  refine (Ideal.multiReduction_add_single u 0x00000000#32 h (.inl rfl) rfl _).trans ?_
  refine Finset.sum_congr rfl fun k _ => congrArg u (funext fun a => Fin.ext ?_)
  match a with
  | ⟨0, _⟩ => rfl
  | ⟨1, _⟩ => rfl

theorem sumcol_apply (s : FVec Ideal S128x1024 .f32) (h : S128x1024.Reduces [0] S1024) (hs : S1024.ShapeCasts S1x1024) (c : Fin 1024) :
    shapeCast S1x1024 (multiReduction .add [0] S1024 s 0x00000000#32 h (.inl rfl) rfl) hs (ix2 0 c) = ∑ d : Fin 128, s (ix2 d c) := by
  refine (shapeCast_addUnit_apply ![1024] _ hs (ix2 0 c)).trans ?_
  refine (Ideal.multiReduction_add_single s 0x00000000#32 h (.inl rfl) rfl _).trans ?_
  refine Finset.sum_congr rfl fun k _ => congrArg s (funext fun a => Fin.ext ?_)
  match a with
  | ⟨0, _⟩ => rfl
  | ⟨1, _⟩ => rfl

theorem bcOne_apply (x : FVec Ideal S1x1 .f32) (h : S1x1.Broadcasts S128x1024) (d : Fin 128) (c : Fin 1024) :
    broadcastTo S128x1024 x h (ix2 d c) = x (ix2 0 0) := by
  refine broadcastTo_apply x h (ix2 d c) (ix2 0 0) fun a => ?_
  match a with
  | ⟨0, _⟩ => rfl
  | ⟨1, _⟩ => rfl

theorem turn_apply (x : FVec Ideal S128x1024 .f32) (h : S128x1024.Transposes [1, 0] S1024x128) (c : Fin 1024) (d : Fin 128) :
    transpose S1024x128 [1, 0] x h (ix2 c d) = x (ix2 d c) := by
  refine transpose_apply [1, 0] x h (ix2 c d) (ix2 d c) fun a => ?_
  match a with
  | ⟨0, _⟩ => rfl
  | ⟨1, _⟩ => rfl

/-- The difference of the two components' outputs. -/
def dv (w : FVec Ideal S1x1 .f32) (O1 : FVec Ideal S128x1024 .f32) (L1 : FVec Ideal S1x1024 .f32) (O2 : FVec Ideal S128x1024 .f32)
    (L2 : FVec Ideal S1x1024 .f32) : FVec Ideal S128x1024 .f32 :=
  subf (divf O1 (broadcastTo S128x1024 L1 Gen.broadcasts_S1x1024_S128x1024))
    (mulf (broadcastTo S128x1024 w Gen.broadcasts_S1x1_S128x1024) (divf O2 (broadcastTo S128x1024 L2 Gen.broadcasts_S1x1024_S128x1024)))

theorem dv_apply (w : FVec Ideal S1x1 .f32) (O1 : FVec Ideal S128x1024 .f32) (L1 : FVec Ideal S1x1024 .f32) (O2 : FVec Ideal S128x1024 .f32)
    (L2 : FVec Ideal S1x1024 .f32) (d : Fin 128) (c : Fin 1024) :
    dv w O1 L1 O2 L2 (ix2 d c)
      = Ideal.div (O1 (ix2 d c)) (L1 (ix2 0 c)) - w (ix2 0 0) * Ideal.div (O2 (ix2 d c)) (L2 (ix2 0 c)) := by
  show Ideal.div (O1 (ix2 d c)) (broadcastTo S128x1024 L1 Gen.broadcasts_S1x1024_S128x1024 (ix2 d c))
    - broadcastTo S128x1024 w Gen.broadcasts_S1x1_S128x1024 (ix2 d c)
      * Ideal.div (O2 (ix2 d c)) (broadcastTo S128x1024 L2 Gen.broadcasts_S1x1024_S128x1024 (ix2 d c)) = _
  rw [bcOne_apply, bcRow_apply (n := 128) (m := 1024) L1 _ (by decide), bcRow_apply (n := 128) (m := 1024) L2 _ (by decide)]

/-- The scale that makes a query's output have unit mean square. -/
def nv (D : FVec Ideal S128x1024 .f32) : FVec Ideal S1x1024 .f32 :=
  rsqrt (addf (divf (shapeCast S1x1024 (multiReduction .add [0] S1024 (mulf D D) 0x00000000#32 Gen.reduces_S128x1024_S1024 (.inl rfl) rfl)
    Gen.shapeCasts_S1024_S1x1024) (broadcast S1x1024 (Scalar.ofBits .f32 0x43000000#32))) (broadcast S1x1024 (Scalar.ofBits .f32 0x358637BD#32)))

theorem nv_apply (D : FVec Ideal S128x1024 .f32) (c : Fin 1024) :
    nv D (ix2 0 c) = Ideal.rsqrt (Ideal.div (∑ e : Fin 128, D (ix2 e c) * D (ix2 e c)) (Ideal.ofBits .f32 0x43000000#32)
      + Ideal.ofBits .f32 0x358637BD#32) := by
  show Ideal.rsqrt (Ideal.div (shapeCast S1x1024 (multiReduction .add [0] S1024 (mulf D D) 0x00000000#32 Gen.reduces_S128x1024_S1024 (.inl rfl) rfl)
    Gen.shapeCasts_S1024_S1x1024 (ix2 0 c)) (Ideal.ofBits .f32 0x43000000#32) + Ideal.ofBits .f32 0x358637BD#32) = _
  rw [sumcol_apply]
  rfl

/-- The second component's weight, as the kernel has it. -/
def wv (l0 l1 l2 l3 : Vec Ideal S1x64 .f32) : FVec Ideal S1x1 .f32 :=
  addf (subf (Gen.k0_pay339 l0 l1) (exp (shapeCast S1x1 (multiReduction .add [1] S1 (mulf l2 l3 : FVec Ideal S1x64 .f32) 0x00000000#32 Gen.reduces_S1x64_S1 (.inl rfl) rfl)
    Gen.shapeCasts_S1_S1x1))) (broadcast S1x1 (Scalar.ofBits .f32 0x3E4CCCCD#32))

theorem wv_apply (l0 l1 l2 l3 : Vec Ideal S1x64 .f32) :
    wv l0 l1 l2 l3 (ix2 0 0) = lam (fun f => l0 (ix2 0 f)) (fun f => l1 (ix2 0 f)) (fun f => l2 (ix2 0 f)) fun f => l3 (ix2 0 f) := by
  show Ideal.exp (shapeCast S1x1 (multiReduction .add [1] S1 (mulf l0 l1 : FVec Ideal S1x64 .f32) 0x00000000#32 Gen.reduces_S1x64_S1 (.inl rfl) rfl) Gen.shapeCasts_S1_S1x1 (ix2 0 0))
    - Ideal.exp (shapeCast S1x1 (multiReduction .add [1] S1 (mulf l2 l3 : FVec Ideal S1x64 .f32) 0x00000000#32 Gen.reduces_S1x64_S1 (.inl rfl) rfl) Gen.shapeCasts_S1_S1x1 (ix2 0 0))
    + Ideal.ofBits .f32 0x3E4CCCCD#32 = _
  rw [total_apply, total_apply]
  rfl

theorem pay340_apply (l0 l1 l2 l3 : Vec Ideal S1x64 .f32) (O1 : FVec Ideal S128x1024 .f32) (L1 : FVec Ideal S1x1024 .f32)
    (O2 : FVec Ideal S128x1024 .f32) (L2 : FVec Ideal S1x1024 .f32) (g : Vec Ideal S1x128 .f32) (c : Fin 1024) (d : Fin 128) :
    Gen.k0_pay340 (Gen.k0_pay339 l0 l1) l2 l3 O1 L1 O2 L2 g (ix3 0 c d)
      = out (lam (fun f => l0 (ix2 0 f)) (fun f => l1 (ix2 0 f)) (fun f => l2 (ix2 0 f)) fun f => l3 (ix2 0 f))
        (fun e => Ideal.div (O1 (ix2 e c)) (L1 (ix2 0 c))) (fun e => Ideal.div (O2 (ix2 e c)) (L2 (ix2 0 c))) (fun e => g (ix2 0 e)) d := by
  have e : Gen.k0_pay340 (Gen.k0_pay339 l0 l1) l2 l3 O1 L1 O2 L2 g
      = shapeCast S1x1024x128 (truncf .bf16 (mulf (mulf (transpose S1024x128 [1, 0] (mulf (dv (wv l0 l1 l2 l3) O1 L1 O2 L2)
        (broadcastTo S128x1024 (nv (dv (wv l0 l1 l2 l3) O1 L1 O2 L2)) Gen.broadcasts_S1x1024_S128x1024)) Gen.transposes_S128x1024_p1_0_S1024x128)
        (broadcastTo S1024x128 g Gen.broadcasts_S1x128_S1024x128)) (broadcast S1024x128 (Scalar.ofBits .f32 0x3F4CCCCD#32))) Gen.bitsLt_bf16_f32)
        Gen.shapeCasts_S1024x128_S1x1024x128 := rfl
  rw [e]
  refine (shapeCast_addUnit_apply ![1024, 128] _ Gen.shapeCasts_S1024x128_S1x1024x128 (ix3 0 c d)).trans ?_
  have ei : (fun a : Fin 2 => (ix3 (n0 := 1) (n1 := 1024) (n2 := 128) 0 c d) a.succ) = ix2 c d := funext fun a => by
    match a with
    | ⟨0, _⟩ => rfl
    | ⟨1, _⟩ => rfl
  refine (congrArg (truncf .bf16 _ Gen.bitsLt_bf16_f32) ei).trans ?_
  show transpose S1024x128 [1, 0] _ Gen.transposes_S128x1024_p1_0_S1024x128 (ix2 c d) * broadcastTo S1024x128 g Gen.broadcasts_S1x128_S1024x128 (ix2 c d)
    * Ideal.ofBits .f32 0x3F4CCCCD#32 = _
  rw [turn_apply, bcRow_apply (n := 1024) (m := 128) g _ (by decide)]
  show dv (wv l0 l1 l2 l3) O1 L1 O2 L2 (ix2 d c) * broadcastTo S128x1024 (nv (dv (wv l0 l1 l2 l3) O1 L1 O2 L2)) Gen.broadcasts_S1x1024_S128x1024 (ix2 d c)
    * g (ix2 0 d) * Ideal.ofBits .f32 0x3F4CCCCD#32 = _
  rw [bcRow_apply (n := 128) (m := 1024) _ _ (by decide), nv_apply]
  simp only [dv_apply, wv_apply]
  rfl

theorem row_lt {n : ℕ} (hn : n < 8) (c : Fin 1024) : 1024 * n + c.val < 8192 := by omega

theorem half_lt (f : Fin 128) : f.val / 64 < 2 := by omega

theorem lane_lt (f : Fin 128) : f.val % 64 < 64 := by omega

theorem key_lt (j : Fin 16) (k : Fin 512) : 512 * j.val + k.val < 8192 := by omega

section Tile
variable (xq xk : QK) (xv : VV) (b : Fin 2) (h : Fin 4) (n : ℕ) (hn : n < 8)
  (Q : Vec Ideal S1x128x1024 .bf16) (K : Vec Ideal S1x8192x128 .bf16) (V : Vec Ideal S1x16x128x512 .bf16)
  (hQ : ∀ (f : Fin 128) (c : Fin 1024), Q (ix3 0 f c)
    = xq (ix5 b ⟨1024 * n + c.val, row_lt hn c⟩ h ⟨f.val / 64, half_lt f⟩ ⟨f.val % 64, lane_lt f⟩) * ((1 / 8 / Real.log 2 : ℝ) : EReal))
  (hK : ∀ (k : Fin 8192) (f : Fin 128), K (ix3 0 k f)
    = xk (ix5 b k h ⟨f.val / 64, half_lt f⟩ ⟨f.val % 64, lane_lt f⟩))
  (hV : ∀ (j : Fin 16) (d : Fin 128) (k : Fin 512), V (ix4 0 j d k) = xv (ix4 b ⟨512 * j.val + k.val, key_lt j k⟩ h d))
include hQ hK hV

theorem vcol_eq (d : Fin 128) : vcol V ⟨d.val, by omega⟩ = vals xv b h d := funext fun key => by
  unfold vcol vals
  rw [dif_pos d.isLt, hV]
  refine congrArg xv (funext fun a => Fin.ext ?_)
  match a with
  | ⟨0, _⟩ => rfl
  | ⟨1, _⟩ => show 512 * (key / 512 % 16) + key % 512 = key % 8192; omega
  | ⟨2, _⟩ => rfl
  | ⟨3, _⟩ => rfl

/-- A component's scores, against its half of the features. -/
theorem scores (q : FVec Ideal S128x1024 .bf16) (w : Fin 2) (hq : ∀ f c, q (ix2 f c) = if f.val / 64 = w.val then Q (ix3 0 f c) else 0)
    (c : Fin 1024) (k : Fin 8192) :
    ∑ f : Fin 128, K (ix3 0 k f) * q (ix2 f c)
      = score xq xk b h w ⟨1024 * n + c.val, row_lt hn c⟩ k.val * ((1 / Real.log 2 : ℝ) : EReal) := by
  have hk : (⟨k.val % 8192, by omega⟩ : Fin 8192) = k := Fin.ext (Nat.mod_eq_of_lt k.isLt)
  have hl : 0 < Real.log 2 := Real.log_pos one_lt_two
  have e : ∀ f : Fin 128, K (ix3 0 k f) * q (ix2 f c) = if f.val / 64 = w.val then
      ((1 / 8 / Real.log 2 : ℝ) : EReal) * (xq (ix5 b ⟨1024 * n + c.val, row_lt hn c⟩ h ⟨f.val / 64, half_lt f⟩ ⟨f.val % 64, lane_lt f⟩)
      * xk (ix5 b k h ⟨f.val / 64, half_lt f⟩ ⟨f.val % 64, lane_lt f⟩)) else 0 := fun f => by
    rw [hq, hK]
    split
    · rw [hQ, mul_comm, mul_right_comm, mul_comm]
    · rw [mul_zero]
  rw [Finset.sum_congr rfl fun f _ => e f, ← Finset.sum_filter, ← Online.coe_mul_sum _ (by positivity)]
  unfold score
  rw [hk, mul_assoc, ← EReal.coe_mul, mul_comm, show (1 / 8 * (1 / Real.log 2) : ℝ) = 1 / 8 / Real.log 2 by ring]
  refine congrArg (· * ((1 / 8 / Real.log 2 : ℝ) : EReal)) ?_
  refine Finset.sum_nbij' (fun f => ⟨f.val % 64, lane_lt f⟩) (fun f => ⟨64 * w.val + f.val, by omega⟩) ?_ ?_ ?_ ?_ ?_
  · intro f _; exact Finset.mem_univ _
  · intro f _
    rw [Finset.mem_filter]
    exact ⟨Finset.mem_univ _, by show (64 * w.val + f.val) / 64 = w.val; omega⟩
  · intro f hf
    have := (Finset.mem_filter.mp hf).2
    exact Fin.ext (by show 64 * w.val + f.val % 64 = f.val; omega)
  · intro f _
    exact Fin.ext (by show (64 * w.val + f.val) % 64 = f.val; omega)
  · intro f hf
    have hw : (⟨f.val / 64, half_lt f⟩ : Fin 2) = w := Fin.ext (Finset.mem_filter.mp hf).2
    rw [hw]

theorem comp_val (q : FVec Ideal S128x1024 .bf16) (w : Fin 2) (hq : ∀ f c, q (ix2 f c) = if f.val / 64 = w.val then Q (ix3 0 f c) else 0)
    (c : Fin 1024) (d : Fin 128) :
    Ideal.div (accO (accN q K V n) (ix2 d c)) (accL (accN q K V n) (ix2 0 c)) = comp xq xk xv b h w ⟨1024 * n + c.val, row_lt hn c⟩ d := by
  refine (stream_att q K V c (fun k => score xq xk b h w ⟨1024 * n + c.val, row_lt hn c⟩ k * ((1 / Real.log 2 : ℝ) : EReal))
    (scores xq xk xv b h n hn Q K V hQ hK hV q w hq c) (fun _ => rfl) n hn d).trans ?_
  rw [vcol_eq xq xk xv b h n hn Q K V hQ hK hV d]
  rfl

/-- The block written for query tile `n` of batch `b` and head `h`. -/
theorem outN_apply (l0 l1 l2 l3 : Vec Ideal S1x64 .f32) (g : Vec Ideal S1x128 .f32) (c : Fin 1024) (d : Fin 128) :
    outN l0 l1 l2 l3 g Q K V n (ix3 0 c d)
      = diff (fun f => l0 (ix2 0 f)) (fun f => l1 (ix2 0 f)) (fun f => l2 (ix2 0 f)) (fun f => l3 (ix2 0 f)) (fun e => g (ix2 0 e))
        xq xk xv b ⟨1024 * n + c.val, row_lt hn c⟩ h d := by
  have h1 := comp_val xq xk xv b h n hn Q K V hQ hK hV (Gen.k0_pay319 Q) 0 (fun f c => (pay319_apply Q f c).trans (by
    have : (f.val < 64) = (f.val / 64 = (0 : Fin 2).val) := propext ⟨fun h => by show f.val / 64 = 0; omega, fun h => by
      have : f.val / 64 = 0 := h
      omega⟩
    simp only [this])) c
  have h2 := comp_val xq xk xv b h n hn Q K V hQ hK hV (Gen.k0_pay321 Q) 1 (fun f c => (pay321_apply Q f c).trans (by
    have : (64 ≤ f.val) = (f.val / 64 = (1 : Fin 2).val) := propext ⟨fun h => by show f.val / 64 = 1; omega, fun h => by
      have : f.val / 64 = 1 := h
      omega⟩
    simp only [this])) c
  unfold outN
  rw [pay340_apply]
  simp only [h1, h2]
  rfl

end Tile

end Cert.Proof.KernelIdeal

end
-- ==== Proof.Entry.lean ====
module

public import proofs.«01_k».proof.Proof.OutVal
public import proofs.«01_k».proof.Proof.Run
public import Idealize.ShloMosaic.Lib.Claim

/-! The blocks a grid point sees, in terms of the arguments. -/

@[expose] public section

set_option maxRecDepth 16384

noncomputable section

namespace Cert.Proof.KernelIdeal

open Cert.KernelIdeal
open Idealize.ShloMosaic Idealize.ShloMosaic.TcCoe Idealize.ShloMosaic.Tactic
open Idealize.ShloMosaic.ValueIdx
open Cert.Proof.Spec (QK VV)

/-- The queries the host passes: features before positions, scaled. -/
def qin (x : QK) : Vec Ideal S2x512x8192 .bf16 :=
  truncf .bf16 (mulf (transpose S2x512x8192 [0, 2, 1] (shapeCast S2x8192x512 x Gen.shapeCasts_S2x8192x4x2x64_S2x8192x512 : FVec Ideal S2x8192x512 .f32)
    Gen.transposes_S2x8192x512_S2x512x8192_0_2_1)
    (broadcastInDim S2x512x8192 ![] Gen.bcast_S_S2x512x8192 (Host.divf (constant S_ .f32 0x3E000000#32) (Host.log (constant S_ .f32 0x40000000#32)))
      : FVec Ideal S2x512x8192 .f32)) Gen.bitsLt_bf16_f32

/-- The keys it passes. -/
def kin (x : QK) : Vec Ideal S2x8192x512 .bf16 :=
  truncf .bf16 (shapeCast S2x8192x512 x Gen.shapeCasts_S2x8192x4x2x64_S2x8192x512 : FVec Ideal S2x8192x512 .f32) Gen.bitsLt_bf16_f32

/-- The values it passes: by blocks of keys, features before positions. -/
def vin (x : VV) : Vec Ideal S2x16x512x512 .bf16 :=
  truncf .bf16 (transpose S2x16x512x512 [0, 1, 3, 2] (shapeCast S2x16x512x512 x Gen.shapeCasts_S2x8192x4x128_S2x16x512x512 : FVec Ideal S2x16x512x512 .f32)
    Gen.transposes_S2x16x512x512_S2x16x512x512_0_1_3_2) Gen.bitsLt_bf16_f32

theorem two_bits : Ideal.ofBits .f32 0x40000000#32 = ((2 : ℝ) : EReal) := by
  simp [Ideal.ofBits, Ideal.ieee, -EReal.coe_mul]; norm_num

theorem scale_val : Ideal.div (Ideal.ofBits .f32 0x3E000000#32) (Ideal.log (Ideal.ofBits .f32 0x40000000#32))
    = ((1 / 8 / Real.log 2 : ℝ) : EReal) := by
  have h2 : 0 < Real.log 2 := Real.log_pos one_lt_two
  have e : Ideal.log ((2 : ℝ) : EReal) = ((Real.log 2 : ℝ) : EReal) := by
    show (if (2 : ℝ) ≤ 0 then (⊥ : EReal) else ((Real.log 2 : ℝ) : EReal)) = _
    rw [if_neg (by norm_num)]
  rw [two_bits, Spec.ofBits_eighth, e]
  unfold Ideal.div
  rw [if_neg (by exact_mod_cast h2.ne'), ← EReal.coe_inv, ← EReal.coe_mul, div_eq_mul_inv (1 / 8 : ℝ)]

theorem qin_apply (x : QK) (b : Fin 2) (h : Fin 4) (f : Fin 128) (P : Fin 8192) (j : Fin 512) (hj : j.val = 128 * h.val + f.val) :
    qin x (ix3 b j P) = x (ix5 b P h ⟨f.val / 64, by omega⟩ ⟨f.val % 64, by omega⟩) * ((1 / 8 / Real.log 2 : ℝ) : EReal) := by
  show transpose S2x512x8192 [0, 2, 1] (shapeCast S2x8192x512 x Gen.shapeCasts_S2x8192x4x2x64_S2x8192x512 : FVec Ideal S2x8192x512 .f32)
    Gen.transposes_S2x8192x512_S2x512x8192_0_2_1 (ix3 b j P)
    * broadcastInDim S2x512x8192 ![] Gen.bcast_S_S2x512x8192 (Host.divf (constant S_ .f32 0x3E000000#32) (Host.log (constant S_ .f32 0x40000000#32))
      : FVec Ideal S_ .f32) (ix3 b j P) = _
  refine congrArg₂ (· * ·) ?_ ?_
  · refine (transpose_apply [0, 2, 1] _ _ (ix3 b j P) (ix3 b P j) fun a => ?_).trans ?_
    · match a with
      | ⟨0, _⟩ => rfl
      | ⟨1, _⟩ => rfl
      | ⟨2, _⟩ => rfl
    · refine shapeCast_apply x _ (ix3 b P j) (ix5 b P h ⟨f.val / 64, by omega⟩ ⟨f.val % 64, by omega⟩) ?_
      rw [Shape.rowMajor_val_five, Shape.rowMajor_val_three]
      show (((b.val * 8192 + P.val) * 4 + h.val) * 2 + f.val / 64) * 64 + f.val % 64 = (b.val * 8192 + P.val) * 512 + j.val
      omega
  · exact (broadcastInDim_apply _ Gen.bcast_S_S2x512x8192 _ (ix3 b j P) (fun a => a.elim0) (fun a => a.elim0)).trans scale_val

theorem kin_apply (x : QK) (b : Fin 2) (h : Fin 4) (f : Fin 128) (k : Fin 8192) (j : Fin 512) (hj : j.val = 128 * h.val + f.val) :
    kin x (ix3 b k j) = x (ix5 b k h ⟨f.val / 64, by omega⟩ ⟨f.val % 64, by omega⟩) := by
  refine shapeCast_apply x Gen.shapeCasts_S2x8192x4x2x64_S2x8192x512 (ix3 b k j) (ix5 b k h ⟨f.val / 64, by omega⟩ ⟨f.val % 64, by omega⟩) ?_
  rw [Shape.rowMajor_val_five, Shape.rowMajor_val_three]
  show (((b.val * 8192 + k.val) * 4 + h.val) * 2 + f.val / 64) * 64 + f.val % 64 = (b.val * 8192 + k.val) * 512 + j.val
  omega

theorem vin_apply (x : VV) (b : Fin 2) (h : Fin 4) (d : Fin 128) (s : Fin 16) (k : Fin 512) (j : Fin 512) (hj : j.val = 128 * h.val + d.val) :
    vin x (ix4 b s j k) = x (ix4 b ⟨512 * s.val + k.val, by omega⟩ h d) := by
  refine (transpose_apply [0, 1, 3, 2] (shapeCast S2x16x512x512 x Gen.shapeCasts_S2x8192x4x128_S2x16x512x512 : FVec Ideal S2x16x512x512 .f32)
    Gen.transposes_S2x16x512x512_S2x16x512x512_0_1_3_2 (ix4 b s j k) (ix4 b s k j) fun a => ?_).trans ?_
  · match a with
    | ⟨0, _⟩ => rfl
    | ⟨1, _⟩ => rfl
    | ⟨2, _⟩ => rfl
    | ⟨3, _⟩ => rfl
  · refine shapeCast_apply x _ (ix4 b s k j) (ix4 b ⟨512 * s.val + k.val, by omega⟩ h d) ?_
    rw [Shape.rowMajor_val_four, Shape.rowMajor_val_four]
    show ((b.val * 8192 + (512 * s.val + k.val)) * 4 + h.val) * 128 + d.val = ((b.val * 16 + s.val) * 512 + k.val) * 512 + j.val
    omega

section Region
variable (m : (ℓ : Loc nD τ sig) → Buf (Elt Ideal) ℓ) (c : Dev nD)

theorem V_q : Gen.V m c main_v7 = qin (m ((c : Thread nD τ).loc main_arg5)) := by
  entry_read
  rfl
theorem V_k : Gen.V m c main_v9 = kin (m ((c : Thread nD τ).loc main_arg6)) := by
  entry_read
  rfl
theorem V_v : Gen.V m c main_v12 = vin (m ((c : Thread nD τ).loc main_arg7)) := by
  entry_read
  rfl

theorem tile_q (t : Fin cfg0.N) (f : Fin 128) (p : Fin 1024) :
    Gen.iblk m c 5 t (ix3 0 f p) = Gen.V m c main_v7 (ix3 ⟨t.val / 32 % 2, by omega⟩ ⟨128 * (t.val / 8 % 4) + f.val, by omega⟩ ⟨1024 * (t.val % 8) + p.val, by omega⟩) := by
  have hi : ∀ t : Fin cfg0.N, cc0_transform_5 (grid0.coords t) = ![t.val / 32 % 2, t.val / 8 % 4, t.val % 8] := by decide
  unfold Gen.iblk
  rw [View.read_apply]
  refine congrArg (fun e => _root_.cast _ (Gen.V m c main_v7 e)) ?_
  funext a; apply Fin.ext
  show (cc0_transform_5 (grid0.coords t) a) * _ + _ = _
  rw [hi t]
  match a with
  | ⟨0, _⟩ => show (t.val / 32 % 2) * 1 + 1 * 0 = t.val / 32 % 2; omega
  | ⟨1, _⟩ => show (t.val / 8 % 4) * 128 + 1 * f.val = 128 * (t.val / 8 % 4) + f.val; omega
  | ⟨2, _⟩ => show (t.val % 8) * 1024 + 1 * p.val = 1024 * (t.val % 8) + p.val; omega

theorem tile_k (t : Fin cfg0.N) (k : Fin 8192) (f : Fin 128) :
    Gen.iblk m c 7 t (ix3 0 k f) = Gen.V m c main_v9 (ix3 ⟨t.val / 32 % 2, by omega⟩ k ⟨128 * (t.val / 8 % 4) + f.val, by omega⟩) := by
  have hi : ∀ t : Fin cfg0.N, cc0_transform_7 (grid0.coords t) = ![t.val / 32 % 2, 0, t.val / 8 % 4] := by decide
  unfold Gen.iblk
  rw [View.read_apply]
  refine congrArg (fun e => _root_.cast _ (Gen.V m c main_v9 e)) ?_
  funext a; apply Fin.ext
  show (cc0_transform_7 (grid0.coords t) a) * _ + _ = _
  rw [hi t]
  match a with
  | ⟨0, _⟩ => show (t.val / 32 % 2) * 1 + 1 * 0 = t.val / 32 % 2; omega
  | ⟨1, _⟩ => show 0 * 8192 + 1 * k.val = k.val; omega
  | ⟨2, _⟩ => show (t.val / 8 % 4) * 128 + 1 * f.val = 128 * (t.val / 8 % 4) + f.val; omega

theorem tile_v (t : Fin cfg0.N) (s : Fin 16) (d : Fin 128) (k : Fin 512) :
    Gen.iblk m c 8 t (ix4 0 s d k) = Gen.V m c main_v12 (ix4 ⟨t.val / 32 % 2, by omega⟩ s ⟨128 * (t.val / 8 % 4) + d.val, by omega⟩ k) := by
  have hi : ∀ t : Fin cfg0.N, cc0_transform_8 (grid0.coords t) = ![t.val / 32 % 2, 0, t.val / 8 % 4, 0] := by decide
  unfold Gen.iblk
  rw [View.read_apply]
  refine congrArg (fun e => _root_.cast _ (Gen.V m c main_v12 e)) ?_
  funext a; apply Fin.ext
  show (cc0_transform_8 (grid0.coords t) a) * _ + _ = _
  rw [hi t]
  match a with
  | ⟨0, _⟩ => show (t.val / 32 % 2) * 1 + 1 * 0 = t.val / 32 % 2; omega
  | ⟨1, _⟩ => show 0 * 16 + 1 * s.val = s.val; omega
  | ⟨2, _⟩ => show (t.val / 8 % 4) * 128 + 1 * d.val = 128 * (t.val / 8 % 4) + d.val; omega
  | ⟨3, _⟩ => show 0 * 512 + 1 * k.val = k.val; omega

theorem tile_0 (t : Fin cfg0.N) (f : Fin 64) : Gen.iblk m c 0 t (ix2 0 f) = m ((c : Thread nD τ).loc main_arg0) (ix2 0 f) := by
  unfold Gen.iblk
  rw [View.read_apply, ← Gen.V_main_arg0 m c]
  refine congrArg (fun e => _root_.cast _ (Gen.V m c main_arg0 e)) ?_
  funext a; apply Fin.ext
  match a with
  | ⟨0, _⟩ => rfl
  | ⟨1, _⟩ => show 0 * 64 + 1 * f.val = f.val; omega

theorem tile_1 (t : Fin cfg0.N) (f : Fin 64) : Gen.iblk m c 1 t (ix2 0 f) = m ((c : Thread nD τ).loc main_arg1) (ix2 0 f) := by
  unfold Gen.iblk
  rw [View.read_apply, ← Gen.V_main_arg1 m c]
  refine congrArg (fun e => _root_.cast _ (Gen.V m c main_arg1 e)) ?_
  funext a; apply Fin.ext
  match a with
  | ⟨0, _⟩ => rfl
  | ⟨1, _⟩ => show 0 * 64 + 1 * f.val = f.val; omega

theorem tile_2 (t : Fin cfg0.N) (f : Fin 64) : Gen.iblk m c 2 t (ix2 0 f) = m ((c : Thread nD τ).loc main_arg2) (ix2 0 f) := by
  unfold Gen.iblk
  rw [View.read_apply, ← Gen.V_main_arg2 m c]
  refine congrArg (fun e => _root_.cast _ (Gen.V m c main_arg2 e)) ?_
  funext a; apply Fin.ext
  match a with
  | ⟨0, _⟩ => rfl
  | ⟨1, _⟩ => show 0 * 64 + 1 * f.val = f.val; omega

theorem tile_3 (t : Fin cfg0.N) (f : Fin 64) : Gen.iblk m c 3 t (ix2 0 f) = m ((c : Thread nD τ).loc main_arg3) (ix2 0 f) := by
  unfold Gen.iblk
  rw [View.read_apply, ← Gen.V_main_arg3 m c]
  refine congrArg (fun e => _root_.cast _ (Gen.V m c main_arg3 e)) ?_
  funext a; apply Fin.ext
  match a with
  | ⟨0, _⟩ => rfl
  | ⟨1, _⟩ => show 0 * 64 + 1 * f.val = f.val; omega

theorem tile_4 (t : Fin cfg0.N) (d : Fin 128) : Gen.iblk m c 4 t (ix2 0 d) = m ((c : Thread nD τ).loc main_arg4) (ix2 0 d) := by
  unfold Gen.iblk
  rw [View.read_apply, ← Gen.V_main_arg4 m c]
  refine congrArg (fun e => _root_.cast _ (Gen.V m c main_arg4 e)) ?_
  funext a; apply Fin.ext
  match a with
  | ⟨0, _⟩ => rfl
  | ⟨1, _⟩ => show 0 * 128 + 1 * d.val = d.val; omega

end Region

end Cert.Proof.KernelIdeal

end
-- ==== Proof.Final.lean ====
module

public import proofs.«01_k».proof.Proof.Entry

/-! The array the kernel leaves. -/

@[expose] public section

set_option maxRecDepth 16384

noncomputable section

namespace Cert.Proof.KernelIdeal

open Cert.KernelIdeal
open Idealize.ShloMosaic Idealize.ShloMosaic.TcCoe Idealize.ShloMosaic.Tactic
open Idealize.ShloMosaic.ValueIdx
open Idealize.SL.Sem
open Cert.Proof.Spec (QK VV diff)

variable (m : (ℓ : Loc nD τ sig) → Buf (Elt Ideal) ℓ) (ρ : Dev nD → PrngReg) (c : Dev nD)

/-- The closed form at the launch's arguments. -/
def value (b : Fin 2) (P : Fin 8192) (h : Fin 4) (d : Fin 128) : EReal :=
  diff (fun f => m ((c : Thread nD τ).loc main_arg0) (ix2 0 f)) (fun f => m ((c : Thread nD τ).loc main_arg1) (ix2 0 f))
    (fun f => m ((c : Thread nD τ).loc main_arg2) (ix2 0 f)) (fun f => m ((c : Thread nD τ).loc main_arg3) (ix2 0 f))
    (fun e => m ((c : Thread nD τ).loc main_arg4) (ix2 0 e)) (m ((c : Thread nD τ).loc main_arg5)) (m ((c : Thread nD τ).loc main_arg6))
    (m ((c : Thread nD τ).loc main_arg7)) b P h d

/-- The kernel's result. -/
def result : Vec Ideal S2x8192x512 .bf16 := fun i =>
  value m c ⟨(i 0).val, (i 0).isLt⟩ ⟨(i 1).val, (i 1).isLt⟩ ⟨(i 2).val / 128, by have : (i 2).val < 512 := (i 2).isLt; omega⟩
    ⟨(i 2).val % 128, by omega⟩

theorem outAt_apply (t : Fin cfg0.N) (p : Fin 1024) (d : Fin 128) :
    outAt m c t (ix3 0 p d)
      = value m c ⟨t.val / 32 % 2, by omega⟩ ⟨1024 * (t.val % 8) + p.val, by omega⟩ ⟨t.val / 8 % 4, by omega⟩ d := by
  have hn : (grid0.coords t 2).val = t.val % 8 := coords2 t
  unfold outAt
  rw [hn]
  refine (outN_apply (m ((c : Thread nD τ).loc main_arg5)) (m ((c : Thread nD τ).loc main_arg6)) (m ((c : Thread nD τ).loc main_arg7))
    ⟨t.val / 32 % 2, by omega⟩ ⟨t.val / 8 % 4, by omega⟩ (t.val % 8) (by omega) (Gen.iblk m c 5 t) (Gen.iblk m c 7 t) (Gen.iblk m c 8 t)
    (fun f p => ?_) (fun k f => ?_) (fun s d k => ?_) (Gen.iblk m c 0 t) (Gen.iblk m c 1 t) (Gen.iblk m c 2 t) (Gen.iblk m c 3 t) (Gen.iblk m c 4 t) p d).trans ?_
  · rw [tile_q, V_q, qin_apply _ ⟨t.val / 32 % 2, by omega⟩ ⟨t.val / 8 % 4, by omega⟩ f _ _ rfl]
  · rw [tile_k, V_k, kin_apply _ ⟨t.val / 32 % 2, by omega⟩ ⟨t.val / 8 % 4, by omega⟩ f k _ rfl]
  · rw [tile_v, V_v, vin_apply _ ⟨t.val / 32 % 2, by omega⟩ ⟨t.val / 8 % 4, by omega⟩ d s k _ rfl]
  · unfold value
    rw [show (fun f => Gen.iblk m c 0 t (ix2 0 f)) = fun f => m ((c : Thread nD τ).loc main_arg0) (ix2 0 f) from funext (tile_0 m c t),
      show (fun f => Gen.iblk m c 1 t (ix2 0 f)) = fun f => m ((c : Thread nD τ).loc main_arg1) (ix2 0 f) from funext (tile_1 m c t),
      show (fun f => Gen.iblk m c 2 t (ix2 0 f)) = fun f => m ((c : Thread nD τ).loc main_arg2) (ix2 0 f) from funext (tile_2 m c t),
      show (fun f => Gen.iblk m c 3 t (ix2 0 f)) = fun f => m ((c : Thread nD τ).loc main_arg3) (ix2 0 f) from funext (tile_3 m c t),
      show (fun f => Gen.iblk m c 4 t (ix2 0 f)) = fun f => m ((c : Thread nD τ).loc main_arg4) (ix2 0 f) from funext (tile_4 m c t)]

/-- Where an element of point `t`'s block sits in the array. -/
theorem out_emb (t : Fin cfg0.N) (p : Fin 1024) (d : Fin 128) :
    ((cfg0.win 9).blk t).view.emb (ix3 0 p d)
      = (ix3 ⟨t.val / 32 % 2, by omega⟩ ⟨1024 * (t.val % 8) + p.val, by omega⟩ ⟨128 * (t.val / 8 % 4) + d.val, by omega⟩ : S2x8192x512.Idx) := by
  have hi : ∀ t : Fin cfg0.N, cc0_transform_9 (grid0.coords t) = ![t.val / 32 % 2, t.val % 8, t.val / 8 % 4] := by decide
  funext a; apply Fin.ext
  show (cc0_transform_9 (grid0.coords t) a) * _ + _ = _
  rw [hi t]
  match a with
  | ⟨0, _⟩ => show (t.val / 32 % 2) * 1 + 1 * 0 = t.val / 32 % 2; omega
  | ⟨1, _⟩ => show (t.val % 8) * 1024 + 1 * p.val = 1024 * (t.val % 8) + p.val; omega
  | ⟨2, _⟩ => show (t.val / 8 % 4) * 128 + 1 * d.val = 128 * (t.val / 8 % 4) + d.val; omega

theorem arr_eq : (dats m 0 c).arrAt 9 cfg0.N = result m c := by
  refine (dats m 0 c).arrAt_eq_of_cover 9 (result m c) (fun t _ => ?_) fun i => ?_
  · funext y
    obtain ⟨p, d, rfl⟩ : ∃ (p : Fin 1024) (d : Fin 128), y = (ix3 0 p d : S1x1024x128.Idx) :=
      ⟨y 1, y 2, funext fun a => by
        match a with
        | ⟨0, _⟩ => exact Fin.ext (Nat.lt_one_iff.mp (y 0).isLt)
        | ⟨1, _⟩ => rfl
        | ⟨2, _⟩ => rfl⟩
    rw [View.read_apply, out_emb t p d]
    show outAt m c t (ix3 0 p d) = result m c (ix3 ⟨t.val / 32 % 2, by omega⟩ ⟨1024 * (t.val % 8) + p.val, by omega⟩ ⟨128 * (t.val / 8 % 4) + d.val, by omega⟩)
    rw [outAt_apply m c]
    have ht := t.isLt
    have hp := p.isLt
    have hd := d.isLt
    unfold result
    refine congrArg₂ (fun h e => value m c _ _ h e) (Fin.ext ?_) (Fin.ext ?_)
    · show t.val / 8 % 4 = (128 * (t.val / 8 % 4) + d.val) / 128; omega
    · show d.val = (128 * (t.val / 8 % 4) + d.val) % 128; omega
  · have h0 : (i 0).val < 2 := (i 0).isLt
    have h1 : (i 1).val < 8192 := (i 1).isLt
    have h2 : (i 2).val < 512 := (i 2).isLt
    refine ⟨⟨32 * (i 0).val + 8 * ((i 2).val / 128) + (i 1).val / 1024, by show _ < 64; omega⟩, Gen.flush0_9 _, ?_⟩
    have e := out_emb ⟨32 * (i 0).val + 8 * ((i 2).val / 128) + (i 1).val / 1024, by show _ < 64; omega⟩
      ⟨(i 1).val % 1024, by omega⟩ ⟨(i 2).val % 128, by omega⟩
    have ei : (ix3 ⟨(32 * (i 0).val + 8 * ((i 2).val / 128) + (i 1).val / 1024) / 32 % 2, by omega⟩
        ⟨1024 * ((32 * (i 0).val + 8 * ((i 2).val / 128) + (i 1).val / 1024) % 8) + (i 1).val % 1024, by omega⟩
        ⟨128 * ((32 * (i 0).val + 8 * ((i 2).val / 128) + (i 1).val / 1024) / 8 % 4) + (i 2).val % 128, by omega⟩ : S2x8192x512.Idx) = i := funext fun a => Fin.ext (by
      match a with
      | ⟨0, _⟩ => show (32 * (i 0).val + 8 * ((i 2).val / 128) + (i 1).val / 1024) / 32 % 2 = (i 0).val; omega
      | ⟨1, _⟩ => show 1024 * ((32 * (i 0).val + 8 * ((i 2).val / 128) + (i 1).val / 1024) % 8) + (i 1).val % 1024 = (i 1).val; omega
      | ⟨2, _⟩ => show 128 * ((32 * (i 0).val + 8 * ((i 2).val / 128) + (i 1).val / 1024) / 8 % 4) + (i 2).val % 128 = (i 2).val; omega)
    have hm := ((cfg0.win 9).blk ⟨32 * (i 0).val + 8 * ((i 2).val / 128) + (i 1).val / 1024, by show _ < 64; omega⟩).view.emb_mem_set
      (ix3 0 ⟨(i 1).val % 1024, by omega⟩ ⟨(i 2).val % 128, by omega⟩)
    rw [e.trans ei] at hm
    exact hm

/-- The run ends with the closed form in the result. -/
theorem run_value :
    θ_run defs (onTc (τ := τ) (main (F := Ideal))) ⟨m, fun _ => 0, ρ⟩ (fun r => ∀ c : Dev nD, r.2.mem ((c.tc : Thread nD τ).loc main_v13) = result m c) :=
  (θ_run defs _ _).mono (fun _ h c => ((h.1 c).1 9).trans (arr_eq m c)) (run_main m ρ)

end Cert.Proof.KernelIdeal

end
-- ==== Proof.Equal.lean ====
module

public import proofs.«01_k».proof.Defs
public import proofs.«01_k».proof.Proof.RefVal
public import proofs.«01_k».proof.Proof.Final
public import proofs.«01_k».proof.Proof.Frames

/-! The kernel's result is the reference's, element by element. -/

@[expose] public section

set_option maxRecDepth 16384

noncomputable section

namespace Cert.Proof

open Idealize.ShloMosaic Idealize.ShloMosaic.TcCoe Idealize.SL.Sem
open Idealize.ShloMosaic.ValueIdx
open Cert.Proof.Spec (QK VV)

/-- Kernel and reference leave the same result. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => KernelIdeal.result m c, ?_, ?_⟩
  · exact (θ_run Cert.KernelIdeal.defs _ _).mono (fun r h c => ⟨h.1 c, h.2.1 c⟩)
      (θ_run_and (KernelIdeal.run_value m g) (KernelIdeal.frame_main (F := Ideal) m g))
  · refine (θ_run Cert.ReferenceIdeal.defs _ _).mono (fun r h c => ⟨(h c).1.trans ?_, (h c).2⟩) (Cert.ReferenceIdeal.Value.run (F := Ideal) m' g')
    obtain ⟨e0, e1, e2, e3, e4, e5, e6, e7⟩ := hargs c
    rw [Cert.ReferenceIdeal.Read.val_main_v86_eq, e0, e1, e2, e3, e4, e5, e6, e7]
    funext i
    have hi : i = ix3 (i 0) (i 1) (i 2) := eq_ix3 i
    have h2 : (i 2).val < 512 := (i 2).isLt
    rw [hi]
    refine (Reference.result_apply _ _ _ _ _ _ _ _ (i 0) (i 1) ⟨(i 2).val / 128, by omega⟩ ⟨(i 2).val % 128, by omega⟩ (i 2)
      (by show (i 2).val = 128 * ((i 2).val / 128) + (i 2).val % 128; omega)).trans ?_
    exact Spec.sdiff_eq _ _ _ _ _ _ _ _ _ _ _ _

end Cert.Proof

end
-- ==== Proof.Frames2.lean ====
module

public import proofs.«01_k».proof.Defs
public import proofs.«01_k».proof.Proof.Gen.Kernel2
public import proofs.«01_k».proof.Proof.Gen.Kernel2Ideal.Value
public import proofs.«01_k».proof.Proof.Gen.Reference2Ideal.Run

/-! The frames of the last call: one run, for the two programs of the kernel, and the reference's own. -/

@[expose] public section

noncomputable section

namespace Cert.Proof

open Idealize.ShloMosaic Idealize.ShloMosaic.TcCoe Idealize.SL.Sem

section Same

variable {F : FTy → Type} [FloatOps F]

/-- The two programs have the same body. -/
theorem defs02_eq : Cert.Kernel2.defs₀ (F := F) = Cert.Kernel2Ideal.defs₀ (F := F) := by
  unfold Cert.Kernel2.defs₀ Cert.Kernel2Ideal.defs₀
  refine congrArg Defs.onTc (funext fun l => funext fun x => ?_)
  match l, x with
  | 0, (t, s) => rfl

/-- The two programs have the same pipeline. -/
theorem defs2_eq : Cert.Kernel2.defs (F := F) = Cert.Kernel2Ideal.defs (F := F) :=
  congrArg (Pipeline.defs Cert.Kernel2Ideal.pcfgs) defs02_eq

end Same

theorem frame_kernel2Ideal : Cert.quiescent_Kernel2Ideal := fun m g _ => Cert.Kernel2Ideal.Gen.frame (F := Ideal) m g

theorem frame_kernel2 : Cert.quiescent_Kernel2 := fun m g _ => by
  rw [defs2_eq]
  exact Cert.Kernel2Ideal.Gen.frame (F := Bits) m g

theorem frame_reference2 : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

end Cert.Proof

end
-- ==== Proof.Post.lean ====
module

public import Idealize.ShloMosaic.Lib.ValueIdx

/-! The last call in closed form, on the extended reals: the gated merge of the two attentions, the output projection, the
feed-forward part and the final norm, of one row. -/

@[expose] public section

noncomputable section

namespace Cert.Proof.Post

open Idealize.ShloMosaic Idealize.ShloMosaic.ValueIdx

/-- A row by a matrix. -/
def mv {n k : ℕ} (a : Fin n → EReal) (w : Fin n → Fin k → EReal) (d : Fin k) : EReal := ∑ e, a e * w e d

/-- The left half of the gates weighs the first branch, the right half the second. -/
def merge (g : Fin 2048 → EReal) (a b : Fin 1024 → EReal) (d : Fin 1024) : EReal :=
  g ⟨d.val, by omega⟩ * a d + g ⟨1024 + d.val, by omega⟩ * b d

/-- The layer's row after the attentions. -/
def resid (x : Fin 1024 → EReal) (om od : Fin 512 → EReal) (g : Fin 2048 → EReal) (wbm wbd : Fin 512 → Fin 1024 → EReal)
    (wo : Fin 1024 → Fin 1024 → EReal) (d : Fin 1024) : EReal :=
  x d + mv (merge g (mv om wbm) (mv od wbd)) wo d

/-- A row over the root of its mean square, weighed. -/
def rmsRow (y g : Fin 1024 → EReal) (d : Fin 1024) : EReal :=
  y d * Ideal.rsqrt (Ideal.div (∑ e, y e * y e) (Ideal.ofBits .f32 0x44800000#32) + Ideal.ofBits .f32 0x358637BD#32) * g d

/-- One hidden feature: the gate's projection through its sigmoid, times the other projection. -/
def glu (a u : EReal) : EReal :=
  a * Ideal.div (Ideal.ofBits .f32 0x3F800000#32) (Ideal.ofBits .f32 0x3F800000#32 + Ideal.exp (-a)) * u

/-- The hidden row. -/
def hid (h : Fin 1024 → EReal) (wg wu : Fin 1024 → Fin 2816 → EReal) (f : Fin 2816) : EReal := glu (mv h wg f) (mv h wu f)

/-- The layer's row after the feed-forward part. -/
def ffn (y g : Fin 1024 → EReal) (wg wu : Fin 1024 → Fin 2816 → EReal) (wd : Fin 2816 → Fin 1024 → EReal) (d : Fin 1024) : EReal :=
  y d + mv (hid (rmsRow y g) wg wu) wd d

/-- The sum over the hidden features, in the three parts in which the kernel takes it. -/
theorem sum_parts (s : Fin 2816 → EReal) :
    ∑ f, s f = (∑ k : Fin 1024, s ⟨k.val, by omega⟩) + (∑ k : Fin 1024, s ⟨1024 + k.val, by omega⟩)
      + ∑ k : Fin 768, s ⟨2048 + k.val, by omega⟩ := by
  have e := Fin.sum_univ_add (a := 2048) (b := 768) (fun i => s i)
  have e' := Fin.sum_univ_add (a := 1024) (b := 1024) (fun i => s (Fin.castAdd 768 i))
  exact e.trans (congrArg (· + _) e')

/-- Batch, position, feature. -/
abbrev Act (n : ℕ) := (⟨3, ![2, 8192, n]⟩ : Shape).Idx → EReal
/-- A layer's matrix. -/
abbrev Mat (n k : ℕ) := (⟨3, ![1, n, k]⟩ : Shape).Idx → EReal

/-- A row of an array. -/
def row {n : ℕ} (x : Act n) (b : Fin 2) (P : Fin 8192) (e : Fin n) : EReal := x (ix3 b P e)
/-- A matrix of the one layer. -/
def mat {n k : ℕ} (w : Mat n k) (e : Fin n) (f : Fin k) : EReal := w (ix3 0 e f)

/-- The result at an element. -/
def outRow (x : Act 1024) (om od : Act 512) (g : Act 2048) (wbm wbd : Mat 512 1024) (wo : Mat 1024 1024)
    (gffn : (⟨2, ![1, 1024]⟩ : Shape).Idx → EReal) (wg wu : Mat 1024 2816) (wd : Mat 2816 1024) (gfin : (⟨1, ![1024]⟩ : Shape).Idx → EReal)
    (b : Fin 2) (P : Fin 8192) (d : Fin 1024) : EReal :=
  rmsRow (ffn (resid (row x b P) (row om b P) (row od b P) (row g b P) (mat wbm) (mat wbd) (mat wo)) (fun e => gffn (ix2 0 e))
    (mat wg) (mat wu) (mat wd)) (fun e => gfin (ix1 e)) d

end Cert.Proof.Post

end
-- ==== Proof.PostRef.lean ====
module

public import proofs.«01_k».proof.Proof.Post
public import proofs.«01_k».proof.Proof.Gen.Reference2Ideal.Read

/-! The last call's reference at an element. -/

@[expose] public section

set_option maxRecDepth 16384

noncomputable section

namespace Cert.Proof.Reference2

open Cert.Reference2Ideal Cert.Reference2Ideal.Gen Cert.Reference2Ideal.Read
open Idealize.ShloMosaic Idealize.ShloMosaic.TcCoe
open Idealize.ShloMosaic.ValueIdx
open Cert.Proof.Post

variable (x : Act 1024) (om od : Act 512) (g : Act 2048) (wbm wbd : Mat 512 1024) (wo : Mat 1024 1024)
  (gffn : (⟨2, ![1, 1024]⟩ : Shape).Idx → EReal) (wg wu : Mat 1024 2816) (wd : Mat 2816 1024) (gfin : (⟨1, ![1024]⟩ : Shape).Idx → EReal)
  (b : Fin 2) (P : Fin 8192)

theorem w2_apply (e : Fin 512) (d : Fin 1024) : val_main_v2 (F := Ideal) wbm (ix2 e d) = mat wbm e d := by
  rw [val_main_v2_apply]
  have he := e.isLt; have hd := d.isLt
  refine congrArg wbm (funext fun a => Fin.ext ?_)
  match a with
  | ⟨0, _⟩ => rfl
  | ⟨1, _⟩ => show (e.val * 1024 + d.val) / 1024 % 512 = e.val; omega
  | ⟨2, _⟩ => show (e.val * 1024 + d.val) % 1024 = d.val; omega

theorem w5_apply (e : Fin 512) (d : Fin 1024) : val_main_v5 (F := Ideal) wbd (ix2 e d) = mat wbd e d := by
  rw [val_main_v5_apply]
  have he := e.isLt; have hd := d.isLt
  refine congrArg wbd (funext fun a => Fin.ext ?_)
  match a with
  | ⟨0, _⟩ => rfl
  | ⟨1, _⟩ => show (e.val * 1024 + d.val) / 1024 % 512 = e.val; omega
  | ⟨2, _⟩ => show (e.val * 1024 + d.val) % 1024 = d.val; omega

theorem w9_apply (e d : Fin 1024) : val_main_v9 (F := Ideal) wo (ix2 e d) = mat wo e d := by
  rw [val_main_v9_apply]
  have he := e.isLt; have hd := d.isLt
  refine congrArg wo (funext fun a => Fin.ext ?_)
  match a with
  | ⟨0, _⟩ => rfl
  | ⟨1, _⟩ => show (e.val * 1024 + d.val) / 1024 % 1024 = e.val; omega
  | ⟨2, _⟩ => show (e.val * 1024 + d.val) % 1024 = d.val; omega

theorem w26_apply (e : Fin 1024) (f : Fin 2816) : val_main_v26 (F := Ideal) wg (ix2 e f) = mat wg e f := by
  rw [val_main_v26_apply]
  have he := e.isLt; have hf := f.isLt
  refine congrArg wg (funext fun a => Fin.ext ?_)
  match a with
  | ⟨0, _⟩ => rfl
  | ⟨1, _⟩ => show (e.val * 2816 + f.val) / 2816 % 1024 = e.val; omega
  | ⟨2, _⟩ => show (e.val * 2816 + f.val) % 2816 = f.val; omega

theorem w29_apply (e : Fin 1024) (f : Fin 2816) : val_main_v29 (F := Ideal) wu (ix2 e f) = mat wu e f := by
  rw [val_main_v29_apply]
  have he := e.isLt; have hf := f.isLt
  refine congrArg wu (funext fun a => Fin.ext ?_)
  match a with
  | ⟨0, _⟩ => rfl
  | ⟨1, _⟩ => show (e.val * 2816 + f.val) / 2816 % 1024 = e.val; omega
  | ⟨2, _⟩ => show (e.val * 2816 + f.val) % 2816 = f.val; omega

theorem w32_apply (f : Fin 2816) (d : Fin 1024) : val_main_v32 (F := Ideal) wd (ix2 f d) = mat wd f d := by
  rw [val_main_v32_apply]
  have hf := f.isLt; have hd := d.isLt
  refine congrArg wd (funext fun a => Fin.ext ?_)
  match a with
  | ⟨0, _⟩ => rfl
  | ⟨1, _⟩ => show (f.val * 1024 + d.val) / 1024 % 2816 = f.val; omega
  | ⟨2, _⟩ => show (f.val * 1024 + d.val) % 1024 = d.val; omega

/-- The indices a product of a row by a matrix reads. -/
theorem at3 {n : ℕ} (i : (⟨3, ![2, 8192, n]⟩ : Shape).Idx) (e : Fin n) (h0 : (i 0).val = b.val) (h1 : (i 1).val = P.val) (h2 : (i 2).val = e.val) :
    i = ix3 b P e := funext fun a => Fin.ext (by
  match a with
  | ⟨0, _⟩ => exact h0
  | ⟨1, _⟩ => exact h1
  | ⟨2, _⟩ => exact h2)

theorem at2 {n k : ℕ} (i : (⟨2, ![n, k]⟩ : Shape).Idx) (e : Fin n) (f : Fin k) (h0 : (i 0).val = e.val) (h1 : (i 1).val = f.val) :
    i = ix2 e f := funext fun a => Fin.ext (by
  match a with
  | ⟨0, _⟩ => exact h0
  | ⟨1, _⟩ => exact h1)

theorem v3_apply (d : Fin 1024) : val_main_v3 (F := Ideal) om wbm (ix3 b P d) = mv (row om b P) (mat wbm) d := by
  rw [val_main_v3_apply]
  refine Finset.sum_congr rfl fun e _ => ?_
  rw [at3 b P (lidx_main_v3 (ix3 b P d) e) e rfl rfl rfl, at2 (ridx_main_v3 (ix3 b P d) e) e d rfl rfl, w2_apply]
  rfl

theorem v6_apply (d : Fin 1024) : val_main_v6 (F := Ideal) od wbd (ix3 b P d) = mv (row od b P) (mat wbd) d := by
  rw [val_main_v6_apply]
  refine Finset.sum_congr rfl fun e _ => ?_
  rw [at3 b P (lidx_main_v6 (ix3 b P d) e) e rfl rfl rfl, at2 (ridx_main_v6 (ix3 b P d) e) e d rfl rfl, w5_apply]
  rfl

theorem v8_apply (d : Fin 1024) : val_main_v8 (F := Ideal) om od g wbm wbd (ix3 b P d)
    = merge (row g b P) (mv (row om b P) (mat wbm)) (mv (row od b P) (mat wbd)) d := by
  rw [val_main_v8_apply, val_main_v4_apply, val_main_v7_apply, v3_apply, v6_apply, val_main_v0_apply, val_main_v1_apply]
  rw [at3 b P (idx_main_v0 (ix3 b P d)) ⟨d.val, by omega⟩ rfl rfl rfl, at3 b P (idx_main_v1 (ix3 b P d)) ⟨1024 + d.val, by omega⟩ rfl rfl rfl]
  rfl

theorem v11_apply (d : Fin 1024) : val_main_v11 (F := Ideal) x om od g wbm wbd wo (ix3 b P d)
    = resid (row x b P) (row om b P) (row od b P) (row g b P) (mat wbm) (mat wbd) (mat wo) d := by
  rw [val_main_v11_apply, val_main_v10_apply]
  refine congrArg (x (ix3 b P d) + ·) (Finset.sum_congr rfl fun e _ => ?_)
  rw [at3 b P (lidx_main_v10 (ix3 b P d) e) e rfl rfl rfl, at2 (ridx_main_v10 (ix3 b P d) e) e d rfl rfl, w9_apply, v8_apply]

theorem v14_apply : val_main_v14 (F := Ideal) x om od g wbm wbd wo (ix2 b P)
    = ∑ e, resid (row x b P) (row om b P) (row od b P) (row g b P) (mat wbm) (mat wbd) (mat wo) e * resid (row x b P) (row om b P) (row od b P) (row g b P) (mat wbm) (mat wbd) (mat wo) e := by
  rw [val_main_v14_apply, val_main_cst_apply]
  refine (congrArg (· + _) Ideal.ofBits_zero_f32).trans ((zero_add _).trans (Finset.sum_congr rfl fun e _ => ?_))
  rw [at3 b P (idx_main_v14 (ix2 b P) e) e rfl rfl rfl, val_main_v13_apply, v11_apply]
  rfl

theorem v21_apply (d : Fin 1024) : val_main_v21 (F := Ideal) x om od g wbm wbd wo (ix3 b P d)
    = Ideal.rsqrt (Ideal.div (∑ e, resid (row x b P) (row om b P) (row od b P) (row g b P) (mat wbm) (mat wbd) (mat wo) e * resid (row x b P) (row om b P) (row od b P) (row g b P) (mat wbm) (mat wbd) (mat wo) e) (Ideal.ofBits .f32 0x44800000#32) + Ideal.ofBits .f32 0x358637BD#32) := by
  rw [val_main_v21_apply, val_main_v20_apply, val_main_v19_apply, val_main_v17_apply,
    val_main_v15_apply, val_main_v16_apply, val_main_v18_apply, at2 (idx_main_v15 (idx_main_v21 (ix3 b P d))) b P rfl rfl,
    v14_apply, val_main_cst_0_apply, val_main_cst_1_apply]
  generalize (∑ e, resid (row x b P) (row om b P) (row od b P) (row g b P) (mat wbm) (mat wbd) (mat wo) e * resid (row x b P) (row om b P) (row od b P) (row g b P) (mat wbm) (mat wbd) (mat wo) e : EReal) = z
  rfl

theorem v25_apply (d : Fin 1024) : val_main_v25 (F := Ideal) x om od g wbm wbd wo gffn (ix3 b P d)
    = rmsRow (resid (row x b P) (row om b P) (row od b P) (row g b P) (mat wbm) (mat wbd) (mat wo)) (fun e => gffn (ix2 0 e)) d := by
  have hd := d.isLt
  rw [val_main_v25_apply, val_main_v22_apply, val_main_v24_apply, val_main_v23_apply, val_main_v12_apply, v11_apply, v21_apply]
  unfold rmsRow
  generalize resid (row x b P) (row om b P) (row od b P) (row g b P) (mat wbm) (mat wbd) (mat wo) = y
  generalize (∑ e, y e * y e : EReal) = z
  refine congrArg (y d * Ideal.rsqrt (Ideal.div z _ + _) * ·) (congrArg gffn ?_)
  exact at2 _ 0 d rfl (by show d.val % 1024 = d.val; omega)

theorem v27_apply (f : Fin 2816) : val_main_v27 (F := Ideal) x om od g wbm wbd wo gffn wg (ix3 b P f)
    = mv (rmsRow (resid (row x b P) (row om b P) (row od b P) (row g b P) (mat wbm) (mat wbd) (mat wo)) fun e => gffn (ix2 0 e)) (mat wg) f := by
  rw [val_main_v27_apply]
  refine Finset.sum_congr rfl fun e _ => ?_
  rw [at3 b P (lidx_main_v27 (ix3 b P f) e) e rfl rfl rfl, at2 (ridx_main_v27 (ix3 b P f) e) e f rfl rfl, w26_apply, v25_apply]

theorem v30_apply (f : Fin 2816) : val_main_v30 (F := Ideal) x om od g wbm wbd wo gffn wu (ix3 b P f)
    = mv (rmsRow (resid (row x b P) (row om b P) (row od b P) (row g b P) (mat wbm) (mat wbd) (mat wo)) fun e => gffn (ix2 0 e)) (mat wu) f := by
  rw [val_main_v30_apply]
  refine Finset.sum_congr rfl fun e _ => ?_
  rw [at3 b P (lidx_main_v30 (ix3 b P f) e) e rfl rfl rfl, at2 (ridx_main_v30 (ix3 b P f) e) e f rfl rfl, w29_apply, v25_apply]

theorem v31_apply (f : Fin 2816) : val_main_v31 (F := Ideal) x om od g wbm wbd wo gffn wg wu (ix3 b P f)
    = hid (rmsRow (resid (row x b P) (row om b P) (row od b P) (row g b P) (mat wbm) (mat wbd) (mat wo)) fun e => gffn (ix2 0 e)) (mat wg) (mat wu) f := by
  rw [val_main_v31_apply, val_main_v28_apply, val_main_call0_v5_apply, val_main_call0_v4_apply, val_main_call0_v3_apply, val_main_call0_v2_apply,
    val_main_call0_v1_apply, val_main_call0_v0_apply, v27_apply, v30_apply, val_main_call0_cst_apply, val_main_call0_cst_0_apply]
  rfl

theorem v34_apply (d : Fin 1024) : val_main_v34 (F := Ideal) x om od g wbm wbd wo gffn wg wu wd (ix3 b P d)
    = ffn (resid (row x b P) (row om b P) (row od b P) (row g b P) (mat wbm) (mat wbd) (mat wo)) (fun e => gffn (ix2 0 e)) (mat wg) (mat wu) (mat wd) d := by
  rw [val_main_v34_apply, val_main_v33_apply, v11_apply]
  refine congrArg (resid _ _ _ _ _ _ _ d + ·) (Finset.sum_congr rfl fun f _ => ?_)
  rw [at3 b P (lidx_main_v33 (ix3 b P d) f) f rfl rfl rfl, at2 (ridx_main_v33 (ix3 b P d) f) f d rfl rfl, w32_apply, v31_apply]

theorem v36_apply : val_main_v36 (F := Ideal) x om od g wbm wbd wo gffn wg wu wd (ix2 b P)
    = ∑ e, ffn (resid (row x b P) (row om b P) (row od b P) (row g b P) (mat wbm) (mat wbd) (mat wo)) (fun e => gffn (ix2 0 e)) (mat wg) (mat wu) (mat wd) e * ffn (resid (row x b P) (row om b P) (row od b P) (row g b P) (mat wbm) (mat wbd) (mat wo)) (fun e => gffn (ix2 0 e)) (mat wg) (mat wu) (mat wd) e := by
  rw [val_main_v36_apply, val_main_cst_2_apply]
  refine (congrArg (· + _) Ideal.ofBits_zero_f32).trans ((zero_add _).trans (Finset.sum_congr rfl fun e _ => ?_))
  rw [at3 b P (idx_main_v36 (ix2 b P) e) e rfl rfl rfl, val_main_v35_apply, v34_apply]
  rfl

theorem v43_apply (d : Fin 1024) : val_main_v43 (F := Ideal) x om od g wbm wbd wo gffn wg wu wd (ix3 b P d)
    = Ideal.rsqrt (Ideal.div (∑ e, ffn (resid (row x b P) (row om b P) (row od b P) (row g b P) (mat wbm) (mat wbd) (mat wo)) (fun e => gffn (ix2 0 e)) (mat wg) (mat wu) (mat wd) e * ffn (resid (row x b P) (row om b P) (row od b P) (row g b P) (mat wbm) (mat wbd) (mat wo)) (fun e => gffn (ix2 0 e)) (mat wg) (mat wu) (mat wd) e) (Ideal.ofBits .f32 0x44800000#32) + Ideal.ofBits .f32 0x358637BD#32) := by
  rw [val_main_v43_apply, val_main_v42_apply, val_main_v41_apply, val_main_v39_apply,
    val_main_v37_apply, val_main_v38_apply, val_main_v40_apply, at2 (idx_main_v37 (idx_main_v43 (ix3 b P d))) b P rfl rfl,
    v36_apply, val_main_cst_3_apply, val_main_cst_4_apply]
  generalize (∑ e, ffn (resid (row x b P) (row om b P) (row od b P) (row g b P) (mat wbm) (mat wbd) (mat wo)) (fun e => gffn (ix2 0 e)) (mat wg) (mat wu) (mat wd) e * ffn (resid (row x b P) (row om b P) (row od b P) (row g b P) (mat wbm) (mat wbd) (mat wo)) (fun e => gffn (ix2 0 e)) (mat wg) (mat wu) (mat wd) e : EReal) = z
  rfl

theorem v47_apply (d : Fin 1024) : val_main_v47 (F := Ideal) x om od g wbm wbd wo gffn wg wu wd gfin (ix3 b P d)
    = outRow x om od g wbm wbd wo gffn wg wu wd gfin b P d := by
  have hd := d.isLt
  rw [val_main_v47_apply, val_main_v44_apply, val_main_v46_apply, val_main_v45_apply, v34_apply, v43_apply]
  unfold outRow rmsRow
  generalize ffn (resid (row x b P) (row om b P) (row od b P) (row g b P) (mat wbm) (mat wbd) (mat wo)) (fun e => gffn (ix2 0 e)) (mat wg) (mat wu) (mat wd) = y
  generalize (∑ e, y e * y e : EReal) = z
  refine congrArg (y d * Ideal.rsqrt (Ideal.div z _ + _) * ·) (congrArg gfin ?_)
  funext a; apply Fin.ext
  match a with
  | ⟨0, _⟩ => rfl

/-- The reference at an element of its result. -/
theorem result_apply (R : Fin 16384) (d : Fin 1024) :
    val_main_v48 (F := Ideal) x om od g wbm wbd wo gffn wg wu wd gfin (ix2 R d)
      = outRow x om od g wbm wbd wo gffn wg wu wd gfin ⟨R.val / 8192, by omega⟩ ⟨R.val % 8192, by omega⟩ d := by
  have hR := R.isLt; have hd := d.isLt
  rw [val_main_v48_apply, ← v47_apply]
  refine congrArg _ (at3 _ _ _ d ?_ ?_ ?_)
  · show (R.val * 1024 + d.val) / 8388608 = R.val / 8192; omega
  · show (R.val * 1024 + d.val) / 1024 % 8192 = R.val % 8192; omega
  · show (R.val * 1024 + d.val) % 1024 = d.val; omega

end Cert.Proof.Reference2

end
-- ==== Proof.PostVal.lean ====
module

public import proofs.«01_k».proof.Proof.Post
public import proofs.«01_k».proof.Proof.Gen.Kernel2Ideal.Value
public import Idealize.ShloMosaic.Lib.MatmulPlain
public import Idealize.ShloMosaic.Lib.Pipeline.Value

/-! The block the last call writes at one grid point, at an element. -/

@[expose] public section

set_option maxRecDepth 16384

noncomputable section

namespace Cert.Proof.Kernel2Ideal

open Cert.Kernel2Ideal
open Idealize.ShloMosaic Idealize.ShloMosaic.TcCoe
open Idealize.ShloMosaic.ValueIdx
open Cert.Proof.Post

/-- A block's row. -/
def brow {n k : ℕ} (y : (⟨2, ![n, k]⟩ : Shape).Idx → EReal) (r : Fin n) (e : Fin k) : EReal := y (ix2 r e)
/-- A block as a matrix. -/
def bmat {n k : ℕ} (w : (⟨2, ![n, k]⟩ : Shape).Idx → EReal) (e : Fin n) (f : Fin k) : EReal := w (ix2 e f)

theorem dotA_apply (a : FVec Ideal S512x512 .bf16) (w : FVec Ideal S512x1024 .bf16) (r : Fin 512) (d : Fin 1024) :
    matmul dot_S512x512_S512x1024_S512x1024_1_0_0_1_n_n none a w (constant S512x1024 .f32 0x00000000#32) (ix2 r d)
      = mv (brow (n := 512) (k := 512) a r) (bmat (n := 512) (k := 1024) w) d := by
  refine (Ideal.matmul_plain_apply (M := 512) (K := 512) (N := 1024) none a w (constant S512x1024 .f32 0x00000000#32) r d).trans ?_
  rw [constant_apply, Ideal.ofBits_zero_f32, zero_add]
  rfl

theorem dotB_apply (a : FVec Ideal S512x1024 .bf16) (w : FVec Ideal S1024x1024 .bf16) (r : Fin 512) (d : Fin 1024) :
    matmul dot_S512x1024_S1024x1024_S512x1024_1_0_0_1_n_n none a w (constant S512x1024 .f32 0x00000000#32) (ix2 r d)
      = mv (brow (n := 512) (k := 1024) a r) (bmat (n := 1024) (k := 1024) w) d := by
  refine (Ideal.matmul_plain_apply (M := 512) (K := 1024) (N := 1024) none a w (constant S512x1024 .f32 0x00000000#32) r d).trans ?_
  rw [constant_apply, Ideal.ofBits_zero_f32, zero_add]
  rfl

theorem dotC_apply (a : FVec Ideal S512x1024 .bf16) (w : FVec Ideal S1024x768 .bf16) (r : Fin 512) (d : Fin 768) :
    matmul dot_S512x1024_S1024x768_S512x768_1_0_0_1_n_n none a w (constant S512x768 .f32 0x00000000#32) (ix2 r d)
      = mv (brow (n := 512) (k := 1024) a r) (bmat (n := 1024) (k := 768) w) d := by
  refine (Ideal.matmul_plain_apply (M := 512) (K := 1024) (N := 768) none a w (constant S512x768 .f32 0x00000000#32) r d).trans ?_
  rw [constant_apply, Ideal.ofBits_zero_f32, zero_add]
  rfl

theorem dotD_apply (a : FVec Ideal S512x768 .bf16) (w : FVec Ideal S768x1024 .bf16) (r : Fin 512) (d : Fin 1024) :
    matmul dot_S512x768_S768x1024_S512x1024_1_0_0_1_n_n none a w (constant S512x1024 .f32 0x00000000#32) (ix2 r d)
      = mv (brow (n := 512) (k := 768) a r) (bmat (n := 768) (k := 1024) w) d := by
  refine (Ideal.matmul_plain_apply (M := 512) (K := 768) (N := 1024) none a w (constant S512x1024 .f32 0x00000000#32) r d).trans ?_
  rw [constant_apply, Ideal.ofBits_zero_f32, zero_add]
  rfl

theorem left_apply (g : FVec Ideal S512x2048 .f32) (r : Fin 512) (d : Fin 1024) :
    extractStridedSlice S512x1024 ![0, 0] g Gen.slices_S512x2048_o0_0_S512x1024 (ix2 r d) = g (ix2 r ⟨d.val, by omega⟩) := by
  refine extractStridedSlice_apply ![0, 0] g _ (ix2 r d) _ fun a => ?_
  match a with
  | ⟨0, _⟩ => show r.val = 0 + r.val; omega
  | ⟨1, _⟩ => show d.val = 0 + d.val; omega

theorem right_apply (g : FVec Ideal S512x2048 .f32) (r : Fin 512) (d : Fin 1024) :
    extractStridedSlice S512x1024 ![0, 1024] g Gen.slices_S512x2048_o0_1024_S512x1024 (ix2 r d) = g (ix2 r ⟨1024 + d.val, by omega⟩) := by
  refine extractStridedSlice_apply ![0, 1024] g _ (ix2 r d) _ fun a => ?_
  match a with
  | ⟨0, _⟩ => show r.val = 0 + r.val; omega
  | ⟨1, _⟩ => rfl

/-- The row after the attentions. -/
theorem pay1_apply (g : Vec Ideal S512x2048 .bf16) (om : Vec Ideal S512x512 .bf16) (wbm : Vec Ideal S512x1024 .bf16) (od : Vec Ideal S512x512 .bf16)
    (wbd : Vec Ideal S512x1024 .bf16) (x : Vec Ideal S512x1024 .f32) (wo : Vec Ideal S1024x1024 .bf16) (r : Fin 512) (d : Fin 1024) :
    Gen.k0_pay1 g om wbm od wbd x wo (ix2 r d)
      = resid (brow (n := 512) (k := 1024) x r) (brow (n := 512) (k := 512) om r) (brow (n := 512) (k := 512) od r) (brow (n := 512) (k := 2048) g r)
        (bmat (n := 512) (k := 1024) wbm) (bmat (n := 512) (k := 1024) wbd) (bmat (n := 1024) (k := 1024) wo) d := by
  simp only [Gen.k0_pay1, shapeCast_self]
  refine congrArg (x (ix2 r d) + ·) ((dotB_apply _ _ r d).trans (congrArg (fun h => mv h _ d) (funext fun e => ?_)))
  have el := left_apply (extf .f32 (g : FVec Ideal S512x2048 .bf16) Gen.bitsLt_bf16_f32) r e
  have er := right_apply (extf .f32 (g : FVec Ideal S512x2048 .bf16) Gen.bitsLt_bf16_f32) r e
  exact congrArg₂ (· + ·) (congrArg₂ (· * ·) el (dotA_apply om wbm r e)) (congrArg₂ (· * ·) er (dotA_apply od wbd r e))

theorem bcCol_apply (x : FVec Ideal S512x1 .f32) (r : Fin 512) (d : Fin 1024) :
    broadcastTo S512x1024 x Gen.broadcasts_S512x1_S512x1024 (ix2 r d) = x (ix2 r 0) := by
  refine broadcastTo_apply x _ (ix2 r d) (ix2 r 0) fun a => ?_
  match a with
  | ⟨0, _⟩ => rfl
  | ⟨1, _⟩ => rfl

theorem bcOver_apply (x : FVec Ideal S1x1024 .f32) (r : Fin 512) (d : Fin 1024) :
    broadcastTo S512x1024 x Gen.broadcasts_S1x1024_S512x1024 (ix2 r d) = x (ix2 0 d) := by
  refine broadcastTo_apply x _ (ix2 r d) (ix2 0 d) fun a => ?_
  match a with
  | ⟨0, _⟩ => rfl
  | ⟨1, _⟩ => rfl

theorem sumrow_apply (s : FVec Ideal S512x1024 .f32) (r : Fin 512) :
    shapeCast S512x1 (multiReduction .add [1] S512 s 0x00000000#32 Gen.reduces_S512x1024_S512 (.inl rfl) rfl) Gen.shapeCasts_S512_S512x1 (ix2 r 0)
      = ∑ e : Fin 1024, s (ix2 r e) := by
  refine (shapeCast_apply _ Gen.shapeCasts_S512_S512x1 (ix2 r 0) (ix1 r) ?_).trans ?_
  · rw [Shape.rowMajor_val_one, Shape.rowMajor_val_two]
    show r.val = r.val * 1 + 0
    omega
  refine (Ideal.multiReduction_add_single s 0x00000000#32 Gen.reduces_S512x1024_S512 (.inl rfl) rfl _).trans ?_
  refine Finset.sum_congr rfl fun k _ => congrArg s (funext fun a => Fin.ext ?_)
  match a with
  | ⟨0, _⟩ => rfl
  | ⟨1, _⟩ => rfl

/-- A block's rows over the roots of their mean squares. -/
def unitRows (y : FVec Ideal S512x1024 .f32) : FVec Ideal S512x1024 .f32 :=
  mulf y (broadcastTo S512x1024 (rsqrt (addf (divf (shapeCast S512x1 (multiReduction .add [1] S512 (mulf y y) 0x00000000#32 Gen.reduces_S512x1024_S512 (.inl rfl) rfl)
    Gen.shapeCasts_S512_S512x1) (broadcast S512x1 (Scalar.ofBits .f32 0x44800000#32))) (broadcast S512x1 (Scalar.ofBits .f32 0x358637BD#32))))
    Gen.broadcasts_S512x1_S512x1024)

theorem unitRows_apply (y : FVec Ideal S512x1024 .f32) (r : Fin 512) (d : Fin 1024) :
    unitRows y (ix2 r d) = y (ix2 r d) * Ideal.rsqrt (Ideal.div (∑ e : Fin 1024, y (ix2 r e) * y (ix2 r e)) (Ideal.ofBits .f32 0x44800000#32)
      + Ideal.ofBits .f32 0x358637BD#32) := by
  unfold unitRows
  refine congrArg (y (ix2 r d) * ·) ((bcCol_apply _ r d).trans ?_)
  show Ideal.rsqrt (Ideal.div (shapeCast S512x1 (multiReduction .add [1] S512 (mulf y y) 0x00000000#32 Gen.reduces_S512x1024_S512 (.inl rfl) rfl)
    Gen.shapeCasts_S512_S512x1 (ix2 r 0)) (Ideal.ofBits .f32 0x44800000#32) + Ideal.ofBits .f32 0x358637BD#32) = _
  rw [sumrow_apply]
  rfl

theorem pay4_apply (y : FVec Ideal S512x1024 .f32) (g : FVec Ideal S1x1024 .f32) (r : Fin 512) (d : Fin 1024) :
    Gen.k0_pay4 g (unitRows y) (ix2 r d) = rmsRow (brow (n := 512) (k := 1024) y r) (brow (n := 1) (k := 1024) g 0) d := by
  show unitRows y (ix2 r d) * broadcastTo S512x1024 g Gen.broadcasts_S1x1024_S512x1024 (ix2 r d) = _
  rw [unitRows_apply, bcOver_apply]
  rfl

/-- The hidden features from their two projections. -/
def gated {s : Shape} (a u : FVec Ideal s .f32) : FVec Ideal s .bf16 :=
  truncf .bf16 (mulf (mulf a (divf (broadcast s (Scalar.ofBits .f32 0x3F800000#32)) (addf (broadcast s (Scalar.ofBits .f32 0x3F800000#32))
    (exp (subf (broadcast s (Scalar.ofBits .f32 0x00000000#32)) a))))) u) Gen.bitsLt_bf16_f32

theorem gated_apply {s : Shape} (a u : FVec Ideal s .f32) (i : s.Idx) : gated a u i = glu (a i) (u i) := by
  show a i * Ideal.div (Ideal.ofBits .f32 0x3F800000#32) (Ideal.ofBits .f32 0x3F800000#32 + Ideal.exp (Ideal.ofBits .f32 0x00000000#32 - a i)) * u i = _
  rw [Ideal.ofBits_zero_f32, sub_eq_add_neg, zero_add]
  rfl

/-- Part of the hidden row. -/
def part {k : ℕ} (h : Fin 1024 → EReal) (wg wu : Fin 1024 → Fin k → EReal) (f : Fin k) : EReal := glu (mv h wg f) (mv h wu f)

theorem pay6_apply (g : FVec Ideal S1x1024 .f32) (n : FVec Ideal S512x1024 .f32) (wg wu : Vec Ideal S1024x1024 .bf16) (r : Fin 512) (f : Fin 1024) :
    Gen.k0_pay6 g n wg wu (ix2 r f) = part (brow (n := 512) (k := 1024) (Gen.k0_pay4 g n) r) (bmat (n := 1024) (k := 1024) wg)
      (bmat (n := 1024) (k := 1024) wu) f := by
  simp only [Gen.k0_pay6, shapeCast_self]
  refine (gated_apply _ _ (ix2 r f)).trans ?_
  rw [dotB_apply, dotB_apply]
  rfl

theorem pay5_eq (y : FVec Ideal S512x1024 .f32) (g : FVec Ideal S1x1024 .f32) (n : FVec Ideal S512x1024 .f32) (wg wu wd : Vec Ideal S1024x1024 .bf16)
    (r : Fin 512) (d : Fin 1024) :
    Gen.k0_pay5 y g n wg wu wd (ix2 r d) = y (ix2 r d) + mv (part (brow (n := 512) (k := 1024) (Gen.k0_pay4 g n) r) (bmat (n := 1024) (k := 1024) wg)
      (bmat (n := 1024) (k := 1024) wu)) (bmat (n := 1024) (k := 1024) wd) d := by
  have e : Gen.k0_pay5 y g n wg wu wd = addf y (matmul dot_S512x1024_S1024x1024_S512x1024_1_0_0_1_n_n none (Gen.k0_pay6 g n wg wu)
      (shapeCast S1024x1024 wd Gen.shapeCasts_S1024x1024_S1024x1024 : FVec Ideal S1024x1024 .bf16) (constant S512x1024 .f32 0x00000000#32)) := rfl
  rw [e, shapeCast_self]
  refine congrArg (y (ix2 r d) + ·) ((dotB_apply _ _ r d).trans (congrArg (fun h => mv h _ d) (funext fun f => ?_)))
  exact pay6_apply g n wg wu r f

/-- The row the last norm is taken of, its feed-forward part in three parts. -/
def last (h : FVec Ideal S512x1024 .bf16) (y : FVec Ideal S512x1024 .f32) (p : FVec Ideal S512x1024 .bf16) (wd : FVec Ideal S1024x1024 .bf16)
    (wg wu : FVec Ideal S1024x768 .bf16) (wd' : FVec Ideal S768x1024 .bf16) : FVec Ideal S512x1024 .f32 :=
  addf (addf y (matmul dot_S512x1024_S1024x1024_S512x1024_1_0_0_1_n_n none p wd (constant S512x1024 .f32 0x00000000#32)))
    (matmul dot_S512x768_S768x1024_S512x1024_1_0_0_1_n_n none
      (gated (matmul dot_S512x1024_S1024x768_S512x768_1_0_0_1_n_n none h wg (constant S512x768 .f32 0x00000000#32))
        (matmul dot_S512x1024_S1024x768_S512x768_1_0_0_1_n_n none h wu (constant S512x768 .f32 0x00000000#32)))
      wd' (constant S512x1024 .f32 0x00000000#32))

theorem last_apply (h : FVec Ideal S512x1024 .bf16) (y : FVec Ideal S512x1024 .f32) (p : FVec Ideal S512x1024 .bf16) (wd : FVec Ideal S1024x1024 .bf16)
    (wg wu : FVec Ideal S1024x768 .bf16) (wd' : FVec Ideal S768x1024 .bf16) (r : Fin 512) (d : Fin 1024) :
    last h y p wd wg wu wd' (ix2 r d) = y (ix2 r d) + mv (brow (n := 512) (k := 1024) p r) (bmat (n := 1024) (k := 1024) wd) d
      + mv (part (brow (n := 512) (k := 1024) h r) (bmat (n := 1024) (k := 768) wg) (bmat (n := 1024) (k := 768) wu)) (bmat (n := 768) (k := 1024) wd') d := by
  unfold last
  refine congrArg₂ (· + ·) (congrArg (y (ix2 r d) + ·) (dotB_apply _ _ r d)) ((dotD_apply _ _ r d).trans (congrArg (fun h => mv h _ d) (funext fun f => ?_)))
  refine (gated_apply _ _ (ix2 r f)).trans ?_
  rw [dotC_apply, dotC_apply]
  rfl

theorem pay7_eq (h : FVec Ideal S512x1024 .bf16) (y : FVec Ideal S512x1024 .f32) (p : FVec Ideal S512x1024 .bf16) (wd : FVec Ideal S1024x1024 .bf16)
    (wg wu : FVec Ideal S1024x768 .bf16) (wd' : FVec Ideal S768x1024 .bf16) (g : Vec Ideal S1x1024 .f32) :
    Gen.k0_pay7 h y p wd wg wu wd' g = mulf (unitRows (last h y p wd wg wu wd')) (broadcastTo S512x1024 g Gen.broadcasts_S1x1024_S512x1024) := by
  have e : Gen.k0_pay7 h y p wd wg wu wd' g = mulf (unitRows (last h y p (shapeCast S1024x1024 wd Gen.shapeCasts_S1024x1024_S1024x1024)
      (shapeCast S1024x768 wg Gen.shapeCasts_S1024x768_S1024x768) (shapeCast S1024x768 wu Gen.shapeCasts_S1024x768_S1024x768)
      (shapeCast S768x1024 wd' Gen.shapeCasts_S768x1024_S768x1024)))
      (broadcastTo S512x1024 (shapeCast S1x1024 g Gen.shapeCasts_S1x1024_S1x1024) Gen.broadcasts_S1x1024_S512x1024) := rfl
  rw [e, shapeCast_self, shapeCast_self, shapeCast_self, shapeCast_self, shapeCast_self]

theorem pay7_apply (h : FVec Ideal S512x1024 .bf16) (y : FVec Ideal S512x1024 .f32) (p : FVec Ideal S512x1024 .bf16) (wd : FVec Ideal S1024x1024 .bf16)
    (wg wu : FVec Ideal S1024x768 .bf16) (wd' : FVec Ideal S768x1024 .bf16) (g : Vec Ideal S1x1024 .f32) (r : Fin 512) (d : Fin 1024) :
    Gen.k0_pay7 h y p wd wg wu wd' g (ix2 r d)
      = rmsRow (brow (n := 512) (k := 1024) (last h y p wd wg wu wd') r) (brow (n := 1) (k := 1024) g 0) d := by
  rw [pay7_eq]
  show unitRows _ (ix2 r d) * broadcastTo S512x1024 g Gen.broadcasts_S1x1024_S512x1024 (ix2 r d) = _
  rw [unitRows_apply, bcOver_apply]
  rfl

/-- A part of the projections' columns. -/
theorem cols_apply {k : ℕ} (w : Vec Ideal S1024x2816 .bf16) (o : ℕ) (inb : ∀ a : Fin 2, (![0, o] : Fin 2 → ℕ) a + (![1024, k] : Fin 2 → ℕ) a ≤ S1024x2816.size a)
    (e : Fin 1024) (f : Fin k) (h : o + f.val < 2816) :
    View.ld w (Rect.unit (s := S1024x2816) ![0, o] ![1024, k] inb) (ix2 e f) = w (ix2 e ⟨o + f.val, h⟩) := by
  rw [View.ld_unit]
  refine extractStridedSlice_apply ![0, o] w _ (ix2 e f) _ fun a => ?_
  match a with
  | ⟨0, _⟩ => show e.val = 0 + e.val; omega
  | ⟨1, _⟩ => rfl

/-- A part of the last projection's rows. -/
theorem rows_apply {k : ℕ} (w : Vec Ideal S2816x1024 .bf16) (o : ℕ) (inb : ∀ a : Fin 2, (![o, 0] : Fin 2 → ℕ) a + (![k, 1024] : Fin 2 → ℕ) a ≤ S2816x1024.size a)
    (f : Fin k) (d : Fin 1024) (h : o + f.val < 2816) :
    View.ld w (Rect.unit (s := S2816x1024) ![o, 0] ![k, 1024] inb) (ix2 f d) = w (ix2 ⟨o + f.val, h⟩ d) := by
  rw [View.ld_unit]
  refine extractStridedSlice_apply ![o, 0] w _ (ix2 f d) _ fun a => ?_
  match a with
  | ⟨0, _⟩ => rfl
  | ⟨1, _⟩ => show d.val = 0 + d.val; omega

/-- A part of the hidden row, by the place of its first feature. -/
theorem part_eq {k : ℕ} (h : Fin 1024 → EReal) (wg wu : Fin 1024 → Fin 2816 → EReal) (vg vu : Fin 1024 → Fin k → EReal) (wd : Fin 2816 → Fin 1024 → EReal)
    (vd : Fin k → Fin 1024 → EReal) (q : Fin k → Fin 2816) (hg : ∀ e f, vg e f = wg e (q f)) (hu : ∀ e f, vu e f = wu e (q f))
    (hd : ∀ f d, vd f d = wd (q f) d) (d : Fin 1024) : mv (part h vg vu) vd d = ∑ f, hid h wg wu (q f) * wd (q f) d := by
  refine Finset.sum_congr rfl fun f _ => congrArg₂ (· * ·) ?_ (hd f d)
  unfold part hid mv
  simp only [hg, hu]

/-- The block written from the blocks read. -/
theorem out_apply (x : Vec Ideal S512x1024 .f32) (om od : Vec Ideal S512x512 .bf16) (g : Vec Ideal S512x2048 .bf16) (wbm wbd : Vec Ideal S512x1024 .bf16)
    (wo : Vec Ideal S1024x1024 .bf16) (gffn : Vec Ideal S1x1024 .f32) (wg wu : Vec Ideal S1024x2816 .bf16) (wd : Vec Ideal S2816x1024 .bf16)
    (gfin : Vec Ideal S1x1024 .f32) (r : Fin 512) (d : Fin 1024) :
    Gen.out0_12 x om od g wbm wbd wo gffn wg wu wd gfin (ix2 r d)
      = rmsRow (ffn (resid (brow (n := 512) (k := 1024) x r) (brow (n := 512) (k := 512) om r) (brow (n := 512) (k := 512) od r) (brow (n := 512) (k := 2048) g r)
        (bmat (n := 512) (k := 1024) wbm) (bmat (n := 512) (k := 1024) wbd) (bmat (n := 1024) (k := 1024) wo)) (brow (n := 1) (k := 1024) gffn 0)
        (bmat (n := 1024) (k := 2816) wg) (bmat (n := 1024) (k := 2816) wu) (bmat (n := 2816) (k := 1024) wd)) (brow (n := 1) (k := 1024) gfin 0) d := by
  have z : (![0, 0] : Fin 2 → ℕ) = fun _ => 0 := by decide
  unfold Gen.out0_12 Gen.k0_pay8 Gen.k0_pay9
  rw [View.canon_unit_zero z]
  rw [View.ld_unit_zero z _ x, View.ld_unit_zero z _ om, View.ld_unit_zero z _ od, View.ld_unit_zero z _ g, View.ld_unit_zero z _ wbm,
    View.ld_unit_zero z _ wbd, View.ld_unit_zero z _ wo, View.ld_unit_zero z _ gffn, View.ld_unit_zero z _ gfin]
  have e3 : Gen.k0_pay3 g om wbm od wbd x wo = unitRows (Gen.k0_pay1 g om wbm od wbd x wo) := rfl
  have e2 : Gen.k0_pay2 gffn = gffn := shapeCast_self _ _
  rw [e3, e2]
  refine (pay7_apply _ _ _ _ _ _ _ gfin r d).trans (congrArg (fun y => rmsRow y _ d) (funext fun d => ?_))
  have hy : brow (n := 512) (k := 1024) (Gen.k0_pay1 g om wbm od wbd x wo) r = resid (brow (n := 512) (k := 1024) x r) (brow (n := 512) (k := 512) om r)
      (brow (n := 512) (k := 512) od r) (brow (n := 512) (k := 2048) g r) (bmat (n := 512) (k := 1024) wbm) (bmat (n := 512) (k := 1024) wbd)
      (bmat (n := 1024) (k := 1024) wo) := funext fun d => pay1_apply g om wbm od wbd x wo r d
  have hh : brow (n := 512) (k := 1024) (Gen.k0_pay4 gffn (unitRows (Gen.k0_pay1 g om wbm od wbd x wo))) r
      = rmsRow (brow (n := 512) (k := 1024) (Gen.k0_pay1 g om wbm od wbd x wo) r) (brow (n := 1) (k := 1024) gffn 0) :=
    funext fun d => pay4_apply _ gffn r d
  refine (last_apply _ _ _ _ _ _ _ r d).trans ?_
  rw [← hy]
  generalize Gen.k0_pay1 g om wbm od wbd x wo = y at hh ⊢
  rw [pay5_eq, show brow (n := 512) (k := 1024) (Gen.k0_pay6 gffn (unitRows y) _ _) r = part _ _ _ from funext fun f => pay6_apply gffn (unitRows y) _ _ r f, hh]
  rw [part_eq _ (bmat (n := 1024) (k := 2816) wg) (bmat (n := 1024) (k := 2816) wu) (bmat (n := 1024) (k := 1024) (View.ld wg Gen.r0_5))
      (bmat (n := 1024) (k := 1024) (View.ld wu Gen.r0_5)) (bmat (n := 2816) (k := 1024) wd) (bmat (n := 1024) (k := 1024) (View.ld wd Gen.r0_6))
      (fun f : Fin 1024 => ⟨0 + f.val, by omega⟩) (fun e f => cols_apply wg 0 _ e f _) (fun e f => cols_apply wu 0 _ e f _) (fun f d => rows_apply wd 0 _ f d _),
    part_eq _ (bmat (n := 1024) (k := 2816) wg) (bmat (n := 1024) (k := 2816) wu) (bmat (n := 1024) (k := 1024) (View.ld wg Gen.r0_7))
      (bmat (n := 1024) (k := 1024) (View.ld wu Gen.r0_7)) (bmat (n := 2816) (k := 1024) wd) (bmat (n := 1024) (k := 1024) (View.ld wd Gen.r0_8))
      (fun f : Fin 1024 => ⟨1024 + f.val, by omega⟩) (fun e f => cols_apply wg 1024 _ e f _) (fun e f => cols_apply wu 1024 _ e f _) (fun f d => rows_apply wd 1024 _ f d _),
    part_eq _ (bmat (n := 1024) (k := 2816) wg) (bmat (n := 1024) (k := 2816) wu) (bmat (n := 1024) (k := 768) (View.ld wg Gen.r0_9))
      (bmat (n := 1024) (k := 768) (View.ld wu Gen.r0_9)) (bmat (n := 2816) (k := 1024) wd) (bmat (n := 768) (k := 1024) (View.ld wd Gen.r0_10))
      (fun f : Fin 768 => ⟨2048 + f.val, by omega⟩) (fun e f => cols_apply wg 2048 _ e f _) (fun e f => cols_apply wu 2048 _ e f _) (fun f d => rows_apply wd 2048 _ f d _)]
  unfold ffn mv
  rw [sum_parts, ← add_assoc, ← add_assoc]
  simp only [Nat.zero_add]
  rfl

end Cert.Proof.Kernel2Ideal

end
-- ==== Proof.PostFinal.lean ====
module

public import proofs.«01_k».proof.Proof.PostVal
public import Idealize.ShloMosaic.Lib.Claim

/-! The array the last call leaves. -/

@[expose] public section

set_option maxRecDepth 16384

noncomputable section

namespace Cert.Proof.Kernel2Ideal

open Cert.Kernel2Ideal
open Idealize.ShloMosaic Idealize.ShloMosaic.TcCoe Idealize.ShloMosaic.Tactic
open Idealize.ShloMosaic.ValueIdx
open Idealize.SL.Sem
open Cert.Proof.Post

/-- A batch's positions laid end to end. -/
theorem flat_apply {n : ℕ} (x : Act n) (h : (⟨3, ![2, 8192, n]⟩ : Shape).ShapeCasts ⟨2, ![16384, n]⟩) (R : Fin 16384) (e : Fin n) :
    shapeCast ⟨2, ![16384, n]⟩ x h (ix2 R e) = row x ⟨R.val / 8192, by omega⟩ ⟨R.val % 8192, by omega⟩ e := by
  refine shapeCast_apply x h (ix2 R e) (ix3 ⟨R.val / 8192, by omega⟩ ⟨R.val % 8192, by omega⟩ e) ?_
  rw [Shape.rowMajor_val_two, Shape.rowMajor_val_three]
  show (R.val / 8192 * 8192 + R.val % 8192) * n + e.val = R.val * n + e.val
  rw [show R.val / 8192 * 8192 + R.val % 8192 = R.val by omega]

/-- The one layer's matrix. -/
theorem only_apply {n k : ℕ} (w : Mat n k) (h : (⟨3, ![1, n, k]⟩ : Shape).ShapeCasts ⟨2, ![n, k]⟩) (e : Fin n) (f : Fin k) :
    shapeCast ⟨2, ![n, k]⟩ w h (ix2 e f) = mat w e f := by
  refine shapeCast_apply w h (ix2 e f) (ix3 0 e f) ?_
  rw [Shape.rowMajor_val_two, Shape.rowMajor_val_three]
  show (0 * n + e.val) * k + f.val = e.val * k + f.val
  rw [Nat.zero_mul, Nat.zero_add]

variable (m : (ℓ : Loc nD τ sig) → Buf (Elt Ideal) ℓ) (ρ : Dev nD → PrngReg) (c : Dev nD)

theorem V_x : Gen.V m c main_v0 = (shapeCast S16384x1024 (m ((c : Thread nD τ).loc main_arg0)) Gen.shapeCasts_S2x8192x1024_S16384x1024 : Vec Ideal S16384x1024 .f32) := by
  entry_read
  rfl

theorem tile_x (t : Fin cfg0.N) (r : Fin 512) (e : Fin 1024) (R : Fin 16384) (hR : R.val = 512 * t.val + r.val) :
    Gen.iblk m c 0 t (ix2 r e) = row (m ((c : Thread nD τ).loc main_arg0)) ⟨R.val / 8192, by omega⟩ ⟨R.val % 8192, by omega⟩ e := by
  have hi : ∀ t : Fin cfg0.N, cc0_transform_0 (grid0.coords t) = ![t.val, 0] := by decide
  refine Eq.trans ?_ ((congrFun (V_x m c) (ix2 R e)).trans (flat_apply (m ((c : Thread nD τ).loc main_arg0)) Gen.shapeCasts_S2x8192x1024_S16384x1024 R e))
  unfold Gen.iblk
  rw [View.read_apply]
  refine congrArg (fun e => _root_.cast _ (Gen.V m c main_v0 e)) ?_
  funext a; apply Fin.ext
  show (cc0_transform_0 (grid0.coords t) a) * _ + _ = _
  rw [hi t]
  match a with
  | ⟨0, _⟩ => show t.val * 512 + 1 * r.val = R.val; omega
  | ⟨1, _⟩ => show 0 * 1024 + 1 * e.val = e.val; omega

theorem V_om : Gen.V m c main_v2 = (truncf .bf16 (shapeCast S16384x512 (m ((c : Thread nD τ).loc main_arg1)) Gen.shapeCasts_S2x8192x512_S16384x512 : FVec Ideal S16384x512 .f32) Gen.bitsLt_bf16_f32 : Vec Ideal S16384x512 .bf16) := by
  entry_read
  rfl

theorem tile_om (t : Fin cfg0.N) (r : Fin 512) (e : Fin 512) (R : Fin 16384) (hR : R.val = 512 * t.val + r.val) :
    Gen.iblk m c 1 t (ix2 r e) = row (m ((c : Thread nD τ).loc main_arg1)) ⟨R.val / 8192, by omega⟩ ⟨R.val % 8192, by omega⟩ e := by
  have hi : ∀ t : Fin cfg0.N, cc0_transform_1 (grid0.coords t) = ![t.val, 0] := by decide
  refine Eq.trans ?_ ((congrFun (V_om m c) (ix2 R e)).trans (flat_apply (m ((c : Thread nD τ).loc main_arg1)) Gen.shapeCasts_S2x8192x512_S16384x512 R e))
  unfold Gen.iblk
  rw [View.read_apply]
  refine congrArg (fun e => _root_.cast _ (Gen.V m c main_v2 e)) ?_
  funext a; apply Fin.ext
  show (cc0_transform_1 (grid0.coords t) a) * _ + _ = _
  rw [hi t]
  match a with
  | ⟨0, _⟩ => show t.val * 512 + 1 * r.val = R.val; omega
  | ⟨1, _⟩ => show 0 * 512 + 1 * e.val = e.val; omega

theorem V_od : Gen.V m c main_v4 = (truncf .bf16 (shapeCast S16384x512 (m ((c : Thread nD τ).loc main_arg2)) Gen.shapeCasts_S2x8192x512_S16384x512 : FVec Ideal S16384x512 .f32) Gen.bitsLt_bf16_f32 : Vec Ideal S16384x512 .bf16) := by
  entry_read
  rfl

theorem tile_od (t : Fin cfg0.N) (r : Fin 512) (e : Fin 512) (R : Fin 16384) (hR : R.val = 512 * t.val + r.val) :
    Gen.iblk m c 2 t (ix2 r e) = row (m ((c : Thread nD τ).loc main_arg2)) ⟨R.val / 8192, by omega⟩ ⟨R.val % 8192, by omega⟩ e := by
  have hi : ∀ t : Fin cfg0.N, cc0_transform_2 (grid0.coords t) = ![t.val, 0] := by decide
  refine Eq.trans ?_ ((congrFun (V_od m c) (ix2 R e)).trans (flat_apply (m ((c : Thread nD τ).loc main_arg2)) Gen.shapeCasts_S2x8192x512_S16384x512 R e))
  unfold Gen.iblk
  rw [View.read_apply]
  refine congrArg (fun e => _root_.cast _ (Gen.V m c main_v4 e)) ?_
  funext a; apply Fin.ext
  show (cc0_transform_2 (grid0.coords t) a) * _ + _ = _
  rw [hi t]
  match a with
  | ⟨0, _⟩ => show t.val * 512 + 1 * r.val = R.val; omega
  | ⟨1, _⟩ => show 0 * 512 + 1 * e.val = e.val; omega

theorem V_g : Gen.V m c main_v6 = (truncf .bf16 (shapeCast S16384x2048 (m ((c : Thread nD τ).loc main_arg3)) Gen.shapeCasts_S2x8192x2048_S16384x2048 : FVec Ideal S16384x2048 .f32) Gen.bitsLt_bf16_f32 : Vec Ideal S16384x2048 .bf16) := by
  entry_read
  rfl

theorem tile_g (t : Fin cfg0.N) (r : Fin 512) (e : Fin 2048) (R : Fin 16384) (hR : R.val = 512 * t.val + r.val) :
    Gen.iblk m c 3 t (ix2 r e) = row (m ((c : Thread nD τ).loc main_arg3)) ⟨R.val / 8192, by omega⟩ ⟨R.val % 8192, by omega⟩ e := by
  have hi : ∀ t : Fin cfg0.N, cc0_transform_3 (grid0.coords t) = ![t.val, 0] := by decide
  refine Eq.trans ?_ ((congrFun (V_g m c) (ix2 R e)).trans (flat_apply (m ((c : Thread nD τ).loc main_arg3)) Gen.shapeCasts_S2x8192x2048_S16384x2048 R e))
  unfold Gen.iblk
  rw [View.read_apply]
  refine congrArg (fun e => _root_.cast _ (Gen.V m c main_v6 e)) ?_
  funext a; apply Fin.ext
  show (cc0_transform_3 (grid0.coords t) a) * _ + _ = _
  rw [hi t]
  match a with
  | ⟨0, _⟩ => show t.val * 512 + 1 * r.val = R.val; omega
  | ⟨1, _⟩ => show 0 * 2048 + 1 * e.val = e.val; omega

theorem V_wbm : Gen.V m c main_v8 = (truncf .bf16 (shapeCast S512x1024 (m ((c : Thread nD τ).loc main_arg4)) Gen.shapeCasts_S1x512x1024_S512x1024
    : FVec Ideal S512x1024 .f32) Gen.bitsLt_bf16_f32 : Vec Ideal S512x1024 .bf16) := by
  entry_read
  rfl

theorem tile_wbm (t : Fin cfg0.N) : bmat (n := 512) (k := 1024) (Gen.iblk m c 4 t) = mat (m ((c : Thread nD τ).loc main_arg4)) := by
  funext e f
  refine Eq.trans ?_ ((congrFun (V_wbm m c) (ix2 e f)).trans (only_apply (m ((c : Thread nD τ).loc main_arg4)) Gen.shapeCasts_S1x512x1024_S512x1024 e f))
  unfold bmat Gen.iblk
  rw [View.read_apply]
  refine congrArg (fun e => _root_.cast _ (Gen.V m c main_v8 e)) ?_
  funext a; apply Fin.ext
  match a with
  | ⟨0, _⟩ => show 0 * 512 + 1 * e.val = e.val; omega
  | ⟨1, _⟩ => show 0 * 1024 + 1 * f.val = f.val; omega

theorem V_wbd : Gen.V m c main_v10 = (truncf .bf16 (shapeCast S512x1024 (m ((c : Thread nD τ).loc main_arg5)) Gen.shapeCasts_S1x512x1024_S512x1024
    : FVec Ideal S512x1024 .f32) Gen.bitsLt_bf16_f32 : Vec Ideal S512x1024 .bf16) := by
  entry_read
  rfl

theorem tile_wbd (t : Fin cfg0.N) : bmat (n := 512) (k := 1024) (Gen.iblk m c 5 t) = mat (m ((c : Thread nD τ).loc main_arg5)) := by
  funext e f
  refine Eq.trans ?_ ((congrFun (V_wbd m c) (ix2 e f)).trans (only_apply (m ((c : Thread nD τ).loc main_arg5)) Gen.shapeCasts_S1x512x1024_S512x1024 e f))
  unfold bmat Gen.iblk
  rw [View.read_apply]
  refine congrArg (fun e => _root_.cast _ (Gen.V m c main_v10 e)) ?_
  funext a; apply Fin.ext
  match a with
  | ⟨0, _⟩ => show 0 * 512 + 1 * e.val = e.val; omega
  | ⟨1, _⟩ => show 0 * 1024 + 1 * f.val = f.val; omega

theorem V_wo : Gen.V m c main_v12 = (truncf .bf16 (shapeCast S1024x1024 (m ((c : Thread nD τ).loc main_arg6)) Gen.shapeCasts_S1x1024x1024_S1024x1024
    : FVec Ideal S1024x1024 .f32) Gen.bitsLt_bf16_f32 : Vec Ideal S1024x1024 .bf16) := by
  entry_read
  rfl

theorem tile_wo (t : Fin cfg0.N) : bmat (n := 1024) (k := 1024) (Gen.iblk m c 6 t) = mat (m ((c : Thread nD τ).loc main_arg6)) := by
  funext e f
  refine Eq.trans ?_ ((congrFun (V_wo m c) (ix2 e f)).trans (only_apply (m ((c : Thread nD τ).loc main_arg6)) Gen.shapeCasts_S1x1024x1024_S1024x1024 e f))
  unfold bmat Gen.iblk
  rw [View.read_apply]
  refine congrArg (fun e => _root_.cast _ (Gen.V m c main_v12 e)) ?_
  funext a; apply Fin.ext
  match a with
  | ⟨0, _⟩ => show 0 * 1024 + 1 * e.val = e.val; omega
  | ⟨1, _⟩ => show 0 * 1024 + 1 * f.val = f.val; omega

theorem V_wg : Gen.V m c main_v16 = (truncf .bf16 (shapeCast S1024x2816 (m ((c : Thread nD τ).loc main_arg8)) Gen.shapeCasts_S1x1024x2816_S1024x2816
    : FVec Ideal S1024x2816 .f32) Gen.bitsLt_bf16_f32 : Vec Ideal S1024x2816 .bf16) := by
  entry_read
  rfl

theorem tile_wg (t : Fin cfg0.N) : bmat (n := 1024) (k := 2816) (Gen.iblk m c 8 t) = mat (m ((c : Thread nD τ).loc main_arg8)) := by
  funext e f
  refine Eq.trans ?_ ((congrFun (V_wg m c) (ix2 e f)).trans (only_apply (m ((c : Thread nD τ).loc main_arg8)) Gen.shapeCasts_S1x1024x2816_S1024x2816 e f))
  unfold bmat Gen.iblk
  rw [View.read_apply]
  refine congrArg (fun e => _root_.cast _ (Gen.V m c main_v16 e)) ?_
  funext a; apply Fin.ext
  match a with
  | ⟨0, _⟩ => show 0 * 1024 + 1 * e.val = e.val; omega
  | ⟨1, _⟩ => show 0 * 2816 + 1 * f.val = f.val; omega

theorem V_wu : Gen.V m c main_v18 = (truncf .bf16 (shapeCast S1024x2816 (m ((c : Thread nD τ).loc main_arg9)) Gen.shapeCasts_S1x1024x2816_S1024x2816
    : FVec Ideal S1024x2816 .f32) Gen.bitsLt_bf16_f32 : Vec Ideal S1024x2816 .bf16) := by
  entry_read
  rfl

theorem tile_wu (t : Fin cfg0.N) : bmat (n := 1024) (k := 2816) (Gen.iblk m c 9 t) = mat (m ((c : Thread nD τ).loc main_arg9)) := by
  funext e f
  refine Eq.trans ?_ ((congrFun (V_wu m c) (ix2 e f)).trans (only_apply (m ((c : Thread nD τ).loc main_arg9)) Gen.shapeCasts_S1x1024x2816_S1024x2816 e f))
  unfold bmat Gen.iblk
  rw [View.read_apply]
  refine congrArg (fun e => _root_.cast _ (Gen.V m c main_v18 e)) ?_
  funext a; apply Fin.ext
  match a with
  | ⟨0, _⟩ => show 0 * 1024 + 1 * e.val = e.val; omega
  | ⟨1, _⟩ => show 0 * 2816 + 1 * f.val = f.val; omega

theorem V_wd : Gen.V m c main_v20 = (truncf .bf16 (shapeCast S2816x1024 (m ((c : Thread nD τ).loc main_arg10)) Gen.shapeCasts_S1x2816x1024_S2816x1024
    : FVec Ideal S2816x1024 .f32) Gen.bitsLt_bf16_f32 : Vec Ideal S2816x1024 .bf16) := by
  entry_read
  rfl

theorem tile_wd (t : Fin cfg0.N) : bmat (n := 2816) (k := 1024) (Gen.iblk m c 10 t) = mat (m ((c : Thread nD τ).loc main_arg10)) := by
  funext e f
  refine Eq.trans ?_ ((congrFun (V_wd m c) (ix2 e f)).trans (only_apply (m ((c : Thread nD τ).loc main_arg10)) Gen.shapeCasts_S1x2816x1024_S2816x1024 e f))
  unfold bmat Gen.iblk
  rw [View.read_apply]
  refine congrArg (fun e => _root_.cast _ (Gen.V m c main_v20 e)) ?_
  funext a; apply Fin.ext
  match a with
  | ⟨0, _⟩ => show 0 * 2816 + 1 * e.val = e.val; omega
  | ⟨1, _⟩ => show 0 * 1024 + 1 * f.val = f.val; omega

theorem V_gffn : Gen.V m c main_v14 = (shapeCast S1x1024 (shapeCast S1024 (m ((c : Thread nD τ).loc main_arg7)) Gen.shapeCasts_S1x1024_S1024
    : Vec Ideal S1024 .f32) Gen.shapeCasts_S1024_S1x1024 : Vec Ideal S1x1024 .f32) := by
  entry_read
  rfl

theorem V_gfin : Gen.V m c main_v21 = (shapeCast S1x1024 (m ((c : Thread nD τ).loc main_arg11)) Gen.shapeCasts_S1024_S1x1024 : Vec Ideal S1x1024 .f32) := by
  entry_read
  rfl

theorem line_apply (g : Vec Ideal S1024 .f32) (e : Fin 1024) : shapeCast S1x1024 g Gen.shapeCasts_S1024_S1x1024 (ix2 0 e) = g (ix1 e) := by
  refine shapeCast_apply g _ (ix2 0 e) (ix1 e) ?_
  rw [Shape.rowMajor_val_one, Shape.rowMajor_val_two]
  show e.val = 0 * 1024 + e.val
  omega

theorem unline_apply (g : Vec Ideal S1x1024 .f32) (e : Fin 1024) : shapeCast S1024 g Gen.shapeCasts_S1x1024_S1024 (ix1 e) = g (ix2 0 e) := by
  refine shapeCast_apply g _ (ix1 e) (ix2 0 e) ?_
  rw [Shape.rowMajor_val_one, Shape.rowMajor_val_two]
  show 0 * 1024 + e.val = e.val
  omega

theorem tile_gfin (t : Fin cfg0.N) : brow (n := 1) (k := 1024) (Gen.iblk m c 11 t) 0 = fun e => m ((c : Thread nD τ).loc main_arg11) (ix1 e) := by
  funext e
  refine Eq.trans ?_ ((congrFun (V_gfin m c) (ix2 0 e)).trans (line_apply (m ((c : Thread nD τ).loc main_arg11)) e))
  unfold brow Gen.iblk
  rw [View.read_apply]
  refine congrArg (fun e => _root_.cast _ (Gen.V m c main_v21 e)) ?_
  funext a; apply Fin.ext
  match a with
  | ⟨0, _⟩ => rfl
  | ⟨1, _⟩ => show 0 * 1024 + 1 * e.val = e.val; omega

theorem tile_gffn (t : Fin cfg0.N) : brow (n := 1) (k := 1024) (Gen.iblk m c 7 t) 0 = fun e => m ((c : Thread nD τ).loc main_arg7) (ix2 0 e) := by
  funext e
  refine Eq.trans ?_ ((congrFun (V_gffn m c) (ix2 0 e)).trans ((line_apply _ e).trans
    (unline_apply (m ((c : Thread nD τ).loc main_arg7)) e)))
  unfold brow Gen.iblk
  rw [View.read_apply]
  refine congrArg (fun e => _root_.cast _ (Gen.V m c main_v14 e)) ?_
  funext a; apply Fin.ext
  match a with
  | ⟨0, _⟩ => rfl
  | ⟨1, _⟩ => show 0 * 1024 + 1 * e.val = e.val; omega

/-- The closed form at the launch's arguments. -/
def value (b : Fin 2) (P : Fin 8192) (d : Fin 1024) : EReal :=
  outRow (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11)) b P d

theorem batch_lt (R : Fin 16384) : R.val / 8192 < 2 := by omega
theorem pos_lt (R : Fin 16384) : R.val % 8192 < 8192 := by omega

/-- The kernel's result. -/
def result : Vec Ideal S16384x1024 .f32 := fun i => value m c ⟨(i 0).val / 8192, batch_lt (i 0)⟩ ⟨(i 0).val % 8192, pos_lt (i 0)⟩ (i 1)

theorem block_apply (t : Fin cfg0.N) (r : Fin 512) (d : Fin 1024) (R : Fin 16384) (hR : R.val = 512 * t.val + r.val) :
    (Gen.dats m 0 c).after 12 t (ix2 r d) = value m c ⟨R.val / 8192, batch_lt R⟩ ⟨R.val % 8192, pos_lt R⟩ d := by
  rw [Gen.after0_12]
  refine (out_apply (Gen.iblk m c 0 t) (Gen.iblk m c 1 t) (Gen.iblk m c 2 t) (Gen.iblk m c 3 t) (Gen.iblk m c 4 t) (Gen.iblk m c 5 t) (Gen.iblk m c 6 t)
    (Gen.iblk m c 7 t) (Gen.iblk m c 8 t) (Gen.iblk m c 9 t) (Gen.iblk m c 10 t) (Gen.iblk m c 11 t) r d).trans ?_
  rw [tile_wbm, tile_wbd, tile_wo, tile_gffn, tile_wg, tile_wu, tile_wd, tile_gfin,
    show brow (n := 512) (k := 1024) (Gen.iblk m c 0 t) r = row _ _ _ from funext fun e => tile_x m c t r e R hR,
    show brow (n := 512) (k := 512) (Gen.iblk m c 1 t) r = row _ _ _ from funext fun e => tile_om m c t r e R hR,
    show brow (n := 512) (k := 512) (Gen.iblk m c 2 t) r = row _ _ _ from funext fun e => tile_od m c t r e R hR,
    show brow (n := 512) (k := 2048) (Gen.iblk m c 3 t) r = row _ _ _ from funext fun e => tile_g m c t r e R hR]
  rfl

theorem line_lt (t : Fin cfg0.N) (r : Fin 512) : 512 * t.val + r.val < 16384 := by
  have ht : t.val < 32 := t.isLt
  omega

/-- Where an element of point `t`'s block sits in the array. -/
theorem out_emb (t : Fin cfg0.N) (r : Fin 512) (d : Fin 1024) :
    ((cfg0.win 12).blk t).view.emb (ix2 r d) = (ix2 ⟨512 * t.val + r.val, line_lt t r⟩ d : S16384x1024.Idx) := by
  have hi : ∀ t : Fin cfg0.N, cc0_transform_12 (grid0.coords t) = ![t.val, 0] := by decide
  funext a; apply Fin.ext
  show (cc0_transform_12 (grid0.coords t) a) * _ + _ = _
  rw [hi t]
  match a with
  | ⟨0, _⟩ => show t.val * 512 + 1 * r.val = 512 * t.val + r.val; omega
  | ⟨1, _⟩ => show 0 * 1024 + 1 * d.val = d.val; omega

theorem arr_eq : (Gen.dats m 0 c).arrAt 12 cfg0.N = result m c := by
  refine (Gen.dats m 0 c).arrAt_eq_of_cover 12 (result m c) (fun t _ => ?_) fun i => ?_
  · funext y
    obtain ⟨r, d, rfl⟩ : ∃ (r : Fin 512) (d : Fin 1024), y = (ix2 r d : S512x1024.Idx) := ⟨y 0, y 1, eq_ix2 y⟩
    rw [View.read_apply, out_emb t r d]
    exact block_apply m c t r d ⟨512 * t.val + r.val, line_lt t r⟩ rfl
  · have h0 : (i 0).val < 16384 := (i 0).isLt
    have ht : (i 0).val / 512 < 32 := by omega
    refine ⟨⟨(i 0).val / 512, ht⟩, Gen.flush0_12 _, ?_⟩
    have e := out_emb ⟨(i 0).val / 512, ht⟩ ⟨(i 0).val % 512, by omega⟩ (i 1)
    have ei : (ix2 ⟨512 * ((i 0).val / 512) + (i 0).val % 512, by omega⟩ (i 1) : S16384x1024.Idx) = i := funext fun a => Fin.ext (by
      match a with
      | ⟨0, _⟩ => show 512 * ((i 0).val / 512) + (i 0).val % 512 = (i 0).val; omega
      | ⟨1, _⟩ => rfl)
    have hm := ((cfg0.win 12).blk ⟨(i 0).val / 512, ht⟩).view.emb_mem_set (ix2 ⟨(i 0).val % 512, by omega⟩ (i 1))
    rw [e.trans ei] at hm
    exact hm

end Cert.Proof.Kernel2Ideal

end
-- ==== Proof.PostEqual.lean ====
module

public import proofs.«01_k».proof.Defs
public import proofs.«01_k».proof.Proof.PostRef
public import proofs.«01_k».proof.Proof.PostFinal

/-! The last call's result is its reference's, element by element. -/

@[expose] public section

set_option maxRecDepth 16384

noncomputable section

namespace Cert.Proof

open Idealize.ShloMosaic Idealize.ShloMosaic.TcCoe Idealize.SL.Sem
open Idealize.ShloMosaic.ValueIdx

/-- Kernel and reference leave the same result. -/
theorem algebraic2 : Cert.algebraic_Kernel2Ideal_Reference2Ideal (hKernel2Ideal := Cert.Kernel2Ideal.Gen.facts)
    (hReference2Ideal := Cert.Reference2Ideal.Gen.facts) := by
  intro m g m' g' _ hargs
  refine ⟨fun c => Kernel2Ideal.result m c, ?_, ?_⟩
  · exact (θ_run Cert.Kernel2Ideal.defs _ _).mono (fun r h c => ⟨(h c).1.trans (Kernel2Ideal.arr_eq m c), (h c).2⟩)
      (Cert.Kernel2Ideal.Value.run_blocks (F := Ideal) m g)
  · refine (θ_run Cert.Reference2Ideal.defs _ _).mono (fun r h c => ⟨(h c).1.trans ?_, (h c).2⟩) (Cert.Reference2Ideal.Value.run (F := Ideal) m' g')
    obtain ⟨e0, e1, e2, e3, e4, e5, e6, e7, e8, e9, e10, e11⟩ := hargs c
    rw [Cert.Reference2Ideal.Read.val_main_v48_eq, e0, e1, e2, e3, e4, e5, e6, e7, e8, e9, e10, e11]
    funext i
    have hi : i = ix2 (i 0) (i 1) := eq_ix2 i
    rw [hi]
    exact Reference2.result_apply _ _ _ _ _ _ _ _ _ _ _ _ (i 0) (i 1)

end Cert.Proof

end
-- ==== Proof.lean ====
module

public import proofs.«01_k».proof.Proof.Gen.ReferenceIdeal.Read
public import proofs.«01_k».proof.Proof.Gen.Kernel2
public import proofs.«01_k».proof.Proof.Gen.Kernel2Ideal.Value
public import proofs.«01_k».proof.Proof.Gen.Reference2Ideal.Read
public import proofs.«01_k».proof.Defs
public import proofs.«01_k».proof.Proof.Frames
public import proofs.«01_k».proof.Proof.Equal
public import proofs.«01_k».proof.Proof.Frames2
public import proofs.«01_k».proof.Proof.PostEqual

/-! The claims, put together, for each of the two calls: the run of the kernel gives both of its frames, the reference's run
gives the third, and the two results are the same closed form of the arguments. -/

@[expose] public section

noncomputable section

namespace Cert.Proof

open Idealize.ShloMosaic Idealize.ShloMosaic.TcCoe Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    frame_kernel, frame_kernelIdeal, frame_reference, frame_kernel2, frame_kernel2Ideal, frame_reference2,
    trivial, algebraic, trivial, algebraic2⟩

end Cert.Proof

end
